-- ==== Defs.lean ====
def Pre_Kernel [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "smooth" .f32 0x3727C9F8#32 ((1 / 99990 : ℝ) : EReal)
  ∧ IdealRules.named_const.Statement Cert.KernelIdeal.κ "confidence_minus_smooth" .f32 0x3F6665BF#32 ((8999 / 9999 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_lengths_in_range : Cert.Pre_lengths_in_range.Facts) (hPre_inputs_ok : Cert.Pre_inputs_ok.Facts),
    quiescent_Kernel (hKernel := hKernel) (hPre_lengths_in_range := hPre_lengths_in_range)
    ∧ quiescent_KernelIdeal (hKernelIdeal := hKernelIdeal) (hPre_lengths_in_range := hPre_lengths_in_range)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x513x10000 : Shape := ⟨3, ![8, 513, 10000]⟩
abbrev S8 : Shape := ⟨1, ![8]⟩
abbrev S8x512x10000 : Shape := ⟨3, ![8, 512, 10000]⟩
abbrev S_ : Shape := ⟨0, ![]⟩
abbrev S8x512 : Shape := ⟨2, ![8, 512]⟩
abbrev S8x512x1 : Shape := ⟨3, ![8, 512, 1]⟩
abbrev S512 : Shape := ⟨1, ![512]⟩
abbrev S1x512 : Shape := ⟨2, ![1, 512]⟩
abbrev S8x1 : Shape := ⟨2, ![8, 1]⟩
abbrev S8x1x1 : Shape := ⟨3, ![8, 1, 1]⟩

class Facts : Prop where
  slices_S8x513x10000_S8x512x10000_0_1_0 : S8x513x10000.Slices ![0, 1, 0] S8x512x10000
  reducesTo_S8x512x10000_S8x512_d2 : S8x512x10000.ReducesTo [2] S8x512
  h_S_ : 0 < S_.numel
  bcast_S8x512_S8x512x1_0_1 : S8x512.BroadcastsInDim S8x512x1 (![0, 1] : Fin 2 → Fin S8x512x1.rank)
  bcast_S8x512x1_S8x512x10000_0_1_2 : S8x512x1.BroadcastsInDim S8x512x10000 (![0, 1, 2] : Fin 3 → Fin S8x512x10000.rank)
  natLt_1_32 : 1 < 32
  bcast_S_S8x512 : S_.BroadcastsInDim S8x512 (![] : Fin 0 → Fin S8x512.rank)
  bcast_S_S8x512x10000 : S_.BroadcastsInDim S8x512x10000 (![] : Fin 0 → Fin S8x512x10000.rank)
  bcast_S_S8 : S_.BroadcastsInDim S8 (![] : Fin 0 → Fin S8.rank)
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S8_S8x1x1_0 : S8.BroadcastsInDim S8x1x1 (![0] : Fin 1 → Fin S8x1x1.rank)
  bcast_S8x1x1_S8x512x10000_0_1_2 : S8x1x1.BroadcastsInDim S8x512x10000 (![0, 1, 2] : Fin 3 → Fin S8x512x10000.rank)

variable [Facts]

def fn_part1 {F : FTy → Type} [FloatOps F] (main_arg1 : IVec S8 32) (main_v8 : IVec S8x512 1) (main_v13 : IVec S8x512x10000 1) (main_v15 : IVec S8 1) (main_v16 : IVec S8 32) : IVec S8x512x10000 1 :=
  let main_v17 : IVec S8 1 := cmpi .sle main_arg1 main_v16
  let main_v18 : IVec S8 1 := andi main_v15 main_v17
  let main_v19 : IVec S512 32 := iotaInDim S512 32 0
  let main_v20 : IVec S1x512 32 := broadcastInDim S1x512 ![1] bcast_S512_S1x512_1 main_v19
  let main_v21 : IVec S8x1 32 := broadcastInDim S8x1 ![0] bcast_S8_S8x1_0 main_arg1
  let main_v22 : IVec S8x512 32 := broadcastInDim S8x512 ![0, 1] bcast_S1x512_S8x512_0_1 main_v20
  let main_v23 : IVec S8x512 32 := broadcastInDim S8x512 ![0, 1] bcast_S8x1_S8x512_0_1 main_v21
  let main_v24 : IVec S8x512 1 := cmpi .sgt main_v22 main_v23
  let main_v25 : IVec S8x512x1 1 := broadcastInDim S8x512x1 ![0, 1] bcast_S8x512_S8x512x1_0_1 main_v24
  let main_v26 : IVec S8x512x1 1 := broadcastInDim S8x512x1 ![0, 1] bcast_S8x512_S8x512x1_0_1 main_v8
  let main_v27 : IVec S8x512x10000 1 := broadcastInDim S8x512x10000 ![0, 1, 2] bcast_S8x512x1_S8x512x10000_0_1_2 main_v26
  let main_v28 : IVec S8x512x10000 1 := andi main_v13 main_v27
  let main_v29 : IVec S8x512x10000 1 := broadcastInDim S8x512x10000 ![0, 1, 2] bcast_S8x512x1_S8x512x10000_0_1_2 main_v25
  let main_v30 : IVec S8x512x10000 1 := ori main_v29 main_v28
  let main_v31 : IVec S8x1x1 1 := broadcastInDim S8x1x1 ![0] bcast_S8_S8x1x1_0 main_v18
  let main_v32 : IVec S8x512x10000 1 := broadcastInDim S8x512x10000 ![0, 1, 2] bcast_S8x1x1_S8x512x10000_0_1_2 main_v31
  let main_v33 : IVec S8x512x10000 1 := andi main_v30 main_v32
  main_v33

def fn {F : FTy → Type} [FloatOps F] (main_arg0 : FVec F S8x513x10000 .f32) (main_arg1 : IVec S8 32) (main_arg2 : FVec F S8x512x10000 .f32) : IVec S8x512x10000 1 :=
  let main_v0 : FVec F S8x512x10000 .f32 := (extractStridedSlice S8x512x10000 ![0, 1, 0] · slices_S8x513x10000_S8x512x10000_0_1_0) main_arg0
  let main_cst : FVec F S_ .f32 := constant S_ .f32 0xFF800000#32
  let main_v1 : FVec F S8x512 .f32 := (fun x v => Host.reduce FloatOps.maximumf x v reducesTo_S8x512x10000_S8x512_d2 h_S_) main_v0 main_cst
  let main_v2 : FVec F S8x512x1 .f32 := broadcastInDim S8x512x1 ![0, 1] bcast_S8x512_S8x512x1_0_1 main_v1
  let main_v3 : FVec F S8x512x10000 .f32 := broadcastInDim S8x512x10000 ![0, 1, 2] bcast_S8x512x1_S8x512x10000_0_1_2 main_v2
  let main_v4 : IVec S8x512x10000 1 := cmpf .oeq main_v0 main_v3
  let main_v5 : IVec S8x512x10000 32 := (extui 32 · natLt_1_32) main_v4
  let main_c : IVec S_ 32 := constantI S_ 32 0#32
  let main_v6 : IVec S8x512 32 := (fun x v => Host.reduce IntOp.addi x v reducesTo_S8x512x10000_S8x512_d2 h_S_) main_v5 main_c
  let main_c_0 : IVec S_ 32 := constantI S_ 32 1#32
  let main_v7 : IVec S8x512 32 := broadcastInDim S8x512 ![] bcast_S_S8x512 main_c_0
  let main_v8 : IVec S8x512 1 := cmpi .eq main_v6 main_v7
  let main_cst_1 : FVec F S_ .f32 := constant S_ .f32 0xFF800000#32
  let main_v9 : FVec F S8x512x10000 .f32 := broadcastInDim S8x512x10000 ![] bcast_S_S8x512x10000 main_cst_1
  let main_v10 : IVec S8x512x10000 1 := cmpf .ogt main_arg2 main_v9
  let main_cst_2 : FVec F S_ .f32 := constant S_ .f32 0x7F800000#32
  let main_v11 : FVec F S8x512x10000 .f32 := broadcastInDim S8x512x10000 ![] bcast_S_S8x512x10000 main_cst_2
  let main_v12 : IVec S8x512x10000 1 := cmpf .olt main_arg2 main_v11
  let main_v13 : IVec S8x512x10000 1 := andi main_v10 main_v12
  let main_c_3 : IVec S_ 32 := constantI S_ 32 0#32
  let main_v14 : IVec S8 32 := broadcastInDim S8 ![] bcast_S_S8 main_c_3
  let main_v15 : IVec S8 1 := cmpi .sge main_arg1 main_v14
  let main_c_4 : IVec S_ 32 := constantI S_ 32 510#32
  let main_v16 : IVec S8 32 := broadcastInDim S8 ![] bcast_S_S8 main_c_4
  fn_part1 (F := F) main_arg1 main_v8 main_v13 main_v15 main_v16
-- ==== Pre_lengths_in_range.lean ====
abbrev S8x513x10000 : Shape := ⟨3, ![8, 513, 10000]⟩
abbrev S8 : Shape := ⟨1, ![8]⟩
abbrev S8x512x10000 : Shape := ⟨3, ![8, 512, 10000]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x513x10000 .f32) (main_arg1 : IVec S8 32) (main_arg2 : FVec F S8x512x10000 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 510#32
  let main_v2 : IVec S8 32 := broadcastInDim S8 ![] bcast_S_S8 main_c_0
  let main_v3 : IVec S8 1 := cmpi .sle main_arg1 main_v2
  let main_v4 : IVec S8 1 := andi main_v1 main_v3
  main_v4
-- ==== Kernel.lean ====
abbrev S8x513x10000 : Shape := ⟨3, ![8, 513, 10000]⟩
abbrev S8 : Shape := ⟨1, ![8]⟩
abbrev S8x512x10000 : Shape := ⟨3, ![8, 512, 10000]⟩
abbrev S_ : Shape := ⟨0, ![]⟩
abbrev S1 : Shape := ⟨1, ![1]⟩
abbrev S72 : Shape := ⟨1, ![72]⟩
abbrev S1x8 : Shape := ⟨2, ![1, 8]⟩
abbrev S72x1 : Shape := ⟨2, ![72, 1]⟩
abbrev S72x8 : Shape := ⟨2, ![72, 8]⟩
abbrev S1x1 : Shape := ⟨2, ![1, 1]⟩
abbrev S4x64x10000 : Shape := ⟨3, ![4, 64, 10000]⟩
abbrev S1x10000 : Shape := ⟨2, ![1, 10000]⟩
abbrev S2x4 : Shape := ⟨2, ![2, 4]⟩
abbrev S1x64x10000 : Shape := ⟨3, ![1, 64, 10000]⟩
abbrev S64x10000 : Shape := ⟨2, ![64, 10000]⟩
abbrev S64 : Shape := ⟨1, ![64]⟩
abbrev S64x1 : Shape := ⟨2, ![64, 1]⟩
abbrev S1x1x10000 : Shape := ⟨3, ![1, 1, 10000]⟩
abbrev S1x1x1 : Shape := ⟨3, ![1, 1, 1]⟩
abbrev S63x10000 : Shape := ⟨2, ![63, 10000]⟩
abbrev S63x1 : Shape := ⟨2, ![63, 1]⟩
abbrev S63 : Shape := ⟨1, ![63]⟩
abbrev S1x63x1 : Shape := ⟨3, ![1, 63, 1]⟩

abbrev nBuf : Space → Nat
  | .hbm => 89
  | .vmem => 3
  | .smem => 6
  | _ => 0

abbrev bufTy : (tb : Table) → Fin (tcTables nBuf tb) → BufTy
  | .hbm, ⟨0, _⟩ => ⟨S8x513x10000, .f32⟩
  | .hbm, ⟨1, _⟩ => ⟨S8x512x10000, .f32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i1⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i1⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S_, .i32⟩
  | .hbm, ⟨46, _⟩ => ⟨S8, .i32⟩
  | .hbm, ⟨47, _⟩ => ⟨S1, .i32⟩
  | .hbm, ⟨48, _⟩ => ⟨S_, .i32⟩
  | .hbm, ⟨49, _⟩ => ⟨S8, .i32⟩
  | .hbm, ⟨50, _⟩ => ⟨S72, .i32⟩
  | .hbm, ⟨51, _⟩ => ⟨S1x8, .i32⟩
  | .hbm, ⟨52, _⟩ => ⟨S72x1, .i32⟩
  | .hbm, ⟨53, _⟩ => ⟨S72x8, .i32⟩
  | .hbm, ⟨54, _⟩ => ⟨S72x8, .i32⟩
  | .hbm, ⟨55, _⟩ => ⟨S72x8, .i1⟩
  | .hbm, ⟨56, _⟩ => ⟨S72x8, .i32⟩
  | .hbm, ⟨57, _⟩ => ⟨S_, .i32⟩
  | .hbm, ⟨58, _⟩ => ⟨S72, .i32⟩
  | .hbm, ⟨59, _⟩ => ⟨S_, .i32⟩
  | .hbm, ⟨60, _⟩ => ⟨S72, .i32⟩
  | .hbm, ⟨61, _⟩ => ⟨S_, .i32⟩
  | .hbm, ⟨62, _⟩ => ⟨S72, .i32⟩
  | .hbm, ⟨63, _⟩ => ⟨S72, .i1⟩
  | .hbm, ⟨64, _⟩ => ⟨S_, .i32⟩
  | .hbm, ⟨65, _⟩ => ⟨S72, .i32⟩
  | .hbm, ⟨66, _⟩ => ⟨S72, .i32⟩
  | .hbm, ⟨67, _⟩ => ⟨S72, .i32⟩
  | .hbm, ⟨68, _⟩ => ⟨S72x1, .i32⟩
  | .hbm, ⟨69, _⟩ => ⟨S72, .i32⟩
  | .hbm, ⟨70, _⟩ => ⟨S_, .i32⟩
  | .hbm, ⟨71, _⟩ => ⟨S72, .i32⟩
  | .hbm, ⟨72, _⟩ => ⟨S72, .i1⟩
  | .hbm, ⟨73, _⟩ => ⟨S_, .i32⟩
  | .hbm, ⟨74, _⟩ => ⟨S72, .i32⟩
  | .hbm, ⟨75, _⟩ => ⟨S72, .i32⟩
  | .hbm, ⟨76, _⟩ => ⟨S72, .i32⟩
  | .hbm, ⟨77, _⟩ => ⟨S72x1, .i32⟩
  | .hbm, ⟨78, _⟩ => ⟨S72, .i32⟩
  | .hbm, ⟨79, _⟩ => ⟨S72, .i1⟩
  | .hbm, ⟨80, _⟩ => ⟨S_, .i32⟩
  | .hbm, ⟨81, _⟩ => ⟨S8, .i32⟩
  | .hbm, ⟨82, _⟩ => ⟨S8, .i32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S1x1, .f32⟩
  | .hbm, ⟨87, _⟩ => ⟨S_, .f32⟩
  | .hbm, ⟨88, _⟩ => ⟨S_, .f32⟩
  | .local _ .vmem, ⟨0, _⟩ => ⟨S4x64x10000, .f32⟩
  | .local _ .vmem, ⟨1, _⟩ => ⟨S4x64x10000, .f32⟩
  | .local _ .vmem, ⟨2, _⟩ => ⟨S1x10000, .f32⟩
  | .local _ .smem, ⟨0, _⟩ => ⟨S72, .i32⟩
  | .local _ .smem, ⟨1, _⟩ => ⟨S72, .i32⟩
  | .local _ .smem, ⟨2, _⟩ => ⟨S72, .i32⟩
  | .local _ .smem, ⟨3, _⟩ => ⟨S1, .i32⟩
  | .local _ .smem, ⟨4, _⟩ => ⟨S8, .i32⟩
  | .local _ .smem, ⟨5, _⟩ => ⟨S1x1, .f32⟩
  | _, _ => ⟨S8x513x10000, .f32⟩

abbrev bufScoped : (cs : CoreSpace) → Fin (nBuf (.core cs)) → Bool
  | .vmem, ⟨0, _⟩ => true
  | .vmem, ⟨1, _⟩ => true
  | .vmem, ⟨2, _⟩ => true
  | .smem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_c_2 : Ref sig .tc := ⟨.hbm, 41, rfl⟩
abbrev main_v4 : Ref sig .tc := ⟨.hbm, 42, rfl⟩
abbrev main_v5 : Ref sig .tc := ⟨.hbm, 43, rfl⟩
abbrev main_call2_call0_c : Ref sig .tc := ⟨.hbm, 44, rfl⟩
abbrev main_call2_call0_v0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_3 : Ref sig .tc := ⟨.hbm, 57, rfl⟩
abbrev main_v17 : Ref sig .tc := ⟨.hbm, 58, rfl⟩
abbrev main_c_4 : Ref sig .tc := ⟨.hbm, 59, rfl⟩
abbrev main_v18 : Ref sig .tc := ⟨.hbm, 60, rfl⟩
abbrev main_c_5 : Ref sig .tc := ⟨.hbm, 61, rfl⟩
abbrev main_v20 : Ref sig .tc := ⟨.hbm, 62, rfl⟩
abbrev main_v21 : Ref sig .tc := ⟨.hbm, 63, rfl⟩
abbrev main_c_6 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_7 : Ref sig .tc := ⟨.hbm, 70, rfl⟩
abbrev main_v28 : Ref sig .tc := ⟨.hbm, 71, rfl⟩
abbrev main_v29 : Ref sig .tc := ⟨.hbm, 72, rfl⟩
abbrev main_c_8 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_9 : Ref sig .tc := ⟨.hbm, 80, rfl⟩
abbrev main_v37 : Ref sig .tc := ⟨.hbm, 81, rfl⟩
abbrev main_v38 : Ref sig .tc := ⟨.hbm, 82, rfl⟩
abbrev main_c_10 : Ref sig .tc := ⟨.hbm, 83, rfl⟩
abbrev main_v39 : Ref sig .tc := ⟨.hbm, 84, rfl⟩
abbrev main_v40 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v19 : Ref sig .tc := ⟨.smem, 0, rfl⟩
abbrev main_v27 : Ref sig .tc := ⟨.smem, 1, rfl⟩
abbrev main_v36 : Ref sig .tc := ⟨.smem, 2, rfl⟩
abbrev main_v41 : Ref sig .tc := ⟨.smem, 3, rfl⟩
abbrev main_arg1 : Ref sig .tc := ⟨.smem, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 5, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨5, ![main_v19.idx, main_v27.idx, main_v36.idx, main_v41.idx, main_arg1.idx], fun | 0 => main_v19.names | 1 => main_v27.names | 2 => main_v36.names | 3 => main_v41.names | 4 => main_arg1.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (v2 : BitVec 32) (v3 : BitVec 32) : Fin 3 → Nat :=
  let c64_i32 : BitVec 32 := 64#32
  let v4 : BitVec 32 := Scalar.muli v3 c64_i32
  let c0_i32_8 : BitVec 32 := 0#32
  ![v2.toNat, v4.toNat, 0]

def k0_chk1 (v2 : BitVec 32) (v3 : BitVec 32) : Prop :=
  (∀ a, (k0_off1 v2 v3) a + S1x64x10000.size a ≤ S8x513x10000.size a)
theorem k0_off1_inb : ∀ (v2 : BitVec 32) (v3 : BitVec 32) (k0_hw1 : k0_chk1 v2 v3), ∀ a, (k0_off1 v2 v3) a + S1x64x10000.size a ≤ S8x513x10000.size a := fun v2 v3 k0_hw1 => k0_hw1

def k0_off2 (v67 : BitVec 32) (v68 : BitVec 32) : Fin 3 → Nat :=
  let c64_i32_47 : BitVec 32 := 64#32
  let v69 : BitVec 32 := Scalar.muli v68 c64_i32_47
  let c0_i32_53 : BitVec 32 := 0#32
  ![v67.toNat, v69.toNat, 0]
def k0_cond1 (v11 : BitVec 32) : BitVec 1 :=
  let c1_i32 : BitVec 32 := 1#32
  let v12 : BitVec 1 := Scalar.cmpi .eq v11 c1_i32
  let v13 : BitVec 32 := Scalar.extui v12
  let c0_i32_10 : BitVec 32 := 0#32
  let v14 : BitVec 1 := Scalar.cmpi .ne v13 c0_i32_10
  v14

def k0_chk2 (v11 : BitVec 32) (v67 : BitVec 32) (v68 : BitVec 32) : Prop :=
  (∀ (k0_h1 : k0_cond1 v11 = 1#1), ∀ a, (k0_off2 v67 v68) a + S1x64x10000.size a ≤ S8x512x10000.size a)
theorem k0_off2_inb : ∀ (v11 : BitVec 32) (v67 : BitVec 32) (v68 : BitVec 32) (k0_hw2 : k0_chk2 v11 v67 v68), ∀ (k0_h1 : k0_cond1 v11 = 1#1), ∀ a, (k0_off2 v67 v68) a + S1x64x10000.size a ≤ S8x512x10000.size a := fun v11 v67 v68 k0_hw2 k0_h1 => k0_hw2 k0_h1

def k0_off3 (v15 : BitVec 32) (v16 : BitVec 32) : Fin 3 → Nat :=
  let c64_i32_12 : BitVec 32 := 64#32
  let v17 : BitVec 32 := Scalar.muli v16 c64_i32_12
  let c0_i32_18 : BitVec 32 := 0#32
  ![v15.toNat, v17.toNat, 0]

def k0_chk3 (v15 : BitVec 32) (v16 : BitVec 32) : Prop :=
  (∀ a, (k0_off3 v15 v16) a + S1x64x10000.size a ≤ S8x513x10000.size a)
theorem k0_off3_inb : ∀ (v15 : BitVec 32) (v16 : BitVec 32) (k0_hw3 : k0_chk3 v15 v16), ∀ a, (k0_off3 v15 v16) a + S1x64x10000.size a ≤ S8x513x10000.size a := fun v15 v16 k0_hw3 => k0_hw3

def k0_off4 (v67 : BitVec 32) (v68 : BitVec 32) : Fin 3 → Nat :=
  let c64_i32_47 : BitVec 32 := 64#32
  let v69 : BitVec 32 := Scalar.muli v68 c64_i32_47
  let c0_i32_53 : BitVec 32 := 0#32
  ![v67.toNat, v69.toNat, 0]
def k0_cond2 (v24 : BitVec 32) : BitVec 1 :=
  let c1_i32_20 : BitVec 32 := 1#32
  let v25 : BitVec 1 := Scalar.cmpi .eq v24 c1_i32_20
  let v26 : BitVec 32 := Scalar.extui v25
  let c0_i32_21 : BitVec 32 := 0#32
  let v27 : BitVec 1 := Scalar.cmpi .ne v26 c0_i32_21
  v27

def k0_chk4 (v24 : BitVec 32) (v67 : BitVec 32) (v68 : BitVec 32) : Prop :=
  (∀ (k0_h2 : k0_cond2 v24 = 1#1), ∀ a, (k0_off4 v67 v68) a + S1x64x10000.size a ≤ S8x512x10000.size a)
theorem k0_off4_inb : ∀ (v24 : BitVec 32) (v67 : BitVec 32) (v68 : BitVec 32) (k0_hw4 : k0_chk4 v24 v67 v68), ∀ (k0_h2 : k0_cond2 v24 = 1#1), ∀ a, (k0_off4 v67 v68) a + S1x64x10000.size a ≤ S8x512x10000.size a := fun v24 v67 v68 k0_hw4 k0_h2 => k0_hw4 k0_h2

def k0_off5 (v28 : BitVec 32) (v29 : BitVec 32) : Fin 3 → Nat :=
  let c64_i32_23 : BitVec 32 := 64#32
  let v30 : BitVec 32 := Scalar.muli v29 c64_i32_23
  let c0_i32_28 : BitVec 32 := 0#32
  ![v28.toNat, v30.toNat, 0]

def k0_chk5 (v28 : BitVec 32) (v29 : BitVec 32) : Prop :=
  (∀ a, (k0_off5 v28 v29) a + S1x64x10000.size a ≤ S8x513x10000.size a)
theorem k0_off5_inb : ∀ (v28 : BitVec 32) (v29 : BitVec 32) (k0_hw5 : k0_chk5 v28 v29), ∀ a, (k0_off5 v28 v29) a + S1x64x10000.size a ≤ S8x513x10000.size a := fun v28 v29 k0_hw5 => k0_hw5

def k0_off6 (v67 : BitVec 32) (v68 : BitVec 32) : Fin 3 → Nat :=
  let c64_i32_47 : BitVec 32 := 64#32
  let v69 : BitVec 32 := Scalar.muli v68 c64_i32_47
  let c0_i32_53 : BitVec 32 := 0#32
  ![v67.toNat, v69.toNat, 0]
def k0_cond3 (v37 : BitVec 32) : BitVec 1 :=
  let c1_i32_30 : BitVec 32 := 1#32
  let v38 : BitVec 1 := Scalar.cmpi .eq v37 c1_i32_30
  let v39 : BitVec 32 := Scalar.extui v38
  let c0_i32_31 : BitVec 32 := 0#32
  let v40 : BitVec 1 := Scalar.cmpi .ne v39 c0_i32_31
  v40

def k0_chk6 (v37 : BitVec 32) (v67 : BitVec 32) (v68 : BitVec 32) : Prop :=
  (∀ (k0_h3 : k0_cond3 v37 = 1#1), ∀ a, (k0_off6 v67 v68) a + S1x64x10000.size a ≤ S8x512x10000.size a)
theorem k0_off6_inb : ∀ (v37 : BitVec 32) (v67 : BitVec 32) (v68 : BitVec 32) (k0_hw6 : k0_chk6 v37 v67 v68), ∀ (k0_h3 : k0_cond3 v37 = 1#1), ∀ a, (k0_off6 v67 v68) a + S1x64x10000.size a ≤ S8x512x10000.size a := fun v37 v67 v68 k0_hw6 k0_h3 => k0_hw6 k0_h3

@[reducible] def k0_t1_loop (v0 : BitVec 32) : Scf.Loop 32 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_43 : BitVec 32 := 1#32
  ⟨c0_i32_40, v64, c1_i32_43⟩

def k0_off7 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c0_i32_54 : BitVec 32 := 0#32
  let v84 : BitVec 32 := Scalar.addi v67 c0_i32_54
  let v85 : Index := Scalar.indexCast v84
  ![v85.toNat]
def k0_cond4 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c0_i32_46 : BitVec 32 := 0#32
  let v68 : BitVec 32 := Scalar.addi v67 c0_i32_46
  let v69 : BitVec 1 := Scalar.cmpi .slt v68 v0
  let v70 : BitVec 32 := Scalar.extui v69
  let c0_i32_47 : BitVec 32 := 0#32
  let v71 : BitVec 1 := Scalar.cmpi .ne v70 c0_i32_47
  v71

def k0_off8 (v86 : BitVec 32) : Fin 1 → Nat :=
  let v89 : Index := Scalar.indexCast v86
  ![v89.toNat]

def k0_chk8 (v0 : BitVec 32) (k0_t1 : Fin (k0_t1_loop v0).trips) (v86 : BitVec 32) : Prop :=
  (∀ (k0_h4 : k0_cond4 v0 k0_t1 = 1#1), ∀ a, (k0_off8 v86) a + S1.size a ≤ S8.size a)
theorem k0_off8_inb : ∀ (v0 : BitVec 32) (k0_t1 : Fin (k0_t1_loop v0).trips) (v86 : BitVec 32) (k0_hw8 : k0_chk8 v0 k0_t1 v86), ∀ (k0_h4 : k0_cond4 v0 k0_t1 = 1#1), ∀ a, (k0_off8 v86) a + S1.size a ≤ S8.size a := fun v0 k0_t1 v86 k0_hw8 k0_h4 => k0_hw8 k0_h4

def k0_off9 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c0_i32_54 : BitVec 32 := 0#32
  let v84 : BitVec 32 := Scalar.addi v67 c0_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond5 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c0_i32_54 : BitVec 32 := 0#32
  let v84 : BitVec 32 := Scalar.addi v67 c0_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off10 (v117 : BitVec 32) (v119 : BitVec 32) : Fin 3 → Nat :=
  let c64_i32_74 : BitVec 32 := 64#32
  let v120 : BitVec 32 := Scalar.muli v119 c64_i32_74
  let c0_i32_80 : BitVec 32 := 0#32
  ![v117.toNat, v120.toNat, 0]

def k0_chk9 (v0 : BitVec 32) (k0_t1 : Fin (k0_t1_loop v0).trips) (v117 : BitVec 32) (v119 : BitVec 32) : Prop :=
  (∀ (k0_h4 : k0_cond4 v0 k0_t1 = 1#1), ∀ (k0_h5 : k0_cond5 v0 k0_t1 = 1#1), ∀ a, (k0_off10 v117 v119) a + S1x64x10000.size a ≤ S8x513x10000.size a)
theorem k0_off10_inb : ∀ (v0 : BitVec 32) (k0_t1 : Fin (k0_t1_loop v0).trips) (v117 : BitVec 32) (v119 : BitVec 32) (k0_hw9 : k0_chk9 v0 k0_t1 v117 v119), ∀ (k0_h4 : k0_cond4 v0 k0_t1 = 1#1), ∀ (k0_h5 : k0_cond5 v0 k0_t1 = 1#1), ∀ a, (k0_off10 v117 v119) a + S1x64x10000.size a ≤ S8x513x10000.size a := fun v0 k0_t1 v117 v119 k0_hw9 k0_h4 k0_h5 => k0_hw9 k0_h4 k0_h5

def k0_off11 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c0_i32_54 : BitVec 32 := 0#32
  let v84 : BitVec 32 := Scalar.addi v67 c0_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off12 (v117 : BitVec 32) (v119 : BitVec 32) : Fin 3 → Nat :=
  let c64_i32_83 : BitVec 32 := 64#32
  let v132 : BitVec 32 := Scalar.muli v119 c64_i32_83
  let c0_i32_89 : BitVec 32 := 0#32
  ![v117.toNat, v132.toNat, 0]
def k0_cond6 (v128 : BitVec 32) : BitVec 1 :=
  let c1_i32_81 : BitVec 32 := 1#32
  let v129 : BitVec 1 := Scalar.cmpi .eq v128 c1_i32_81
  let v130 : BitVec 32 := Scalar.extui v129
  let c0_i32_82 : BitVec 32 := 0#32
  let v131 : BitVec 1 := Scalar.cmpi .ne v130 c0_i32_82
  v131

def k0_chk10 (v0 : BitVec 32) (k0_t1 : Fin (k0_t1_loop v0).trips) (v117 : BitVec 32) (v119 : BitVec 32) (v128 : BitVec 32) : Prop :=
  (∀ (k0_h4 : k0_cond4 v0 k0_t1 = 1#1), ∀ (k0_h5 : k0_cond5 v0 k0_t1 = 1#1), ∀ (k0_h6 : k0_cond6 v128 = 1#1), ∀ a, (k0_off12 v117 v119) a + S1x64x10000.size a ≤ S8x512x10000.size a)
theorem k0_off12_inb : ∀ (v0 : BitVec 32) (k0_t1 : Fin (k0_t1_loop v0).trips) (v117 : BitVec 32) (v119 : BitVec 32) (v128 : BitVec 32) (k0_hw10 : k0_chk10 v0 k0_t1 v117 v119 v128), ∀ (k0_h4 : k0_cond4 v0 k0_t1 = 1#1), ∀ (k0_h5 : k0_cond5 v0 k0_t1 = 1#1), ∀ (k0_h6 : k0_cond6 v128 = 1#1), ∀ a, (k0_off12 v117 v119) a + S1x64x10000.size a ≤ S8x512x10000.size a := fun v0 k0_t1 v117 v119 v128 k0_hw10 k0_h4 k0_h5 k0_h6 => k0_hw10 k0_h4 k0_h5 k0_h6

def k0_off13 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk11 (v0 : BitVec 32) (k0_t1 : Fin (k0_t1_loop v0).trips) (v86 : BitVec 32) (v88 : BitVec 32) : Prop :=
  (∀ (k0_h4 : k0_cond4 v0 k0_t1 = 1#1), ∀ a, (k0_off13 v86 v88) a + S1x64x10000.size a ≤ S8x513x10000.size a)
theorem k0_off13_inb : ∀ (v0 : BitVec 32) (k0_t1 : Fin (k0_t1_loop v0).trips) (v86 : BitVec 32) (v88 : BitVec 32) (k0_hw11 : k0_chk11 v0 k0_t1 v86 v88), ∀ (k0_h4 : k0_cond4 v0 k0_t1 = 1#1), ∀ a, (k0_off13 v86 v88) a + S1x64x10000.size a ≤ S8x513x10000.size a := fun v0 k0_t1 v86 v88 k0_hw11 k0_h4 => k0_hw11 k0_h4

def k0_off14 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c0_i32_54 : BitVec 32 := 0#32
  let v84 : BitVec 32 := Scalar.addi v67 c0_i32_54
  let v111 : Index := Scalar.indexCast v84
  ![v111.toNat]
def k0_off15 (v86 : BitVec 32) (v88 : BitVec 32) : Fin 3 → Nat :=
  let c64_i32_74 : BitVec 32 := 64#32
  let v116 : BitVec 32 := Scalar.muli v88 c64_i32_74
  let c0_i32_80 : BitVec 32 := 0#32
  ![v86.toNat, v116.toNat, 0]
def k0_cond8 (v112 : BitVec 32) : BitVec 1 :=
  let c1_i32_72 : BitVec 32 := 1#32
  let v113 : BitVec 1 := Scalar.cmpi .eq v112 c1_i32_72
  let v114 : BitVec 32 := Scalar.extui v113
  let c0_i32_73 : BitVec 32 := 0#32
  let v115 : BitVec 1 := Scalar.cmpi .ne v114 c0_i32_73
  v115

def k0_chk12 (v0 : BitVec 32) (k0_t1 : Fin (k0_t1_loop v0).trips) (v86 : BitVec 32) (v88 : BitVec 32) (v112 : BitVec 32) : Prop :=
  (∀ (k0_h4 : k0_cond4 v0 k0_t1 = 1#1), ∀ (k0_h8 : k0_cond8 v112 = 1#1), ∀ a, (k0_off15 v86 v88) a + S1x64x10000.size a ≤ S8x512x10000.size a)
theorem k0_off15_inb : ∀ (v0 : BitVec 32) (k0_t1 : Fin (k0_t1_loop v0).trips) (v86 : BitVec 32) (v88 : BitVec 32) (v112 : BitVec 32) (k0_hw12 : k0_chk12 v0 k0_t1 v86 v88 v112), ∀ (k0_h4 : k0_cond4 v0 k0_t1 = 1#1), ∀ (k0_h8 : k0_cond8 v112 = 1#1), ∀ a, (k0_off15 v86 v88) a + S1x64x10000.size a ≤ S8x512x10000.size a := fun v0 k0_t1 v86 v88 v112 k0_hw12 k0_h4 k0_h8 => k0_hw12 k0_h4 k0_h8

def k0_off16 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c1_i32_54 : BitVec 32 := 1#32
  let v84 : BitVec 32 := Scalar.addi v67 c1_i32_54
  let v85 : Index := Scalar.indexCast v84
  ![v85.toNat]
def k0_cond9 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c1_i32_48 : BitVec 32 := 1#32
  let v72 : BitVec 32 := Scalar.addi v67 c1_i32_48
  let v73 : BitVec 1 := Scalar.cmpi .slt v72 v0
  let v74 : BitVec 32 := Scalar.extui v73
  let c0_i32_49 : BitVec 32 := 0#32
  let v75 : BitVec 1 := Scalar.cmpi .ne v74 c0_i32_49
  v75

def k0_off17 (v86 : BitVec 32) : Fin 1 → Nat :=
  let v89 : Index := Scalar.indexCast v86
  ![v89.toNat]

def k0_chk13 (v0 : BitVec 32) (k0_t1 : Fin (k0_t1_loop v0).trips) (v86 : BitVec 32) : Prop :=
  (∀ (k0_h9 : k0_cond9 v0 k0_t1 = 1#1), ∀ a, (k0_off17 v86) a + S1.size a ≤ S8.size a)
theorem k0_off17_inb : ∀ (v0 : BitVec 32) (k0_t1 : Fin (k0_t1_loop v0).trips) (v86 : BitVec 32) (k0_hw13 : k0_chk13 v0 k0_t1 v86), ∀ (k0_h9 : k0_cond9 v0 k0_t1 = 1#1), ∀ a, (k0_off17 v86) a + S1.size a ≤ S8.size a := fun v0 k0_t1 v86 k0_hw13 k0_h9 => k0_hw13 k0_h9

def k0_off18 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c1_i32_54 : BitVec 32 := 1#32
  let v84 : BitVec 32 := Scalar.addi v67 c1_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond10 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c1_i32_54 : BitVec 32 := 1#32
  let v84 : BitVec 32 := Scalar.addi v67 c1_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off19 (v117 : BitVec 32) (v119 : BitVec 32) : Fin 3 → Nat :=
  let c64_i32_74 : BitVec 32 := 64#32
  let v120 : BitVec 32 := Scalar.muli v119 c64_i32_74
  let c0_i32_80 : BitVec 32 := 0#32
  ![v117.toNat, v120.toNat, 0]

def k0_chk14 (v0 : BitVec 32) (k0_t1 : Fin (k0_t1_loop v0).trips) (v117 : BitVec 32) (v119 : BitVec 32) : Prop :=
  (∀ (k0_h9 : k0_cond9 v0 k0_t1 = 1#1), ∀ (k0_h10 : k0_cond10 v0 k0_t1 = 1#1), ∀ a, (k0_off19 v117 v119) a + S1x64x10000.size a ≤ S8x513x10000.size a)
theorem k0_off19_inb : ∀ (v0 : BitVec 32) (k0_t1 : Fin (k0_t1_loop v0).trips) (v117 : BitVec 32) (v119 : BitVec 32) (k0_hw14 : k0_chk14 v0 k0_t1 v117 v119), ∀ (k0_h9 : k0_cond9 v0 k0_t1 = 1#1), ∀ (k0_h10 : k0_cond10 v0 k0_t1 = 1#1), ∀ a, (k0_off19 v117 v119) a + S1x64x10000.size a ≤ S8x513x10000.size a := fun v0 k0_t1 v117 v119 k0_hw14 k0_h9 k0_h10 => k0_hw14 k0_h9 k0_h10

def k0_off20 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c1_i32_54 : BitVec 32 := 1#32
  let v84 : BitVec 32 := Scalar.addi v67 c1_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off21 (v117 : BitVec 32) (v119 : BitVec 32) : Fin 3 → Nat :=
  let c64_i32_83 : BitVec 32 := 64#32
  let v132 : BitVec 32 := Scalar.muli v119 c64_i32_83
  let c0_i32_89 : BitVec 32 := 0#32
  ![v117.toNat, v132.toNat, 0]
def k0_cond11 (v128 : BitVec 32) : BitVec 1 :=
  let c1_i32_81 : BitVec 32 := 1#32
  let v129 : BitVec 1 := Scalar.cmpi .eq v128 c1_i32_81
  let v130 : BitVec 32 := Scalar.extui v129
  let c0_i32_82 : BitVec 32 := 0#32
  let v131 : BitVec 1 := Scalar.cmpi .ne v130 c0_i32_82
  v131

def k0_chk15 (v0 : BitVec 32) (k0_t1 : Fin (k0_t1_loop v0).trips) (v117 : BitVec 32) (v119 : BitVec 32) (v128 : BitVec 32) : Prop :=
  (∀ (k0_h9 : k0_cond9 v0 k0_t1 = 1#1), ∀ (k0_h10 : k0_cond10 v0 k0_t1 = 1#1), ∀ (k0_h11 : k0_cond11 v128 = 1#1), ∀ a, (k0_off21 v117 v119) a + S1x64x10000.size a ≤ S8x512x10000.size a)
theorem k0_off21_inb : ∀ (v0 : BitVec 32) (k0_t1 : Fin (k0_t1_loop v0).trips) (v117 : BitVec 32) (v119 : BitVec 32) (v128 : BitVec 32) (k0_hw15 : k0_chk15 v0 k0_t1 v117 v119 v128), ∀ (k0_h9 : k0_cond9 v0 k0_t1 = 1#1), ∀ (k0_h10 : k0_cond10 v0 k0_t1 = 1#1), ∀ (k0_h11 : k0_cond11 v128 = 1#1), ∀ a, (k0_off21 v117 v119) a + S1x64x10000.size a ≤ S8x512x10000.size a := fun v0 k0_t1 v117 v119 v128 k0_hw15 k0_h9 k0_h10 k0_h11 => k0_hw15 k0_h9 k0_h10 k0_h11

def k0_off22 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk16 (v0 : BitVec 32) (k0_t1 : Fin (k0_t1_loop v0).trips) (v86 : BitVec 32) (v88 : BitVec 32) : Prop :=
  (∀ (k0_h9 : k0_cond9 v0 k0_t1 = 1#1), ∀ a, (k0_off22 v86 v88) a + S1x64x10000.size a ≤ S8x513x10000.size a)
theorem k0_off22_inb : ∀ (v0 : BitVec 32) (k0_t1 : Fin (k0_t1_loop v0).trips) (v86 : BitVec 32) (v88 : BitVec 32) (k0_hw16 : k0_chk16 v0 k0_t1 v86 v88), ∀ (k0_h9 : k0_cond9 v0 k0_t1 = 1#1), ∀ a, (k0_off22 v86 v88) a + S1x64x10000.size a ≤ S8x513x10000.size a := fun v0 k0_t1 v86 v88 k0_hw16 k0_h9 => k0_hw16 k0_h9

def k0_off23 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c1_i32_54 : BitVec 32 := 1#32
  let v84 : BitVec 32 := Scalar.addi v67 c1_i32_54
  let v111 : Index := Scalar.indexCast v84
  ![v111.toNat]
def k0_off24 (v86 : BitVec 32) (v88 : BitVec 32) : Fin 3 → Nat :=
  let c64_i32_74 : BitVec 32 := 64#32
  let v116 : BitVec 32 := Scalar.muli v88 c64_i32_74
  let c0_i32_80 : BitVec 32 := 0#32
  ![v86.toNat, v116.toNat, 0]
def k0_cond13 (v112 : BitVec 32) : BitVec 1 :=
  let c1_i32_72 : BitVec 32 := 1#32
  let v113 : BitVec 1 := Scalar.cmpi .eq v112 c1_i32_72
  let v114 : BitVec 32 := Scalar.extui v113
  let c0_i32_73 : BitVec 32 := 0#32
  let v115 : BitVec 1 := Scalar.cmpi .ne v114 c0_i32_73
  v115

def k0_chk17 (v0 : BitVec 32) (k0_t1 : Fin (k0_t1_loop v0).trips) (v86 : BitVec 32) (v88 : BitVec 32) (v112 : BitVec 32) : Prop :=
  (∀ (k0_h9 : k0_cond9 v0 k0_t1 = 1#1), ∀ (k0_h13 : k0_cond13 v112 = 1#1), ∀ a, (k0_off24 v86 v88) a + S1x64x10000.size a ≤ S8x512x10000.size a)
theorem k0_off24_inb : ∀ (v0 : BitVec 32) (k0_t1 : Fin (k0_t1_loop v0).trips) (v86 : BitVec 32) (v88 : BitVec 32) (v112 : BitVec 32) (k0_hw17 : k0_chk17 v0 k0_t1 v86 v88 v112), ∀ (k0_h9 : k0_cond9 v0 k0_t1 = 1#1), ∀ (k0_h13 : k0_cond13 v112 = 1#1), ∀ a, (k0_off24 v86 v88) a + S1x64x10000.size a ≤ S8x512x10000.size a := fun v0 k0_t1 v86 v88 v112 k0_hw17 k0_h9 k0_h13 => k0_hw17 k0_h9 k0_h13

def k0_off25 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c2_i32_54 : BitVec 32 := 2#32
  let v84 : BitVec 32 := Scalar.addi v67 c2_i32_54
  let v85 : Index := Scalar.indexCast v84
  ![v85.toNat]
def k0_cond14 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c2_i32_50 : BitVec 32 := 2#32
  let v76 : BitVec 32 := Scalar.addi v67 c2_i32_50
  let v77 : BitVec 1 := Scalar.cmpi .slt v76 v0
  let v78 : BitVec 32 := Scalar.extui v77
  let c0_i32_51 : BitVec 32 := 0#32
  let v79 : BitVec 1 := Scalar.cmpi .ne v78 c0_i32_51
  v79

def k0_off26 (v86 : BitVec 32) : Fin 1 → Nat :=
  let v89 : Index := Scalar.indexCast v86
  ![v89.toNat]

def k0_chk18 (v0 : BitVec 32) (k0_t1 : Fin (k0_t1_loop v0).trips) (v86 : BitVec 32) : Prop :=
  (∀ (k0_h14 : k0_cond14 v0 k0_t1 = 1#1), ∀ a, (k0_off26 v86) a + S1.size a ≤ S8.size a)
theorem k0_off26_inb : ∀ (v0 : BitVec 32) (k0_t1 : Fin (k0_t1_loop v0).trips) (v86 : BitVec 32) (k0_hw18 : k0_chk18 v0 k0_t1 v86), ∀ (k0_h14 : k0_cond14 v0 k0_t1 = 1#1), ∀ a, (k0_off26 v86) a + S1.size a ≤ S8.size a := fun v0 k0_t1 v86 k0_hw18 k0_h14 => k0_hw18 k0_h14

def k0_off27 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c2_i32_54 : BitVec 32 := 2#32
  let v84 : BitVec 32 := Scalar.addi v67 c2_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond15 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c2_i32_54 : BitVec 32 := 2#32
  let v84 : BitVec 32 := Scalar.addi v67 c2_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off28 (v117 : BitVec 32) (v119 : BitVec 32) : Fin 3 → Nat :=
  let c64_i32_74 : BitVec 32 := 64#32
  let v120 : BitVec 32 := Scalar.muli v119 c64_i32_74
  let c0_i32_80 : BitVec 32 := 0#32
  ![v117.toNat, v120.toNat, 0]

def k0_chk19 (v0 : BitVec 32) (k0_t1 : Fin (k0_t1_loop v0).trips) (v117 : BitVec 32) (v119 : BitVec 32) : Prop :=
  (∀ (k0_h14 : k0_cond14 v0 k0_t1 = 1#1), ∀ (k0_h15 : k0_cond15 v0 k0_t1 = 1#1), ∀ a, (k0_off28 v117 v119) a + S1x64x10000.size a ≤ S8x513x10000.size a)
theorem k0_off28_inb : ∀ (v0 : BitVec 32) (k0_t1 : Fin (k0_t1_loop v0).trips) (v117 : BitVec 32) (v119 : BitVec 32) (k0_hw19 : k0_chk19 v0 k0_t1 v117 v119), ∀ (k0_h14 : k0_cond14 v0 k0_t1 = 1#1), ∀ (k0_h15 : k0_cond15 v0 k0_t1 = 1#1), ∀ a, (k0_off28 v117 v119) a + S1x64x10000.size a ≤ S8x513x10000.size a := fun v0 k0_t1 v117 v119 k0_hw19 k0_h14 k0_h15 => k0_hw19 k0_h14 k0_h15

def k0_off29 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c2_i32_54 : BitVec 32 := 2#32
  let v84 : BitVec 32 := Scalar.addi v67 c2_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off30 (v117 : BitVec 32) (v119 : BitVec 32) : Fin 3 → Nat :=
  let c64_i32_83 : BitVec 32 := 64#32
  let v132 : BitVec 32 := Scalar.muli v119 c64_i32_83
  let c0_i32_89 : BitVec 32 := 0#32
  ![v117.toNat, v132.toNat, 0]
def k0_cond16 (v128 : BitVec 32) : BitVec 1 :=
  let c1_i32_81 : BitVec 32 := 1#32
  let v129 : BitVec 1 := Scalar.cmpi .eq v128 c1_i32_81
  let v130 : BitVec 32 := Scalar.extui v129
  let c0_i32_82 : BitVec 32 := 0#32
  let v131 : BitVec 1 := Scalar.cmpi .ne v130 c0_i32_82
  v131

def k0_chk20 (v0 : BitVec 32) (k0_t1 : Fin (k0_t1_loop v0).trips) (v117 : BitVec 32) (v119 : BitVec 32) (v128 : BitVec 32) : Prop :=
  (∀ (k0_h14 : k0_cond14 v0 k0_t1 = 1#1), ∀ (k0_h15 : k0_cond15 v0 k0_t1 = 1#1), ∀ (k0_h16 : k0_cond16 v128 = 1#1), ∀ a, (k0_off30 v117 v119) a + S1x64x10000.size a ≤ S8x512x10000.size a)
theorem k0_off30_inb : ∀ (v0 : BitVec 32) (k0_t1 : Fin (k0_t1_loop v0).trips) (v117 : BitVec 32) (v119 : BitVec 32) (v128 : BitVec 32) (k0_hw20 : k0_chk20 v0 k0_t1 v117 v119 v128), ∀ (k0_h14 : k0_cond14 v0 k0_t1 = 1#1), ∀ (k0_h15 : k0_cond15 v0 k0_t1 = 1#1), ∀ (k0_h16 : k0_cond16 v128 = 1#1), ∀ a, (k0_off30 v117 v119) a + S1x64x10000.size a ≤ S8x512x10000.size a := fun v0 k0_t1 v117 v119 v128 k0_hw20 k0_h14 k0_h15 k0_h16 => k0_hw20 k0_h14 k0_h15 k0_h16

def k0_off31 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk21 (v0 : BitVec 32) (k0_t1 : Fin (k0_t1_loop v0).trips) (v86 : BitVec 32) (v88 : BitVec 32) : Prop :=
  (∀ (k0_h14 : k0_cond14 v0 k0_t1 = 1#1), ∀ a, (k0_off31 v86 v88) a + S1x64x10000.size a ≤ S8x513x10000.size a)
theorem k0_off31_inb : ∀ (v0 : BitVec 32) (k0_t1 : Fin (k0_t1_loop v0).trips) (v86 : BitVec 32) (v88 : BitVec 32) (k0_hw21 : k0_chk21 v0 k0_t1 v86 v88), ∀ (k0_h14 : k0_cond14 v0 k0_t1 = 1#1), ∀ a, (k0_off31 v86 v88) a + S1x64x10000.size a ≤ S8x513x10000.size a := fun v0 k0_t1 v86 v88 k0_hw21 k0_h14 => k0_hw21 k0_h14

def k0_off32 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c2_i32_54 : BitVec 32 := 2#32
  let v84 : BitVec 32 := Scalar.addi v67 c2_i32_54
  let v111 : Index := Scalar.indexCast v84
  ![v111.toNat]
def k0_off33 (v86 : BitVec 32) (v88 : BitVec 32) : Fin 3 → Nat :=
  let c64_i32_74 : BitVec 32 := 64#32
  let v116 : BitVec 32 := Scalar.muli v88 c64_i32_74
  let c0_i32_80 : BitVec 32 := 0#32
  ![v86.toNat, v116.toNat, 0]
def k0_cond18 (v112 : BitVec 32) : BitVec 1 :=
  let c1_i32_72 : BitVec 32 := 1#32
  let v113 : BitVec 1 := Scalar.cmpi .eq v112 c1_i32_72
  let v114 : BitVec 32 := Scalar.extui v113
  let c0_i32_73 : BitVec 32 := 0#32
  let v115 : BitVec 1 := Scalar.cmpi .ne v114 c0_i32_73
  v115

def k0_chk22 (v0 : BitVec 32) (k0_t1 : Fin (k0_t1_loop v0).trips) (v86 : BitVec 32) (v88 : BitVec 32) (v112 : BitVec 32) : Prop :=
  (∀ (k0_h14 : k0_cond14 v0 k0_t1 = 1#1), ∀ (k0_h18 : k0_cond18 v112 = 1#1), ∀ a, (k0_off33 v86 v88) a + S1x64x10000.size a ≤ S8x512x10000.size a)
theorem k0_off33_inb : ∀ (v0 : BitVec 32) (k0_t1 : Fin (k0_t1_loop v0).trips) (v86 : BitVec 32) (v88 : BitVec 32) (v112 : BitVec 32) (k0_hw22 : k0_chk22 v0 k0_t1 v86 v88 v112), ∀ (k0_h14 : k0_cond14 v0 k0_t1 = 1#1), ∀ (k0_h18 : k0_cond18 v112 = 1#1), ∀ a, (k0_off33 v86 v88) a + S1x64x10000.size a ≤ S8x512x10000.size a := fun v0 k0_t1 v86 v88 v112 k0_hw22 k0_h14 k0_h18 => k0_hw22 k0_h14 k0_h18

def k0_off34 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c3_i32_54 : BitVec 32 := 3#32
  let v84 : BitVec 32 := Scalar.addi v67 c3_i32_54
  let v85 : Index := Scalar.indexCast v84
  ![v85.toNat]
def k0_cond19 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c3_i32 : BitVec 32 := 3#32
  let v80 : BitVec 32 := Scalar.addi v67 c3_i32
  let v81 : BitVec 1 := Scalar.cmpi .slt v80 v0
  let v82 : BitVec 32 := Scalar.extui v81
  let c0_i32_52 : BitVec 32 := 0#32
  let v83 : BitVec 1 := Scalar.cmpi .ne v82 c0_i32_52
  v83

def k0_off35 (v86 : BitVec 32) : Fin 1 → Nat :=
  let v89 : Index := Scalar.indexCast v86
  ![v89.toNat]

def k0_chk23 (v0 : BitVec 32) (k0_t1 : Fin (k0_t1_loop v0).trips) (v86 : BitVec 32) : Prop :=
  (∀ (k0_h19 : k0_cond19 v0 k0_t1 = 1#1), ∀ a, (k0_off35 v86) a + S1.size a ≤ S8.size a)
theorem k0_off35_inb : ∀ (v0 : BitVec 32) (k0_t1 : Fin (k0_t1_loop v0).trips) (v86 : BitVec 32) (k0_hw23 : k0_chk23 v0 k0_t1 v86), ∀ (k0_h19 : k0_cond19 v0 k0_t1 = 1#1), ∀ a, (k0_off35 v86) a + S1.size a ≤ S8.size a := fun v0 k0_t1 v86 k0_hw23 k0_h19 => k0_hw23 k0_h19

def k0_off36 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c3_i32_54 : BitVec 32 := 3#32
  let v84 : BitVec 32 := Scalar.addi v67 c3_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond20 (v0 : BitVec 32) (k0_t1 : Fin (k0_t1_loop v0).trips) : BitVec 1 :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c3_i32_54 : BitVec 32 := 3#32
  let v84 : BitVec 32 := Scalar.addi v67 c3_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off37 (v117 : BitVec 32) (v119 : BitVec 32) : Fin 3 → Nat :=
  let c64_i32_73 : BitVec 32 := 64#32
  let v120 : BitVec 32 := Scalar.muli v119 c64_i32_73
  let c0_i32_79 : BitVec 32 := 0#32
  ![v117.toNat, v120.toNat, 0]

def k0_chk24 (v0 : BitVec 32) (k0_t1 : Fin (k0_t1_loop v0).trips) (v117 : BitVec 32) (v119 : BitVec 32) : Prop :=
  (∀ (k0_h19 : k0_cond19 v0 k0_t1 = 1#1), ∀ (k0_h20 : k0_cond20 v0 k0_t1 = 1#1), ∀ a, (k0_off37 v117 v119) a + S1x64x10000.size a ≤ S8x513x10000.size a)
theorem k0_off37_inb : ∀ (v0 : BitVec 32) (k0_t1 : Fin (k0_t1_loop v0).trips) (v117 : BitVec 32) (v119 : BitVec 32) (k0_hw24 : k0_chk24 v0 k0_t1 v117 v119), ∀ (k0_h19 : k0_cond19 v0 k0_t1 = 1#1), ∀ (k0_h20 : k0_cond20 v0 k0_t1 = 1#1), ∀ a, (k0_off37 v117 v119) a + S1x64x10000.size a ≤ S8x513x10000.size a := fun v0 k0_t1 v117 v119 k0_hw24 k0_h19 k0_h20 => k0_hw24 k0_h19 k0_h20

def k0_off38 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c3_i32_54 : BitVec 32 := 3#32
  let v84 : BitVec 32 := Scalar.addi v67 c3_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off39 (v117 : BitVec 32) (v119 : BitVec 32) : Fin 3 → Nat :=
  let c64_i32_82 : BitVec 32 := 64#32
  let v132 : BitVec 32 := Scalar.muli v119 c64_i32_82
  let c0_i32_88 : BitVec 32 := 0#32
  ![v117.toNat, v132.toNat, 0]
def k0_cond21 (v128 : BitVec 32) : BitVec 1 :=
  let c1_i32_80 : BitVec 32 := 1#32
  let v129 : BitVec 1 := Scalar.cmpi .eq v128 c1_i32_80
  let v130 : BitVec 32 := Scalar.extui v129
  let c0_i32_81 : BitVec 32 := 0#32
  let v131 : BitVec 1 := Scalar.cmpi .ne v130 c0_i32_81
  v131

def k0_chk25 (v0 : BitVec 32) (k0_t1 : Fin (k0_t1_loop v0).trips) (v117 : BitVec 32) (v119 : BitVec 32) (v128 : BitVec 32) : Prop :=
  (∀ (k0_h19 : k0_cond19 v0 k0_t1 = 1#1), ∀ (k0_h20 : k0_cond20 v0 k0_t1 = 1#1), ∀ (k0_h21 : k0_cond21 v128 = 1#1), ∀ a, (k0_off39 v117 v119) a + S1x64x10000.size a ≤ S8x512x10000.size a)
theorem k0_off39_inb : ∀ (v0 : BitVec 32) (k0_t1 : Fin (k0_t1_loop v0).trips) (v117 : BitVec 32) (v119 : BitVec 32) (v128 : BitVec 32) (k0_hw25 : k0_chk25 v0 k0_t1 v117 v119 v128), ∀ (k0_h19 : k0_cond19 v0 k0_t1 = 1#1), ∀ (k0_h20 : k0_cond20 v0 k0_t1 = 1#1), ∀ (k0_h21 : k0_cond21 v128 = 1#1), ∀ a, (k0_off39 v117 v119) a + S1x64x10000.size a ≤ S8x512x10000.size a := fun v0 k0_t1 v117 v119 v128 k0_hw25 k0_h19 k0_h20 k0_h21 => k0_hw25 k0_h19 k0_h20 k0_h21

def k0_off40 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk26 (v0 : BitVec 32) (k0_t1 : Fin (k0_t1_loop v0).trips) (v86 : BitVec 32) (v88 : BitVec 32) : Prop :=
  (∀ (k0_h19 : k0_cond19 v0 k0_t1 = 1#1), ∀ a, (k0_off40 v86 v88) a + S1x64x10000.size a ≤ S8x513x10000.size a)
theorem k0_off40_inb : ∀ (v0 : BitVec 32) (k0_t1 : Fin (k0_t1_loop v0).trips) (v86 : BitVec 32) (v88 : BitVec 32) (k0_hw26 : k0_chk26 v0 k0_t1 v86 v88), ∀ (k0_h19 : k0_cond19 v0 k0_t1 = 1#1), ∀ a, (k0_off40 v86 v88) a + S1x64x10000.size a ≤ S8x513x10000.size a := fun v0 k0_t1 v86 v88 k0_hw26 k0_h19 => k0_hw26 k0_h19

def k0_off41 (v0 : BitVec 32) (k0_t1 : Fin (k0_t1_loop v0).trips) : Fin 1 → Nat :=
  let c0_i32_40 : BitVec 32 := 0#32
  let c1_i32_43 : BitVec 32 := 1#32
  let arg13 : BitVec 32 := Scf.iv c0_i32_40 c1_i32_43 k0_t1
  let c4_i32_45 : BitVec 32 := 4#32
  let v67 : BitVec 32 := Scalar.muli arg13 c4_i32_45
  let c3_i32_54 : BitVec 32 := 3#32
  let v84 : BitVec 32 := Scalar.addi v67 c3_i32_54
  let v111 : Index := Scalar.indexCast v84
  ![v111.toNat]
def k0_off42 (v86 : BitVec 32) (v88 : BitVec 32) : Fin 3 → Nat :=
  let c64_i32_73 : BitVec 32 := 64#32
  let v116 : BitVec 32 := Scalar.muli v88 c64_i32_73
  let c0_i32_79 : BitVec 32 := 0#32
  ![v86.toNat, v116.toNat, 0]
def k0_cond23 (v112 : BitVec 32) : BitVec 1 :=
  let c1_i32_71 : BitVec 32 := 1#32
  let v113 : BitVec 1 := Scalar.cmpi .eq v112 c1_i32_71
  let v114 : BitVec 32 := Scalar.extui v113
  let c0_i32_72 : BitVec 32 := 0#32
  let v115 : BitVec 1 := Scalar.cmpi .ne v114 c0_i32_72
  v115

def k0_chk27 (v0 : BitVec 32) (k0_t1 : Fin (k0_t1_loop v0).trips) (v86 : BitVec 32) (v88 : BitVec 32) (v112 : BitVec 32) : Prop :=
  (∀ (k0_h19 : k0_cond19 v0 k0_t1 = 1#1), ∀ (k0_h23 : k0_cond23 v112 = 1#1), ∀ a, (k0_off42 v86 v88) a + S1x64x10000.size a ≤ S8x512x10000.size a)
theorem k0_off42_inb : ∀ (v0 : BitVec 32) (k0_t1 : Fin (k0_t1_loop v0).trips) (v86 : BitVec 32) (v88 : BitVec 32) (v112 : BitVec 32) (k0_hw27 : k0_chk27 v0 k0_t1 v86 v88 v112), ∀ (k0_h19 : k0_cond19 v0 k0_t1 = 1#1), ∀ (k0_h23 : k0_cond23 v112 = 1#1), ∀ a, (k0_off42 v86 v88) a + S1x64x10000.size a ≤ S8x512x10000.size a := fun v0 k0_t1 v86 v88 v112 k0_hw27 k0_h19 k0_h23 => k0_hw27 k0_h19 k0_h23

@[reducible] def k0_t2_loop (v0 : BitVec 32) : Scf.Loop 32 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let v61 : BitVec 32 := Scalar.addi c0_i32_40 v60
  let c1_i32_44 : BitVec 32 := 1#32
  ⟨v64, v61, c1_i32_44⟩
def k0_off43 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c0_i32_54 : BitVec 32 := 0#32
  let v84 : BitVec 32 := Scalar.addi v67 c0_i32_54
  let v85 : Index := Scalar.indexCast v84
  ![v85.toNat]
def k0_cond24 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c0_i32_46 : BitVec 32 := 0#32
  let v68 : BitVec 32 := Scalar.addi v67 c0_i32_46
  let v69 : BitVec 1 := Scalar.cmpi .slt v68 v0
  let v70 : BitVec 32 := Scalar.extui v69
  let c0_i32_47 : BitVec 32 := 0#32
  let v71 : BitVec 1 := Scalar.cmpi .ne v70 c0_i32_47
  v71

def k0_off44 (v86 : BitVec 32) : Fin 1 → Nat :=
  let v89 : Index := Scalar.indexCast v86
  ![v89.toNat]

def k0_chk28 (v0 : BitVec 32) (k0_t2 : Fin (k0_t2_loop v0).trips) (v86 : BitVec 32) : Prop :=
  (∀ (k0_h24 : k0_cond24 v0 k0_t2 = 1#1), ∀ a, (k0_off44 v86) a + S1.size a ≤ S8.size a)
theorem k0_off44_inb : ∀ (v0 : BitVec 32) (k0_t2 : Fin (k0_t2_loop v0).trips) (v86 : BitVec 32) (k0_hw28 : k0_chk28 v0 k0_t2 v86), ∀ (k0_h24 : k0_cond24 v0 k0_t2 = 1#1), ∀ a, (k0_off44 v86) a + S1.size a ≤ S8.size a := fun v0 k0_t2 v86 k0_hw28 k0_h24 => k0_hw28 k0_h24

def k0_off45 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c0_i32_54 : BitVec 32 := 0#32
  let v84 : BitVec 32 := Scalar.addi v67 c0_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond25 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c0_i32_54 : BitVec 32 := 0#32
  let v84 : BitVec 32 := Scalar.addi v67 c0_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off46 (v117 : BitVec 32) (v119 : BitVec 32) : Fin 3 → Nat :=
  let c64_i32_74 : BitVec 32 := 64#32
  let v120 : BitVec 32 := Scalar.muli v119 c64_i32_74
  let c0_i32_80 : BitVec 32 := 0#32
  ![v117.toNat, v120.toNat, 0]

def k0_chk29 (v0 : BitVec 32) (k0_t2 : Fin (k0_t2_loop v0).trips) (v117 : BitVec 32) (v119 : BitVec 32) : Prop :=
  (∀ (k0_h24 : k0_cond24 v0 k0_t2 = 1#1), ∀ (k0_h25 : k0_cond25 v0 k0_t2 = 1#1), ∀ a, (k0_off46 v117 v119) a + S1x64x10000.size a ≤ S8x513x10000.size a)
theorem k0_off46_inb : ∀ (v0 : BitVec 32) (k0_t2 : Fin (k0_t2_loop v0).trips) (v117 : BitVec 32) (v119 : BitVec 32) (k0_hw29 : k0_chk29 v0 k0_t2 v117 v119), ∀ (k0_h24 : k0_cond24 v0 k0_t2 = 1#1), ∀ (k0_h25 : k0_cond25 v0 k0_t2 = 1#1), ∀ a, (k0_off46 v117 v119) a + S1x64x10000.size a ≤ S8x513x10000.size a := fun v0 k0_t2 v117 v119 k0_hw29 k0_h24 k0_h25 => k0_hw29 k0_h24 k0_h25

def k0_off47 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c0_i32_54 : BitVec 32 := 0#32
  let v84 : BitVec 32 := Scalar.addi v67 c0_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off48 (v117 : BitVec 32) (v119 : BitVec 32) : Fin 3 → Nat :=
  let c64_i32_83 : BitVec 32 := 64#32
  let v132 : BitVec 32 := Scalar.muli v119 c64_i32_83
  let c0_i32_89 : BitVec 32 := 0#32
  ![v117.toNat, v132.toNat, 0]
def k0_cond26 (v128 : BitVec 32) : BitVec 1 :=
  let c1_i32_81 : BitVec 32 := 1#32
  let v129 : BitVec 1 := Scalar.cmpi .eq v128 c1_i32_81
  let v130 : BitVec 32 := Scalar.extui v129
  let c0_i32_82 : BitVec 32 := 0#32
  let v131 : BitVec 1 := Scalar.cmpi .ne v130 c0_i32_82
  v131

def k0_chk30 (v0 : BitVec 32) (k0_t2 : Fin (k0_t2_loop v0).trips) (v117 : BitVec 32) (v119 : BitVec 32) (v128 : BitVec 32) : Prop :=
  (∀ (k0_h24 : k0_cond24 v0 k0_t2 = 1#1), ∀ (k0_h25 : k0_cond25 v0 k0_t2 = 1#1), ∀ (k0_h26 : k0_cond26 v128 = 1#1), ∀ a, (k0_off48 v117 v119) a + S1x64x10000.size a ≤ S8x512x10000.size a)
theorem k0_off48_inb : ∀ (v0 : BitVec 32) (k0_t2 : Fin (k0_t2_loop v0).trips) (v117 : BitVec 32) (v119 : BitVec 32) (v128 : BitVec 32) (k0_hw30 : k0_chk30 v0 k0_t2 v117 v119 v128), ∀ (k0_h24 : k0_cond24 v0 k0_t2 = 1#1), ∀ (k0_h25 : k0_cond25 v0 k0_t2 = 1#1), ∀ (k0_h26 : k0_cond26 v128 = 1#1), ∀ a, (k0_off48 v117 v119) a + S1x64x10000.size a ≤ S8x512x10000.size a := fun v0 k0_t2 v117 v119 v128 k0_hw30 k0_h24 k0_h25 k0_h26 => k0_hw30 k0_h24 k0_h25 k0_h26

def k0_off49 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk31 (v0 : BitVec 32) (k0_t2 : Fin (k0_t2_loop v0).trips) (v86 : BitVec 32) (v88 : BitVec 32) : Prop :=
  (∀ (k0_h24 : k0_cond24 v0 k0_t2 = 1#1), ∀ a, (k0_off49 v86 v88) a + S1x64x10000.size a ≤ S8x513x10000.size a)
theorem k0_off49_inb : ∀ (v0 : BitVec 32) (k0_t2 : Fin (k0_t2_loop v0).trips) (v86 : BitVec 32) (v88 : BitVec 32) (k0_hw31 : k0_chk31 v0 k0_t2 v86 v88), ∀ (k0_h24 : k0_cond24 v0 k0_t2 = 1#1), ∀ a, (k0_off49 v86 v88) a + S1x64x10000.size a ≤ S8x513x10000.size a := fun v0 k0_t2 v86 v88 k0_hw31 k0_h24 => k0_hw31 k0_h24

def k0_off50 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c0_i32_54 : BitVec 32 := 0#32
  let v84 : BitVec 32 := Scalar.addi v67 c0_i32_54
  let v111 : Index := Scalar.indexCast v84
  ![v111.toNat]
def k0_off51 (v86 : BitVec 32) (v88 : BitVec 32) : Fin 3 → Nat :=
  let c64_i32_74 : BitVec 32 := 64#32
  let v116 : BitVec 32 := Scalar.muli v88 c64_i32_74
  let c0_i32_80 : BitVec 32 := 0#32
  ![v86.toNat, v116.toNat, 0]
def k0_cond28 (v112 : BitVec 32) : BitVec 1 :=
  let c1_i32_72 : BitVec 32 := 1#32
  let v113 : BitVec 1 := Scalar.cmpi .eq v112 c1_i32_72
  let v114 : BitVec 32 := Scalar.extui v113
  let c0_i32_73 : BitVec 32 := 0#32
  let v115 : BitVec 1 := Scalar.cmpi .ne v114 c0_i32_73
  v115

def k0_chk32 (v0 : BitVec 32) (k0_t2 : Fin (k0_t2_loop v0).trips) (v86 : BitVec 32) (v88 : BitVec 32) (v112 : BitVec 32) : Prop :=
  (∀ (k0_h24 : k0_cond24 v0 k0_t2 = 1#1), ∀ (k0_h28 : k0_cond28 v112 = 1#1), ∀ a, (k0_off51 v86 v88) a + S1x64x10000.size a ≤ S8x512x10000.size a)
theorem k0_off51_inb : ∀ (v0 : BitVec 32) (k0_t2 : Fin (k0_t2_loop v0).trips) (v86 : BitVec 32) (v88 : BitVec 32) (v112 : BitVec 32) (k0_hw32 : k0_chk32 v0 k0_t2 v86 v88 v112), ∀ (k0_h24 : k0_cond24 v0 k0_t2 = 1#1), ∀ (k0_h28 : k0_cond28 v112 = 1#1), ∀ a, (k0_off51 v86 v88) a + S1x64x10000.size a ≤ S8x512x10000.size a := fun v0 k0_t2 v86 v88 v112 k0_hw32 k0_h24 k0_h28 => k0_hw32 k0_h24 k0_h28

def k0_off52 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c1_i32_54 : BitVec 32 := 1#32
  let v84 : BitVec 32 := Scalar.addi v67 c1_i32_54
  let v85 : Index := Scalar.indexCast v84
  ![v85.toNat]
def k0_cond29 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c1_i32_48 : BitVec 32 := 1#32
  let v72 : BitVec 32 := Scalar.addi v67 c1_i32_48
  let v73 : BitVec 1 := Scalar.cmpi .slt v72 v0
  let v74 : BitVec 32 := Scalar.extui v73
  let c0_i32_49 : BitVec 32 := 0#32
  let v75 : BitVec 1 := Scalar.cmpi .ne v74 c0_i32_49
  v75

def k0_off53 (v86 : BitVec 32) : Fin 1 → Nat :=
  let v89 : Index := Scalar.indexCast v86
  ![v89.toNat]

def k0_chk33 (v0 : BitVec 32) (k0_t2 : Fin (k0_t2_loop v0).trips) (v86 : BitVec 32) : Prop :=
  (∀ (k0_h29 : k0_cond29 v0 k0_t2 = 1#1), ∀ a, (k0_off53 v86) a + S1.size a ≤ S8.size a)
theorem k0_off53_inb : ∀ (v0 : BitVec 32) (k0_t2 : Fin (k0_t2_loop v0).trips) (v86 : BitVec 32) (k0_hw33 : k0_chk33 v0 k0_t2 v86), ∀ (k0_h29 : k0_cond29 v0 k0_t2 = 1#1), ∀ a, (k0_off53 v86) a + S1.size a ≤ S8.size a := fun v0 k0_t2 v86 k0_hw33 k0_h29 => k0_hw33 k0_h29

def k0_off54 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c1_i32_54 : BitVec 32 := 1#32
  let v84 : BitVec 32 := Scalar.addi v67 c1_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond30 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c1_i32_54 : BitVec 32 := 1#32
  let v84 : BitVec 32 := Scalar.addi v67 c1_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off55 (v117 : BitVec 32) (v119 : BitVec 32) : Fin 3 → Nat :=
  let c64_i32_74 : BitVec 32 := 64#32
  let v120 : BitVec 32 := Scalar.muli v119 c64_i32_74
  let c0_i32_80 : BitVec 32 := 0#32
  ![v117.toNat, v120.toNat, 0]

def k0_chk34 (v0 : BitVec 32) (k0_t2 : Fin (k0_t2_loop v0).trips) (v117 : BitVec 32) (v119 : BitVec 32) : Prop :=
  (∀ (k0_h29 : k0_cond29 v0 k0_t2 = 1#1), ∀ (k0_h30 : k0_cond30 v0 k0_t2 = 1#1), ∀ a, (k0_off55 v117 v119) a + S1x64x10000.size a ≤ S8x513x10000.size a)
theorem k0_off55_inb : ∀ (v0 : BitVec 32) (k0_t2 : Fin (k0_t2_loop v0).trips) (v117 : BitVec 32) (v119 : BitVec 32) (k0_hw34 : k0_chk34 v0 k0_t2 v117 v119), ∀ (k0_h29 : k0_cond29 v0 k0_t2 = 1#1), ∀ (k0_h30 : k0_cond30 v0 k0_t2 = 1#1), ∀ a, (k0_off55 v117 v119) a + S1x64x10000.size a ≤ S8x513x10000.size a := fun v0 k0_t2 v117 v119 k0_hw34 k0_h29 k0_h30 => k0_hw34 k0_h29 k0_h30

def k0_off56 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c1_i32_54 : BitVec 32 := 1#32
  let v84 : BitVec 32 := Scalar.addi v67 c1_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off57 (v117 : BitVec 32) (v119 : BitVec 32) : Fin 3 → Nat :=
  let c64_i32_83 : BitVec 32 := 64#32
  let v132 : BitVec 32 := Scalar.muli v119 c64_i32_83
  let c0_i32_89 : BitVec 32 := 0#32
  ![v117.toNat, v132.toNat, 0]
def k0_cond31 (v128 : BitVec 32) : BitVec 1 :=
  let c1_i32_81 : BitVec 32 := 1#32
  let v129 : BitVec 1 := Scalar.cmpi .eq v128 c1_i32_81
  let v130 : BitVec 32 := Scalar.extui v129
  let c0_i32_82 : BitVec 32 := 0#32
  let v131 : BitVec 1 := Scalar.cmpi .ne v130 c0_i32_82
  v131

def k0_chk35 (v0 : BitVec 32) (k0_t2 : Fin (k0_t2_loop v0).trips) (v117 : BitVec 32) (v119 : BitVec 32) (v128 : BitVec 32) : Prop :=
  (∀ (k0_h29 : k0_cond29 v0 k0_t2 = 1#1), ∀ (k0_h30 : k0_cond30 v0 k0_t2 = 1#1), ∀ (k0_h31 : k0_cond31 v128 = 1#1), ∀ a, (k0_off57 v117 v119) a + S1x64x10000.size a ≤ S8x512x10000.size a)
theorem k0_off57_inb : ∀ (v0 : BitVec 32) (k0_t2 : Fin (k0_t2_loop v0).trips) (v117 : BitVec 32) (v119 : BitVec 32) (v128 : BitVec 32) (k0_hw35 : k0_chk35 v0 k0_t2 v117 v119 v128), ∀ (k0_h29 : k0_cond29 v0 k0_t2 = 1#1), ∀ (k0_h30 : k0_cond30 v0 k0_t2 = 1#1), ∀ (k0_h31 : k0_cond31 v128 = 1#1), ∀ a, (k0_off57 v117 v119) a + S1x64x10000.size a ≤ S8x512x10000.size a := fun v0 k0_t2 v117 v119 v128 k0_hw35 k0_h29 k0_h30 k0_h31 => k0_hw35 k0_h29 k0_h30 k0_h31

def k0_off58 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk36 (v0 : BitVec 32) (k0_t2 : Fin (k0_t2_loop v0).trips) (v86 : BitVec 32) (v88 : BitVec 32) : Prop :=
  (∀ (k0_h29 : k0_cond29 v0 k0_t2 = 1#1), ∀ a, (k0_off58 v86 v88) a + S1x64x10000.size a ≤ S8x513x10000.size a)
theorem k0_off58_inb : ∀ (v0 : BitVec 32) (k0_t2 : Fin (k0_t2_loop v0).trips) (v86 : BitVec 32) (v88 : BitVec 32) (k0_hw36 : k0_chk36 v0 k0_t2 v86 v88), ∀ (k0_h29 : k0_cond29 v0 k0_t2 = 1#1), ∀ a, (k0_off58 v86 v88) a + S1x64x10000.size a ≤ S8x513x10000.size a := fun v0 k0_t2 v86 v88 k0_hw36 k0_h29 => k0_hw36 k0_h29

def k0_off59 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c1_i32_54 : BitVec 32 := 1#32
  let v84 : BitVec 32 := Scalar.addi v67 c1_i32_54
  let v111 : Index := Scalar.indexCast v84
  ![v111.toNat]
def k0_off60 (v86 : BitVec 32) (v88 : BitVec 32) : Fin 3 → Nat :=
  let c64_i32_74 : BitVec 32 := 64#32
  let v116 : BitVec 32 := Scalar.muli v88 c64_i32_74
  let c0_i32_80 : BitVec 32 := 0#32
  ![v86.toNat, v116.toNat, 0]
def k0_cond33 (v112 : BitVec 32) : BitVec 1 :=
  let c1_i32_72 : BitVec 32 := 1#32
  let v113 : BitVec 1 := Scalar.cmpi .eq v112 c1_i32_72
  let v114 : BitVec 32 := Scalar.extui v113
  let c0_i32_73 : BitVec 32 := 0#32
  let v115 : BitVec 1 := Scalar.cmpi .ne v114 c0_i32_73
  v115

def k0_chk37 (v0 : BitVec 32) (k0_t2 : Fin (k0_t2_loop v0).trips) (v86 : BitVec 32) (v88 : BitVec 32) (v112 : BitVec 32) : Prop :=
  (∀ (k0_h29 : k0_cond29 v0 k0_t2 = 1#1), ∀ (k0_h33 : k0_cond33 v112 = 1#1), ∀ a, (k0_off60 v86 v88) a + S1x64x10000.size a ≤ S8x512x10000.size a)
theorem k0_off60_inb : ∀ (v0 : BitVec 32) (k0_t2 : Fin (k0_t2_loop v0).trips) (v86 : BitVec 32) (v88 : BitVec 32) (v112 : BitVec 32) (k0_hw37 : k0_chk37 v0 k0_t2 v86 v88 v112), ∀ (k0_h29 : k0_cond29 v0 k0_t2 = 1#1), ∀ (k0_h33 : k0_cond33 v112 = 1#1), ∀ a, (k0_off60 v86 v88) a + S1x64x10000.size a ≤ S8x512x10000.size a := fun v0 k0_t2 v86 v88 v112 k0_hw37 k0_h29 k0_h33 => k0_hw37 k0_h29 k0_h33

def k0_off61 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c2_i32_54 : BitVec 32 := 2#32
  let v84 : BitVec 32 := Scalar.addi v67 c2_i32_54
  let v85 : Index := Scalar.indexCast v84
  ![v85.toNat]
def k0_cond34 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c2_i32_50 : BitVec 32 := 2#32
  let v76 : BitVec 32 := Scalar.addi v67 c2_i32_50
  let v77 : BitVec 1 := Scalar.cmpi .slt v76 v0
  let v78 : BitVec 32 := Scalar.extui v77
  let c0_i32_51 : BitVec 32 := 0#32
  let v79 : BitVec 1 := Scalar.cmpi .ne v78 c0_i32_51
  v79

def k0_off62 (v86 : BitVec 32) : Fin 1 → Nat :=
  let v89 : Index := Scalar.indexCast v86
  ![v89.toNat]

def k0_chk38 (v0 : BitVec 32) (k0_t2 : Fin (k0_t2_loop v0).trips) (v86 : BitVec 32) : Prop :=
  (∀ (k0_h34 : k0_cond34 v0 k0_t2 = 1#1), ∀ a, (k0_off62 v86) a + S1.size a ≤ S8.size a)
theorem k0_off62_inb : ∀ (v0 : BitVec 32) (k0_t2 : Fin (k0_t2_loop v0).trips) (v86 : BitVec 32) (k0_hw38 : k0_chk38 v0 k0_t2 v86), ∀ (k0_h34 : k0_cond34 v0 k0_t2 = 1#1), ∀ a, (k0_off62 v86) a + S1.size a ≤ S8.size a := fun v0 k0_t2 v86 k0_hw38 k0_h34 => k0_hw38 k0_h34

def k0_off63 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c2_i32_54 : BitVec 32 := 2#32
  let v84 : BitVec 32 := Scalar.addi v67 c2_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond35 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c2_i32_54 : BitVec 32 := 2#32
  let v84 : BitVec 32 := Scalar.addi v67 c2_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off64 (v117 : BitVec 32) (v119 : BitVec 32) : Fin 3 → Nat :=
  let c64_i32_74 : BitVec 32 := 64#32
  let v120 : BitVec 32 := Scalar.muli v119 c64_i32_74
  let c0_i32_80 : BitVec 32 := 0#32
  ![v117.toNat, v120.toNat, 0]

def k0_chk39 (v0 : BitVec 32) (k0_t2 : Fin (k0_t2_loop v0).trips) (v117 : BitVec 32) (v119 : BitVec 32) : Prop :=
  (∀ (k0_h34 : k0_cond34 v0 k0_t2 = 1#1), ∀ (k0_h35 : k0_cond35 v0 k0_t2 = 1#1), ∀ a, (k0_off64 v117 v119) a + S1x64x10000.size a ≤ S8x513x10000.size a)
theorem k0_off64_inb : ∀ (v0 : BitVec 32) (k0_t2 : Fin (k0_t2_loop v0).trips) (v117 : BitVec 32) (v119 : BitVec 32) (k0_hw39 : k0_chk39 v0 k0_t2 v117 v119), ∀ (k0_h34 : k0_cond34 v0 k0_t2 = 1#1), ∀ (k0_h35 : k0_cond35 v0 k0_t2 = 1#1), ∀ a, (k0_off64 v117 v119) a + S1x64x10000.size a ≤ S8x513x10000.size a := fun v0 k0_t2 v117 v119 k0_hw39 k0_h34 k0_h35 => k0_hw39 k0_h34 k0_h35

def k0_off65 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c2_i32_54 : BitVec 32 := 2#32
  let v84 : BitVec 32 := Scalar.addi v67 c2_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off66 (v117 : BitVec 32) (v119 : BitVec 32) : Fin 3 → Nat :=
  let c64_i32_83 : BitVec 32 := 64#32
  let v132 : BitVec 32 := Scalar.muli v119 c64_i32_83
  let c0_i32_89 : BitVec 32 := 0#32
  ![v117.toNat, v132.toNat, 0]
def k0_cond36 (v128 : BitVec 32) : BitVec 1 :=
  let c1_i32_81 : BitVec 32 := 1#32
  let v129 : BitVec 1 := Scalar.cmpi .eq v128 c1_i32_81
  let v130 : BitVec 32 := Scalar.extui v129
  let c0_i32_82 : BitVec 32 := 0#32
  let v131 : BitVec 1 := Scalar.cmpi .ne v130 c0_i32_82
  v131

def k0_chk40 (v0 : BitVec 32) (k0_t2 : Fin (k0_t2_loop v0).trips) (v117 : BitVec 32) (v119 : BitVec 32) (v128 : BitVec 32) : Prop :=
  (∀ (k0_h34 : k0_cond34 v0 k0_t2 = 1#1), ∀ (k0_h35 : k0_cond35 v0 k0_t2 = 1#1), ∀ (k0_h36 : k0_cond36 v128 = 1#1), ∀ a, (k0_off66 v117 v119) a + S1x64x10000.size a ≤ S8x512x10000.size a)
theorem k0_off66_inb : ∀ (v0 : BitVec 32) (k0_t2 : Fin (k0_t2_loop v0).trips) (v117 : BitVec 32) (v119 : BitVec 32) (v128 : BitVec 32) (k0_hw40 : k0_chk40 v0 k0_t2 v117 v119 v128), ∀ (k0_h34 : k0_cond34 v0 k0_t2 = 1#1), ∀ (k0_h35 : k0_cond35 v0 k0_t2 = 1#1), ∀ (k0_h36 : k0_cond36 v128 = 1#1), ∀ a, (k0_off66 v117 v119) a + S1x64x10000.size a ≤ S8x512x10000.size a := fun v0 k0_t2 v117 v119 v128 k0_hw40 k0_h34 k0_h35 k0_h36 => k0_hw40 k0_h34 k0_h35 k0_h36

def k0_off67 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk41 (v0 : BitVec 32) (k0_t2 : Fin (k0_t2_loop v0).trips) (v86 : BitVec 32) (v88 : BitVec 32) : Prop :=
  (∀ (k0_h34 : k0_cond34 v0 k0_t2 = 1#1), ∀ a, (k0_off67 v86 v88) a + S1x64x10000.size a ≤ S8x513x10000.size a)
theorem k0_off67_inb : ∀ (v0 : BitVec 32) (k0_t2 : Fin (k0_t2_loop v0).trips) (v86 : BitVec 32) (v88 : BitVec 32) (k0_hw41 : k0_chk41 v0 k0_t2 v86 v88), ∀ (k0_h34 : k0_cond34 v0 k0_t2 = 1#1), ∀ a, (k0_off67 v86 v88) a + S1x64x10000.size a ≤ S8x513x10000.size a := fun v0 k0_t2 v86 v88 k0_hw41 k0_h34 => k0_hw41 k0_h34

def k0_off68 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c2_i32_54 : BitVec 32 := 2#32
  let v84 : BitVec 32 := Scalar.addi v67 c2_i32_54
  let v111 : Index := Scalar.indexCast v84
  ![v111.toNat]
def k0_off69 (v86 : BitVec 32) (v88 : BitVec 32) : Fin 3 → Nat :=
  let c64_i32_74 : BitVec 32 := 64#32
  let v116 : BitVec 32 := Scalar.muli v88 c64_i32_74
  let c0_i32_80 : BitVec 32 := 0#32
  ![v86.toNat, v116.toNat, 0]
def k0_cond38 (v112 : BitVec 32) : BitVec 1 :=
  let c1_i32_72 : BitVec 32 := 1#32
  let v113 : BitVec 1 := Scalar.cmpi .eq v112 c1_i32_72
  let v114 : BitVec 32 := Scalar.extui v113
  let c0_i32_73 : BitVec 32 := 0#32
  let v115 : BitVec 1 := Scalar.cmpi .ne v114 c0_i32_73
  v115

def k0_chk42 (v0 : BitVec 32) (k0_t2 : Fin (k0_t2_loop v0).trips) (v86 : BitVec 32) (v88 : BitVec 32) (v112 : BitVec 32) : Prop :=
  (∀ (k0_h34 : k0_cond34 v0 k0_t2 = 1#1), ∀ (k0_h38 : k0_cond38 v112 = 1#1), ∀ a, (k0_off69 v86 v88) a + S1x64x10000.size a ≤ S8x512x10000.size a)
theorem k0_off69_inb : ∀ (v0 : BitVec 32) (k0_t2 : Fin (k0_t2_loop v0).trips) (v86 : BitVec 32) (v88 : BitVec 32) (v112 : BitVec 32) (k0_hw42 : k0_chk42 v0 k0_t2 v86 v88 v112), ∀ (k0_h34 : k0_cond34 v0 k0_t2 = 1#1), ∀ (k0_h38 : k0_cond38 v112 = 1#1), ∀ a, (k0_off69 v86 v88) a + S1x64x10000.size a ≤ S8x512x10000.size a := fun v0 k0_t2 v86 v88 v112 k0_hw42 k0_h34 k0_h38 => k0_hw42 k0_h34 k0_h38

def k0_off70 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c3_i32_54 : BitVec 32 := 3#32
  let v84 : BitVec 32 := Scalar.addi v67 c3_i32_54
  let v85 : Index := Scalar.indexCast v84
  ![v85.toNat]
def k0_cond39 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c3_i32 : BitVec 32 := 3#32
  let v80 : BitVec 32 := Scalar.addi v67 c3_i32
  let v81 : BitVec 1 := Scalar.cmpi .slt v80 v0
  let v82 : BitVec 32 := Scalar.extui v81
  let c0_i32_52 : BitVec 32 := 0#32
  let v83 : BitVec 1 := Scalar.cmpi .ne v82 c0_i32_52
  v83

def k0_off71 (v86 : BitVec 32) : Fin 1 → Nat :=
  let v89 : Index := Scalar.indexCast v86
  ![v89.toNat]

def k0_chk43 (v0 : BitVec 32) (k0_t2 : Fin (k0_t2_loop v0).trips) (v86 : BitVec 32) : Prop :=
  (∀ (k0_h39 : k0_cond39 v0 k0_t2 = 1#1), ∀ a, (k0_off71 v86) a + S1.size a ≤ S8.size a)
theorem k0_off71_inb : ∀ (v0 : BitVec 32) (k0_t2 : Fin (k0_t2_loop v0).trips) (v86 : BitVec 32) (k0_hw43 : k0_chk43 v0 k0_t2 v86), ∀ (k0_h39 : k0_cond39 v0 k0_t2 = 1#1), ∀ a, (k0_off71 v86) a + S1.size a ≤ S8.size a := fun v0 k0_t2 v86 k0_hw43 k0_h39 => k0_hw43 k0_h39

def k0_off72 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c3_i32_54 : BitVec 32 := 3#32
  let v84 : BitVec 32 := Scalar.addi v67 c3_i32_54
  let c4_i32_56 : BitVec 32 := 4#32
  let v92 : BitVec 32 := Scalar.addi v84 c4_i32_56
  let c1_i32_57 : BitVec 32 := 1#32
  let v93 : BitVec 32 := Scalar.subi v92 c1_i32_57
  let v116 : Index := Scalar.indexCast v93
  ![v116.toNat]
def k0_cond40 (v0 : BitVec 32) (k0_t2 : Fin (k0_t2_loop v0).trips) : BitVec 1 :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c3_i32_54 : BitVec 32 := 3#32
  let v84 : BitVec 32 := Scalar.addi v67 c3_i32_54
  let c4_i32_56 : BitVec 32 := 4#32
  let v92 : BitVec 32 := Scalar.addi v84 c4_i32_56
  let c1_i32_57 : BitVec 32 := 1#32
  let v93 : BitVec 32 := Scalar.subi v92 c1_i32_57
  let v94 : BitVec 1 := Scalar.cmpi .slt v93 v0
  let v95 : BitVec 32 := Scalar.extui v94
  let c0_i32_58 : BitVec 32 := 0#32
  let v96 : BitVec 1 := Scalar.cmpi .ne v95 c0_i32_58
  v96

def k0_off73 (v117 : BitVec 32) (v119 : BitVec 32) : Fin 3 → Nat :=
  let c64_i32_73 : BitVec 32 := 64#32
  let v120 : BitVec 32 := Scalar.muli v119 c64_i32_73
  let c0_i32_79 : BitVec 32 := 0#32
  ![v117.toNat, v120.toNat, 0]

def k0_chk44 (v0 : BitVec 32) (k0_t2 : Fin (k0_t2_loop v0).trips) (v117 : BitVec 32) (v119 : BitVec 32) : Prop :=
  (∀ (k0_h39 : k0_cond39 v0 k0_t2 = 1#1), ∀ (k0_h40 : k0_cond40 v0 k0_t2 = 1#1), ∀ a, (k0_off73 v117 v119) a + S1x64x10000.size a ≤ S8x513x10000.size a)
theorem k0_off73_inb : ∀ (v0 : BitVec 32) (k0_t2 : Fin (k0_t2_loop v0).trips) (v117 : BitVec 32) (v119 : BitVec 32) (k0_hw44 : k0_chk44 v0 k0_t2 v117 v119), ∀ (k0_h39 : k0_cond39 v0 k0_t2 = 1#1), ∀ (k0_h40 : k0_cond40 v0 k0_t2 = 1#1), ∀ a, (k0_off73 v117 v119) a + S1x64x10000.size a ≤ S8x513x10000.size a := fun v0 k0_t2 v117 v119 k0_hw44 k0_h39 k0_h40 => k0_hw44 k0_h39 k0_h40

def k0_off74 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c3_i32_54 : BitVec 32 := 3#32
  let v84 : BitVec 32 := Scalar.addi v67 c3_i32_54
  let c4_i32_56 : BitVec 32 := 4#32
  let v92 : BitVec 32 := Scalar.addi v84 c4_i32_56
  let c1_i32_57 : BitVec 32 := 1#32
  let v93 : BitVec 32 := Scalar.subi v92 c1_i32_57
  let v127 : Index := Scalar.indexCast v93
  ![v127.toNat]
def k0_off75 (v117 : BitVec 32) (v119 : BitVec 32) : Fin 3 → Nat :=
  let c64_i32_82 : BitVec 32 := 64#32
  let v132 : BitVec 32 := Scalar.muli v119 c64_i32_82
  let c0_i32_88 : BitVec 32 := 0#32
  ![v117.toNat, v132.toNat, 0]
def k0_cond41 (v128 : BitVec 32) : BitVec 1 :=
  let c1_i32_80 : BitVec 32 := 1#32
  let v129 : BitVec 1 := Scalar.cmpi .eq v128 c1_i32_80
  let v130 : BitVec 32 := Scalar.extui v129
  let c0_i32_81 : BitVec 32 := 0#32
  let v131 : BitVec 1 := Scalar.cmpi .ne v130 c0_i32_81
  v131

def k0_chk45 (v0 : BitVec 32) (k0_t2 : Fin (k0_t2_loop v0).trips) (v117 : BitVec 32) (v119 : BitVec 32) (v128 : BitVec 32) : Prop :=
  (∀ (k0_h39 : k0_cond39 v0 k0_t2 = 1#1), ∀ (k0_h40 : k0_cond40 v0 k0_t2 = 1#1), ∀ (k0_h41 : k0_cond41 v128 = 1#1), ∀ a, (k0_off75 v117 v119) a + S1x64x10000.size a ≤ S8x512x10000.size a)
theorem k0_off75_inb : ∀ (v0 : BitVec 32) (k0_t2 : Fin (k0_t2_loop v0).trips) (v117 : BitVec 32) (v119 : BitVec 32) (v128 : BitVec 32) (k0_hw45 : k0_chk45 v0 k0_t2 v117 v119 v128), ∀ (k0_h39 : k0_cond39 v0 k0_t2 = 1#1), ∀ (k0_h40 : k0_cond40 v0 k0_t2 = 1#1), ∀ (k0_h41 : k0_cond41 v128 = 1#1), ∀ a, (k0_off75 v117 v119) a + S1x64x10000.size a ≤ S8x512x10000.size a := fun v0 k0_t2 v117 v119 v128 k0_hw45 k0_h39 k0_h40 k0_h41 => k0_hw45 k0_h39 k0_h40 k0_h41

def k0_off76 (v86 : BitVec 32) (v88 : BitVec 32) : Fin 3 → Nat :=
  let c64_i32_59 : BitVec 32 := 64#32
  let v97 : BitVec 32 := Scalar.muli v88 c64_i32_59
  let c0_i32_65 : BitVec 32 := 0#32
  ![v86.toNat, v97.toNat, 0]

def k0_chk46 (v0 : BitVec 32) (k0_t2 : Fin (k0_t2_loop v0).trips) (v86 : BitVec 32) (v88 : BitVec 32) : Prop :=
  (∀ (k0_h39 : k0_cond39 v0 k0_t2 = 1#1), ∀ a, (k0_off76 v86 v88) a + S1x64x10000.size a ≤ S8x513x10000.size a)
theorem k0_off76_inb : ∀ (v0 : BitVec 32) (k0_t2 : Fin (k0_t2_loop v0).trips) (v86 : BitVec 32) (v88 : BitVec 32) (k0_hw46 : k0_chk46 v0 k0_t2 v86 v88), ∀ (k0_h39 : k0_cond39 v0 k0_t2 = 1#1), ∀ a, (k0_off76 v86 v88) a + S1x64x10000.size a ≤ S8x513x10000.size a := fun v0 k0_t2 v86 v88 k0_hw46 k0_h39 => k0_hw46 k0_h39

def k0_off77 (v0 : BitVec 32) (k0_t2 : Fin (k0_t2_loop v0).trips) : Fin 1 → Nat :=
  let c0_i32_40 : BitVec 32 := 0#32
  let c4_i32 : BitVec 32 := 4#32
  let v41 : BitVec 32 := Scalar.addi v0 c4_i32
  let c1_i32_32 : BitVec 32 := 1#32
  let v42 : BitVec 32 := Scalar.subi v41 c1_i32_32
  let c0_i32_34 : BitVec 32 := 0#32
  let v44 : BitVec 1 := Scalar.cmpi .sgt v42 c0_i32_34
  let v45 : BitVec 32 := Scalar.extui v44
  let c0_i32_35 : BitVec 32 := 0#32
  let v46 : BitVec 1 := Scalar.cmpi .slt v42 c0_i32_35
  let v47 : BitVec 32 := Scalar.extui v46
  let v48 : BitVec 32 := Scalar.subi v45 v47
  let c4_i32_33 : BitVec 32 := 4#32
  let c0_i32_36 : BitVec 32 := 0#32
  let v49 : BitVec 1 := Scalar.cmpi .sgt c4_i32_33 c0_i32_36
  let v50 : BitVec 32 := Scalar.extui v49
  let c0_i32_37 : BitVec 32 := 0#32
  let v51 : BitVec 1 := Scalar.cmpi .slt c4_i32_33 c0_i32_37
  let v52 : BitVec 32 := Scalar.extui v51
  let v53 : BitVec 32 := Scalar.subi v50 v52
  let v54 : BitVec 1 := Scalar.cmpi .ne v48 v53
  let v55 : BitVec 32 := Scalar.remsi v42 c4_i32_33
  let c0_i32_38 : BitVec 32 := 0#32
  let v56 : BitVec 1 := Scalar.cmpi .ne v55 c0_i32_38
  let v57 : BitVec 1 := Scalar.andi v54 v56
  let v43 : BitVec 32 := Scalar.divsi v42 c4_i32_33
  let c1_i32_39 : BitVec 32 := 1#32
  let v58 : BitVec 32 := Scalar.subi v43 c1_i32_39
  let v59 : BitVec 32 := Scalar.select v57 v58 v43
  let v60 : BitVec 32 := Scalar.subi v59 c0_i32_40
  let c1_i32_42 : BitVec 32 := 1#32
  let v62 : BitVec 32 := Scalar.divsi v60 c1_i32_42
  let v63 : BitVec 32 := Scalar.muli v62 c1_i32_42
  let v64 : BitVec 32 := Scalar.addi c0_i32_40 v63
  let c1_i32_44 : BitVec 32 := 1#32
  let arg13 : BitVec 32 := Scf.iv v64 c1_i32_44 k0_t2
  let c4_i32_45 : BitVec 32 := 4#32
  let v67 : BitVec 32 := Scalar.muli arg13 c4_i32_45
  let c3_i32_54 : BitVec 32 := 3#32
  let v84 : BitVec 32 := Scalar.addi v67 c3_i32_54
  let v111 : Index := Scalar.indexCast v84
  ![v111.toNat]

def k0_chk7_0 (v0 : BitVec 32) : Prop :=
  ((k0_t1_loop v0).OK) ∧
  (∀ k0_t1 : Fin (k0_t1_loop v0).trips, ∀ (k0_h4 : k0_cond4 v0 k0_t1 = 1#1), ∀ a, (k0_off7 v0 k0_t1) a + S1.size a ≤ S72.size a) ∧
  (∀ k0_t1 : Fin (k0_t1_loop v0).trips, ∀ (k0_h4 : k0_cond4 v0 k0_t1 = 1#1), ∀ (k0_h5 : k0_cond5 v0 k0_t1 = 1#1), ∀ a, (k0_off9 v0 k0_t1) a + S1.size a ≤ S72.size a) ∧
  (∀ k0_t1 : Fin (k0_t1_loop v0).trips, ∀ (k0_h4 : k0_cond4 v0 k0_t1 = 1#1), ∀ (k0_h5 : k0_cond5 v0 k0_t1 = 1#1), ∀ a, (k0_off11 v0 k0_t1) a + S1.size a ≤ S72.size a) ∧
  (∀ k0_t1 : Fin (k0_t1_loop v0).trips, ∀ (k0_h4 : k0_cond4 v0 k0_t1 = 1#1), ∀ a, (k0_off14 v0 k0_t1) a + S1.size a ≤ S72.size a) ∧
  (∀ k0_t1 : Fin (k0_t1_loop v0).trips, ∀ (k0_h9 : k0_cond9 v0 k0_t1 = 1#1), ∀ a, (k0_off16 v0 k0_t1) a + S1.size a ≤ S72.size a) ∧
  (∀ k0_t1 : Fin (k0_t1_loop v0).trips, ∀ (k0_h9 : k0_cond9 v0 k0_t1 = 1#1), ∀ (k0_h10 : k0_cond10 v0 k0_t1 = 1#1), ∀ a, (k0_off18 v0 k0_t1) a + S1.size a ≤ S72.size a) ∧
  (∀ k0_t1 : Fin (k0_t1_loop v0).trips, ∀ (k0_h9 : k0_cond9 v0 k0_t1 = 1#1), ∀ (k0_h10 : k0_cond10 v0 k0_t1 = 1#1), ∀ a, (k0_off20 v0 k0_t1) a + S1.size a ≤ S72.size a) ∧
  (∀ k0_t1 : Fin (k0_t1_loop v0).trips, ∀ (k0_h9 : k0_cond9 v0 k0_t1 = 1#1), ∀ a, (k0_off23 v0 k0_t1) a + S1.size a ≤ S72.size a) ∧
  (∀ k0_t1 : Fin (k0_t1_loop v0).trips, ∀ (k0_h14 : k0_cond14 v0 k0_t1 = 1#1), ∀ a, (k0_off25 v0 k0_t1) a + S1.size a ≤ S72.size a) ∧
  (∀ k0_t1 : Fin (k0_t1_loop v0).trips, ∀ (k0_h14 : k0_cond14 v0 k0_t1 = 1#1), ∀ (k0_h15 : k0_cond15 v0 k0_t1 = 1#1), ∀ a, (k0_off27 v0 k0_t1) a + S1.size a ≤ S72.size a) ∧
  (∀ k0_t1 : Fin (k0_t1_loop v0).trips, ∀ (k0_h14 : k0_cond14 v0 k0_t1 = 1#1), ∀ (k0_h15 : k0_cond15 v0 k0_t1 = 1#1), ∀ a, (k0_off29 v0 k0_t1) a + S1.size a ≤ S72.size a) ∧
  (∀ k0_t1 : Fin (k0_t1_loop v0).trips, ∀ (k0_h14 : k0_cond14 v0 k0_t1 = 1#1), ∀ a, (k0_off32 v0 k0_t1) a + S1.size a ≤ S72.size a) ∧
  (∀ k0_t1 : Fin (k0_t1_loop v0).trips, ∀ (k0_h19 : k0_cond19 v0 k0_t1 = 1#1), ∀ a, (k0_off34 v0 k0_t1) a + S1.size a ≤ S72.size a) ∧
  (∀ k0_t1 : Fin (k0_t1_loop v0).trips, ∀ (k0_h19 : k0_cond19 v0 k0_t1 = 1#1), ∀ (k0_h20 : k0_cond20 v0 k0_t1 = 1#1), ∀ a, (k0_off36 v0 k0_t1) a + S1.size a ≤ S72.size a) ∧
  (∀ k0_t1 : Fin (k0_t1_loop v0).trips, ∀ (k0_h19 : k0_cond19 v0 k0_t1 = 1#1), ∀ (k0_h20 : k0_cond20 v0 k0_t1 = 1#1), ∀ a, (k0_off38 v0 k0_t1) a + S1.size a ≤ S72.size a) ∧
  (∀ k0_t1 : Fin (k0_t1_loop v0).trips, ∀ (k0_h19 : k0_cond19 v0 k0_t1 = 1#1), ∀ a, (k0_off41 v0 k0_t1) a + S1.size a ≤ S72.size a) ∧
  ((k0_t2_loop v0).OK) ∧
  (∀ k0_t2 : Fin (k0_t2_loop v0).trips, ∀ (k0_h24 : k0_cond24 v0 k0_t2 = 1#1), ∀ a, (k0_off43 v0 k0_t2) a + S1.size a ≤ S72.size a) ∧
  (∀ k0_t2 : Fin (k0_t2_loop v0).trips, ∀ (k0_h24 : k0_cond24 v0 k0_t2 = 1#1), ∀ (k0_h25 : k0_cond25 v0 k0_t2 = 1#1), ∀ a, (k0_off45 v0 k0_t2) a + S1.size a ≤ S72.size a) ∧
  (∀ k0_t2 : Fin (k0_t2_loop v0).trips, ∀ (k0_h24 : k0_cond24 v0 k0_t2 = 1#1), ∀ (k0_h25 : k0_cond25 v0 k0_t2 = 1#1), ∀ a, (k0_off47 v0 k0_t2) a + S1.size a ≤ S72.size a) ∧
  (∀ k0_t2 : Fin (k0_t2_loop v0).trips, ∀ (k0_h24 : k0_cond24 v0 k0_t2 = 1#1), ∀ a, (k0_off50 v0 k0_t2) a + S1.size a ≤ S72.size a) ∧
  (∀ k0_t2 : Fin (k0_t2_loop v0).trips, ∀ (k0_h29 : k0_cond29 v0 k0_t2 = 1#1), ∀ a, (k0_off52 v0 k0_t2) a + S1.size a ≤ S72.size a) ∧
  (∀ k0_t2 : Fin (k0_t2_loop v0).trips, ∀ (k0_h29 : k0_cond29 v0 k0_t2 = 1#1), ∀ (k0_h30 : k0_cond30 v0 k0_t2 = 1#1), ∀ a, (k0_off54 v0 k0_t2) a + S1.size a ≤ S72.size a) ∧
  (∀ k0_t2 : Fin (k0_t2_loop v0).trips, ∀ (k0_h29 : k0_cond29 v0 k0_t2 = 1#1), ∀ (k0_h30 : k0_cond30 v0 k0_t2 = 1#1), ∀ a, (k0_off56 v0 k0_t2) a + S1.size a ≤ S72.size a) ∧
  (∀ k0_t2 : Fin (k0_t2_loop v0).trips, ∀ (k0_h29 : k0_cond29 v0 k0_t2 = 1#1), ∀ a, (k0_off59 v0 k0_t2) a + S1.size a ≤ S72.size a) ∧
  (∀ k0_t2 : Fin (k0_t2_loop v0).trips, ∀ (k0_h34 : k0_cond34 v0 k0_t2 = 1#1), ∀ a, (k0_off61 v0 k0_t2) a + S1.size a ≤ S72.size a) ∧
  (∀ k0_t2 : Fin (k0_t2_loop v0).trips, ∀ (k0_h34 : k0_cond34 v0 k0_t2 = 1#1), ∀ (k0_h35 : k0_cond35 v0 k0_t2 = 1#1), ∀ a, (k0_off63 v0 k0_t2) a + S1.size a ≤ S72.size a) ∧
  (∀ k0_t2 : Fin (k0_t2_loop v0).trips, ∀ (k0_h34 : k0_cond34 v0 k0_t2 = 1#1), ∀ (k0_h35 : k0_cond35 v0 k0_t2 = 1#1), ∀ a, (k0_off65 v0 k0_t2) a + S1.size a ≤ S72.size a) ∧
  (∀ k0_t2 : Fin (k0_t2_loop v0).trips, ∀ (k0_h34 : k0_cond34 v0 k0_t2 = 1#1), ∀ a, (k0_off68 v0 k0_t2) a + S1.size a ≤ S72.size a) ∧
  (∀ k0_t2 : Fin (k0_t2_loop v0).trips, ∀ (k0_h39 : k0_cond39 v0 k0_t2 = 1#1), ∀ a, (k0_off70 v0 k0_t2) a + S1.size a ≤ S72.size a) ∧
  (∀ k0_t2 : Fin (k0_t2_loop v0).trips, ∀ (k0_h39 : k0_cond39 v0 k0_t2 = 1#1), ∀ (k0_h40 : k0_cond40 v0 k0_t2 = 1#1), ∀ a, (k0_off72 v0 k0_t2) a + S1.size a ≤ S72.size a)
def k0_chk7_1 (v0 : BitVec 32) : Prop :=
  (∀ k0_t2 : Fin (k0_t2_loop v0).trips, ∀ (k0_h39 : k0_cond39 v0 k0_t2 = 1#1), ∀ (k0_h40 : k0_cond40 v0 k0_t2 = 1#1), ∀ a, (k0_off74 v0 k0_t2) a + S1.size a ≤ S72.size a) ∧
  (∀ k0_t2 : Fin (k0_t2_loop v0).trips, ∀ (k0_h39 : k0_cond39 v0 k0_t2 = 1#1), ∀ a, (k0_off77 v0 k0_t2) a + S1.size a ≤ S72.size a)
def k0_chk7 (v0 : BitVec 32) : Prop :=
  k0_chk7_0 v0 ∧
  k0_chk7_1 v0
theorem k0_t1_ok : ∀ (v0 : BitVec 32) (k0_hw7 : k0_chk7 v0), (k0_t1_loop v0).OK := fun v0 k0_hw7 => k0_hw7.1.1
theorem k0_off7_inb : ∀ (v0 : BitVec 32) (k0_hw7 : k0_chk7 v0) (k0_t1 : Fin (k0_t1_loop v0).trips), ∀ (k0_h4 : k0_cond4 v0 k0_t1 = 1#1), ∀ a, (k0_off7 v0 k0_t1) a + S1.size a ≤ S72.size a := fun v0 k0_hw7 k0_t1 k0_h4 => k0_hw7.1.2.1 k0_t1 k0_h4
theorem k0_off9_inb : ∀ (v0 : BitVec 32) (k0_hw7 : k0_chk7 v0) (k0_t1 : Fin (k0_t1_loop v0).trips), ∀ (k0_h4 : k0_cond4 v0 k0_t1 = 1#1), ∀ (k0_h5 : k0_cond5 v0 k0_t1 = 1#1), ∀ a, (k0_off9 v0 k0_t1) a + S1.size a ≤ S72.size a := fun v0 k0_hw7 k0_t1 k0_h4 k0_h5 => k0_hw7.1.2.2.1 k0_t1 k0_h4 k0_h5
theorem k0_off11_inb : ∀ (v0 : BitVec 32) (k0_hw7 : k0_chk7 v0) (k0_t1 : Fin (k0_t1_loop v0).trips), ∀ (k0_h4 : k0_cond4 v0 k0_t1 = 1#1), ∀ (k0_h5 : k0_cond5 v0 k0_t1 = 1#1), ∀ a, (k0_off11 v0 k0_t1) a + S1.size a ≤ S72.size a := fun v0 k0_hw7 k0_t1 k0_h4 k0_h5 => k0_hw7.1.2.2.2.1 k0_t1 k0_h4 k0_h5
theorem k0_off14_inb : ∀ (v0 : BitVec 32) (k0_hw7 : k0_chk7 v0) (k0_t1 : Fin (k0_t1_loop v0).trips), ∀ (k0_h4 : k0_cond4 v0 k0_t1 = 1#1), ∀ a, (k0_off14 v0 k0_t1) a + S1.size a ≤ S72.size a := fun v0 k0_hw7 k0_t1 k0_h4 => k0_hw7.1.2.2.2.2.1 k0_t1 k0_h4
theorem k0_off16_inb : ∀ (v0 : BitVec 32) (k0_hw7 : k0_chk7 v0) (k0_t1 : Fin (k0_t1_loop v0).trips), ∀ (k0_h9 : k0_cond9 v0 k0_t1 = 1#1), ∀ a, (k0_off16 v0 k0_t1) a + S1.size a ≤ S72.size a := fun v0 k0_hw7 k0_t1 k0_h9 => k0_hw7.1.2.2.2.2.2.1 k0_t1 k0_h9
theorem k0_off18_inb : ∀ (v0 : BitVec 32) (k0_hw7 : k0_chk7 v0) (k0_t1 : Fin (k0_t1_loop v0).trips), ∀ (k0_h9 : k0_cond9 v0 k0_t1 = 1#1), ∀ (k0_h10 : k0_cond10 v0 k0_t1 = 1#1), ∀ a, (k0_off18 v0 k0_t1) a + S1.size a ≤ S72.size a := fun v0 k0_hw7 k0_t1 k0_h9 k0_h10 => k0_hw7.1.2.2.2.2.2.2.1 k0_t1 k0_h9 k0_h10
theorem k0_off20_inb : ∀ (v0 : BitVec 32) (k0_hw7 : k0_chk7 v0) (k0_t1 : Fin (k0_t1_loop v0).trips), ∀ (k0_h9 : k0_cond9 v0 k0_t1 = 1#1), ∀ (k0_h10 : k0_cond10 v0 k0_t1 = 1#1), ∀ a, (k0_off20 v0 k0_t1) a + S1.size a ≤ S72.size a := fun v0 k0_hw7 k0_t1 k0_h9 k0_h10 => k0_hw7.1.2.2.2.2.2.2.2.1 k0_t1 k0_h9 k0_h10
theorem k0_off23_inb : ∀ (v0 : BitVec 32) (k0_hw7 : k0_chk7 v0) (k0_t1 : Fin (k0_t1_loop v0).trips), ∀ (k0_h9 : k0_cond9 v0 k0_t1 = 1#1), ∀ a, (k0_off23 v0 k0_t1) a + S1.size a ≤ S72.size a := fun v0 k0_hw7 k0_t1 k0_h9 => k0_hw7.1.2.2.2.2.2.2.2.2.1 k0_t1 k0_h9
theorem k0_off25_inb : ∀ (v0 : BitVec 32) (k0_hw7 : k0_chk7 v0) (k0_t1 : Fin (k0_t1_loop v0).trips), ∀ (k0_h14 : k0_cond14 v0 k0_t1 = 1#1), ∀ a, (k0_off25 v0 k0_t1) a + S1.size a ≤ S72.size a := fun v0 k0_hw7 k0_t1 k0_h14 => k0_hw7.1.2.2.2.2.2.2.2.2.2.1 k0_t1 k0_h14
theorem k0_off27_inb : ∀ (v0 : BitVec 32) (k0_hw7 : k0_chk7 v0) (k0_t1 : Fin (k0_t1_loop v0).trips), ∀ (k0_h14 : k0_cond14 v0 k0_t1 = 1#1), ∀ (k0_h15 : k0_cond15 v0 k0_t1 = 1#1), ∀ a, (k0_off27 v0 k0_t1) a + S1.size a ≤ S72.size a := fun v0 k0_hw7 k0_t1 k0_h14 k0_h15 => k0_hw7.1.2.2.2.2.2.2.2.2.2.2.1 k0_t1 k0_h14 k0_h15
theorem k0_off29_inb : ∀ (v0 : BitVec 32) (k0_hw7 : k0_chk7 v0) (k0_t1 : Fin (k0_t1_loop v0).trips), ∀ (k0_h14 : k0_cond14 v0 k0_t1 = 1#1), ∀ (k0_h15 : k0_cond15 v0 k0_t1 = 1#1), ∀ a, (k0_off29 v0 k0_t1) a + S1.size a ≤ S72.size a := fun v0 k0_hw7 k0_t1 k0_h14 k0_h15 => k0_hw7.1.2.2.2.2.2.2.2.2.2.2.2.1 k0_t1 k0_h14 k0_h15
theorem k0_off32_inb : ∀ (v0 : BitVec 32) (k0_hw7 : k0_chk7 v0) (k0_t1 : Fin (k0_t1_loop v0).trips), ∀ (k0_h14 : k0_cond14 v0 k0_t1 = 1#1), ∀ a, (k0_off32 v0 k0_t1) a + S1.size a ≤ S72.size a := fun v0 k0_hw7 k0_t1 k0_h14 => k0_hw7.1.2.2.2.2.2.2.2.2.2.2.2.2.1 k0_t1 k0_h14
theorem k0_off34_inb : ∀ (v0 : BitVec 32) (k0_hw7 : k0_chk7 v0) (k0_t1 : Fin (k0_t1_loop v0).trips), ∀ (k0_h19 : k0_cond19 v0 k0_t1 = 1#1), ∀ a, (k0_off34 v0 k0_t1) a + S1.size a ≤ S72.size a := fun v0 k0_hw7 k0_t1 k0_h19 => k0_hw7.1.2.2.2.2.2.2.2.2.2.2.2.2.2.1 k0_t1 k0_h19
theorem k0_off36_inb : ∀ (v0 : BitVec 32) (k0_hw7 : k0_chk7 v0) (k0_t1 : Fin (k0_t1_loop v0).trips), ∀ (k0_h19 : k0_cond19 v0 k0_t1 = 1#1), ∀ (k0_h20 : k0_cond20 v0 k0_t1 = 1#1), ∀ a, (k0_off36 v0 k0_t1) a + S1.size a ≤ S72.size a := fun v0 k0_hw7 k0_t1 k0_h19 k0_h20 => k0_hw7.1.2.2.2.2.2.2.2.2.2.2.2.2.2.2.1 k0_t1 k0_h19 k0_h20
theorem k0_off38_inb : ∀ (v0 : BitVec 32) (k0_hw7 : k0_chk7 v0) (k0_t1 : Fin (k0_t1_loop v0).trips), ∀ (k0_h19 : k0_cond19 v0 k0_t1 = 1#1), ∀ (k0_h20 : k0_cond20 v0 k0_t1 = 1#1), ∀ a, (k0_off38 v0 k0_t1) a + S1.size a ≤ S72.size a := fun v0 k0_hw7 k0_t1 k0_h19 k0_h20 => k0_hw7.1.2.2.2.2.2.2.2.2.2.2.2.2.2.2.2.1 k0_t1 k0_h19 k0_h20
theorem k0_off41_inb : ∀ (v0 : BitVec 32) (k0_hw7 : k0_chk7 v0) (k0_t1 : Fin (k0_t1_loop v0).trips), ∀ (k0_h19 : k0_cond19 v0 k0_t1 = 1#1), ∀ a, (k0_off41 v0 k0_t1) a + S1.size a ≤ S72.size a := fun v0 k0_hw7 k0_t1 k0_h19 => k0_hw7.1.2.2.2.2.2.2.2.2.2.2.2.2.2.2.2.2.1 k0_t1 k0_h19
theorem k0_t2_ok : ∀ (v0 : BitVec 32) (k0_hw7 : k0_chk7 v0), (k0_t2_loop v0).OK := fun v0 k0_hw7 => k0_hw7.1.2.2.2.2.2.2.2.2.2.2.2.2.2.2.2.2.2.1
theorem k0_off43_inb : ∀ (v0 : BitVec 32) (k0_hw7 : k0_chk7 v0) (k0_t2 : Fin (k0_t2_loop v0).trips), ∀ (k0_h24 : k0_cond24 v0 k0_t2 = 1#1), ∀ a, (k0_off43 v0 k0_t2) a + S1.size a ≤ S72.size a := fun v0 k0_hw7 k0_t2 k0_h24 => k0_hw7.1.2.2.2.2.2.2.2.2.2.2.2.2.2.2.2.2.2.2.1 k0_t2 k0_h24
theorem k0_off45_inb : ∀ (v0 : BitVec 32) (k0_hw7 : k0_chk7 v0) (k0_t2 : Fin (k0_t2_loop v0).trips), ∀ (k0_h24 : k0_cond24 v0 k0_t2 = 1#1), ∀ (k0_h25 : k0_cond25 v0 k0_t2 = 1#1), ∀ a, (k0_off45 v0 k0_t2) a + S1.size a ≤ S72.size a := fun v0 k0_hw7 k0_t2 k0_h24 k0_h25 => k0_hw7.1.2.2.2.2.2.2.2.2.2.2.2.2.2.2.2.2.2.2.2.1 k0_t2 k0_h24 k0_h25
theorem k0_off47_inb : ∀ (v0 : BitVec 32) (k0_hw7 : k0_chk7 v0) (k0_t2 : Fin (k0_t2_loop v0).trips), ∀ (k0_h24 : k0_cond24 v0 k0_t2 = 1#1), ∀ (k0_h25 : k0_cond25 v0 k0_t2 = 1#1), ∀ a, (k0_off47 v0 k0_t2) a + S1.size a ≤ S72.size a := fun v0 k0_hw7 k0_t2 k0_h24 k0_h25 => k0_hw7.1.2.2.2.2.2.2.2.2.2.2.2.2.2.2.2.2.2.2.2.2.1 k0_t2 k0_h24 k0_h25
theorem k0_off50_inb : ∀ (v0 : BitVec 32) (k0_hw7 : k0_chk7 v0) (k0_t2 : Fin (k0_t2_loop v0).trips), ∀ (k0_h24 : k0_cond24 v0 k0_t2 = 1#1), ∀ a, (k0_off50 v0 k0_t2) a + S1.size a ≤ S72.size a := fun v0 k0_hw7 k0_t2 k0_h24 => k0_hw7.1.2.2.2.2.2.2.2.2.2.2.2.2.2.2.2.2.2.2.2.2.2.1 k0_t2 k0_h24
theorem k0_off52_inb : ∀ (v0 : BitVec 32) (k0_hw7 : k0_chk7 v0) (k0_t2 : Fin (k0_t2_loop v0).trips), ∀ (k0_h29 : k0_cond29 v0 k0_t2 = 1#1), ∀ a, (k0_off52 v0 k0_t2) a + S1.size a ≤ S72.size a := fun v0 k0_hw7 k0_t2 k0_h29 => k0_hw7.1.2.2.2.2.2.2.2.2.2.2.2.2.2.2.2.2.2.2.2.2.2.2.1 k0_t2 k0_h29
theorem k0_off54_inb : ∀ (v0 : BitVec 32) (k0_hw7 : k0_chk7 v0) (k0_t2 : Fin (k0_t2_loop v0).trips), ∀ (k0_h29 : k0_cond29 v0 k0_t2 = 1#1), ∀ (k0_h30 : k0_cond30 v0 k0_t2 = 1#1), ∀ a, (k0_off54 v0 k0_t2) a + S1.size a ≤ S72.size a := fun v0 k0_hw7 k0_t2 k0_h29 k0_h30 => k0_hw7.1.2.2.2.2.2.2.2.2.2.2.2.2.2.2.2.2.2.2.2.2.2.2.2.1 k0_t2 k0_h29 k0_h30
theorem k0_off56_inb : ∀ (v0 : BitVec 32) (k0_hw7 : k0_chk7 v0) (k0_t2 : Fin (k0_t2_loop v0).trips), ∀ (k0_h29 : k0_cond29 v0 k0_t2 = 1#1), ∀ (k0_h30 : k0_cond30 v0 k0_t2 = 1#1), ∀ a, (k0_off56 v0 k0_t2) a + S1.size a ≤ S72.size a := fun v0 k0_hw7 k0_t2 k0_h29 k0_h30 => k0_hw7.1.2.2.2.2.2.2.2.2.2.2.2.2.2.2.2.2.2.2.2.2.2.2.2.2.1 k0_t2 k0_h29 k0_h30
theorem k0_off59_inb : ∀ (v0 : BitVec 32) (k0_hw7 : k0_chk7 v0) (k0_t2 : Fin (k0_t2_loop v0).trips), ∀ (k0_h29 : k0_cond29 v0 k0_t2 = 1#1), ∀ a, (k0_off59 v0 k0_t2) a + S1.size a ≤ S72.size a := fun v0 k0_hw7 k0_t2 k0_h29 => k0_hw7.1.2.2.2.2.2.2.2.2.2.2.2.2.2.2.2.2.2.2.2.2.2.2.2.2.2.1 k0_t2 k0_h29
theorem k0_off61_inb : ∀ (v0 : BitVec 32) (k0_hw7 : k0_chk7 v0) (k0_t2 : Fin (k0_t2_loop v0).trips), ∀ (k0_h34 : k0_cond34 v0 k0_t2 = 1#1), ∀ a, (k0_off61 v0 k0_t2) a + S1.size a ≤ S72.size a := fun v0 k0_hw7 k0_t2 k0_h34 => k0_hw7.1.2.2.2.2.2.2.2.2.2.2.2.2.2.2.2.2.2.2.2.2.2.2.2.2.2.2.1 k0_t2 k0_h34
theorem k0_off63_inb : ∀ (v0 : BitVec 32) (k0_hw7 : k0_chk7 v0) (k0_t2 : Fin (k0_t2_loop v0).trips), ∀ (k0_h34 : k0_cond34 v0 k0_t2 = 1#1), ∀ (k0_h35 : k0_cond35 v0 k0_t2 = 1#1), ∀ a, (k0_off63 v0 k0_t2) a + S1.size a ≤ S72.size a := fun v0 k0_hw7 k0_t2 k0_h34 k0_h35 => k0_hw7.1.2.2.2.2.2.2.2.2.2.2.2.2.2.2.2.2.2.2.2.2.2.2.2.2.2.2.2.1 k0_t2 k0_h34 k0_h35
theorem k0_off65_inb : ∀ (v0 : BitVec 32) (k0_hw7 : k0_chk7 v0) (k0_t2 : Fin (k0_t2_loop v0).trips), ∀ (k0_h34 : k0_cond34 v0 k0_t2 = 1#1), ∀ (k0_h35 : k0_cond35 v0 k0_t2 = 1#1), ∀ a, (k0_off65 v0 k0_t2) a + S1.size a ≤ S72.size a := fun v0 k0_hw7 k0_t2 k0_h34 k0_h35 => k0_hw7.1.2.2.2.2.2.2.2.2.2.2.2.2.2.2.2.2.2.2.2.2.2.2.2.2.2.2.2.2.1 k0_t2 k0_h34 k0_h35
theorem k0_off68_inb : ∀ (v0 : BitVec 32) (k0_hw7 : k0_chk7 v0) (k0_t2 : Fin (k0_t2_loop v0).trips), ∀ (k0_h34 : k0_cond34 v0 k0_t2 = 1#1), ∀ a, (k0_off68 v0 k0_t2) a + S1.size a ≤ S72.size a := fun v0 k0_hw7 k0_t2 k0_h34 => k0_hw7.1.2.2.2.2.2.2.2.2.2.2.2.2.2.2.2.2.2.2.2.2.2.2.2.2.2.2.2.2.2.1 k0_t2 k0_h34
theorem k0_off70_inb : ∀ (v0 : BitVec 32) (k0_hw7 : k0_chk7 v0) (k0_t2 : Fin (k0_t2_loop v0).trips), ∀ (k0_h39 : k0_cond39 v0 k0_t2 = 1#1), ∀ a, (k0_off70 v0 k0_t2) a + S1.size a ≤ S72.size a := fun v0 k0_hw7 k0_t2 k0_h39 => k0_hw7.1.2.2.2.2.2.2.2.2.2.2.2.2.2.2.2.2.2.2.2.2.2.2.2.2.2.2.2.2.2.2.1 k0_t2 k0_h39
theorem k0_off72_inb : ∀ (v0 : BitVec 32) (k0_hw7 : k0_chk7 v0) (k0_t2 : Fin (k0_t2_loop v0).trips), ∀ (k0_h39 : k0_cond39 v0 k0_t2 = 1#1), ∀ (k0_h40 : k0_cond40 v0 k0_t2 = 1#1), ∀ a, (k0_off72 v0 k0_t2) a + S1.size a ≤ S72.size a := fun v0 k0_hw7 k0_t2 k0_h39 k0_h40 => k0_hw7.1.2.2.2.2.2.2.2.2.2.2.2.2.2.2.2.2.2.2.2.2.2.2.2.2.2.2.2.2.2.2.2 k0_t2 k0_h39 k0_h40
theorem k0_off74_inb : ∀ (v0 : BitVec 32) (k0_hw7 : k0_chk7 v0) (k0_t2 : Fin (k0_t2_loop v0).trips), ∀ (k0_h39 : k0_cond39 v0 k0_t2 = 1#1), ∀ (k0_h40 : k0_cond40 v0 k0_t2 = 1#1), ∀ a, (k0_off74 v0 k0_t2) a + S1.size a ≤ S72.size a := fun v0 k0_hw7 k0_t2 k0_h39 k0_h40 => k0_hw7.2.1 k0_t2 k0_h39 k0_h40
theorem k0_off77_inb : ∀ (v0 : BitVec 32) (k0_hw7 : k0_chk7 v0) (k0_t2 : Fin (k0_t2_loop v0).trips), ∀ (k0_h39 : k0_cond39 v0 k0_t2 = 1#1), ∀ a, (k0_off77 v0 k0_t2) a + S1.size a ≤ S72.size a := fun v0 k0_hw7 k0_t2 k0_h39 => k0_hw7.2.2 k0_t2 k0_h39

def k0_off78 (v86 : BitVec 32) (v88 : BitVec 32) : Fin 3 → Nat :=
  let c64_i32_73 : BitVec 32 := 64#32
  let v116 : BitVec 32 := Scalar.muli v88 c64_i32_73
  let c0_i32_79 : BitVec 32 := 0#32
  ![v86.toNat, v116.toNat, 0]
def k0_cond43 (v112 : BitVec 32) : BitVec 1 :=
  let c1_i32_71 : BitVec 32 := 1#32
  let v113 : BitVec 1 := Scalar.cmpi .eq v112 c1_i32_71
  let v114 : BitVec 32 := Scalar.extui v113
  let c0_i32_72 : BitVec 32 := 0#32
  let v115 : BitVec 1 := Scalar.cmpi .ne v114 c0_i32_72
  v115

def k0_chk47 (v0 : BitVec 32) (k0_t2 : Fin (k0_t2_loop v0).trips) (v86 : BitVec 32) (v88 : BitVec 32) (v112 : BitVec 32) : Prop :=
  (∀ (k0_h39 : k0_cond39 v0 k0_t2 = 1#1), ∀ (k0_h43 : k0_cond43 v112 = 1#1), ∀ a, (k0_off78 v86 v88) a + S1x64x10000.size a ≤ S8x512x10000.size a)
theorem k0_off78_inb : ∀ (v0 : BitVec 32) (k0_t2 : Fin (k0_t2_loop v0).trips) (v86 : BitVec 32) (v88 : BitVec 32) (v112 : BitVec 32) (k0_hw47 : k0_chk47 v0 k0_t2 v86 v88 v112), ∀ (k0_h39 : k0_cond39 v0 k0_t2 = 1#1), ∀ (k0_h43 : k0_cond43 v112 = 1#1), ∀ a, (k0_off78 v86 v88) a + S1x64x10000.size a ≤ S8x512x10000.size a := fun v0 k0_t2 v86 v88 v112 k0_hw47 k0_h39 k0_h43 => k0_hw47 k0_h39 k0_h43

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "confidence_minus_smooth" => some ((8999 / 9999 : ℝ) : EReal)
  | "smooth" => some ((1 / 99990 : ℝ) : EReal)
  | _ => none
-- ==== ReferenceIdeal.lean ====
abbrev S8x513x10000 : Shape := ⟨3, ![8, 513, 10000]⟩
abbrev S8 : Shape := ⟨1, ![8]⟩
abbrev S8x512x10000 : Shape := ⟨3, ![8, 512, 10000]⟩
abbrev S_ : Shape := ⟨0, ![]⟩
abbrev S8x513 : Shape := ⟨2, ![8, 513]⟩
abbrev S8x512 : Shape := ⟨2, ![8, 512]⟩
abbrev S8x512x1 : Shape := ⟨3, ![8, 512, 1]⟩
abbrev S512 : Shape := ⟨1, ![512]⟩
abbrev S1x512 : Shape := ⟨2, ![1, 512]⟩
abbrev S8x1 : Shape := ⟨2, ![8, 1]⟩
abbrev S8x512x1x1 : Shape := ⟨4, ![8, 512, 1, 1]⟩
abbrev S1 : Shape := ⟨1, ![1]⟩
abbrev S1x1x1x1 : Shape := ⟨4, ![1, 1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x513x10000, .f32⟩
  | .hbm, ⟨1, _⟩ => ⟨S8, .i32⟩
  | .hbm, ⟨2, _⟩ => ⟨S8x512x10000, .f32⟩
  | .hbm, ⟨3, _⟩ => ⟨S8x513x10000, .i32⟩
  | .hbm, ⟨4, _⟩ => ⟨S_, .f32⟩
  | .hbm, ⟨5, _⟩ => ⟨S_, .i32⟩
  | .hbm, ⟨6, _⟩ => ⟨S8x513, .f32⟩
  | .hbm, ⟨7, _⟩ => ⟨S8x513, .i32⟩
  | .hbm, ⟨8, _⟩ => ⟨S8x512, .i32⟩
  | .hbm, ⟨9, _⟩ => ⟨S_, .f32⟩
  | .hbm, ⟨10, _⟩ => ⟨S8x512, .f32⟩
  | .hbm, ⟨11, _⟩ => ⟨S_, .f32⟩
  | .hbm, ⟨12, _⟩ => ⟨S8x512, .f32⟩
  | .hbm, ⟨13, _⟩ => ⟨S8x512, .f32⟩
  | .hbm, ⟨14, _⟩ => ⟨S8x512x1, .f32⟩
  | .hbm, ⟨15, _⟩ => ⟨S8x512x10000, .f32⟩
  | .hbm, ⟨16, _⟩ => ⟨S8x512x10000, .f32⟩
  | .hbm, ⟨17, _⟩ => ⟨S8x512x10000, .f32⟩
  | .hbm, ⟨18, _⟩ => ⟨S_, .f32⟩
  | .hbm, ⟨19, _⟩ => ⟨S8x512, .f32⟩
  | .hbm, ⟨20, _⟩ => ⟨S8x512x1, .f32⟩
  | .hbm, ⟨21, _⟩ => ⟨S8x512x1, .f32⟩
  | .hbm, ⟨22, _⟩ => ⟨S8x512x10000, .f32⟩
  | .hbm, ⟨23, _⟩ => ⟨S8x512x10000, .f32⟩
  | .hbm, ⟨24, _⟩ => ⟨S512, .i32⟩
  | .hbm, ⟨25, _⟩ => ⟨S1x512, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S8x512, .i32⟩
  | .hbm, ⟨31, _⟩ => ⟨S8x512, .i32⟩
  | .hbm, ⟨32, _⟩ => ⟨S8x512, .i1⟩
  | .hbm, ⟨33, _⟩ => ⟨S8x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x512x1, .i32⟩
  | .hbm, ⟨42, _⟩ => ⟨S_, .i32⟩
  | .hbm, ⟨43, _⟩ => ⟨S8x512x1, .i32⟩
  | .hbm, ⟨44, _⟩ => ⟨S8x512x1, .i1⟩
  | .hbm, ⟨45, _⟩ => ⟨S_, .i32⟩
  | .hbm, ⟨46, _⟩ => ⟨S8x512x1, .i32⟩
  | .hbm, ⟨47, _⟩ => ⟨S8x512x1, .i32⟩
  | .hbm, ⟨48, _⟩ => ⟨S8x512x1, .i32⟩
  | .hbm, ⟨49, _⟩ => ⟨S8x512x1x1, .i32⟩
  | .hbm, ⟨50, _⟩ => ⟨S1, .i32⟩
  | .hbm, ⟨51, _⟩ => ⟨S_, .i32⟩
  | .hbm, ⟨52, _⟩ => ⟨S8x512x1x1, .i32⟩
  | .hbm, ⟨53, _⟩ => ⟨S8x512x1x1, .i1⟩
  | .hbm, ⟨54, _⟩ => ⟨S1x1x1x1, .i32⟩
  | .hbm, ⟨55, _⟩ => ⟨S8x512x1x1, .i32⟩
  | .hbm, ⟨56, _⟩ => ⟨S8x512x1x1, .i1⟩
  | .hbm, ⟨57, _⟩ => ⟨S8x512x1x1, .i1⟩
  | .hbm, ⟨58, _⟩ => ⟨S_, .i1⟩
  | .hbm, ⟨59, _⟩ => ⟨S8x512x1, .i1⟩
  | .hbm, ⟨60, _⟩ => ⟨S8x512x1, .f32⟩
  | .hbm, ⟨61, _⟩ => ⟨S_, .f32⟩
  | .hbm, ⟨62, _⟩ => ⟨S8x512x1, .f32⟩
  | .hbm, ⟨63, _⟩ => ⟨S8x512x1, .f32⟩
  | .hbm, ⟨64, _⟩ => ⟨S8x512, .f32⟩
  | .hbm, ⟨65, _⟩ => ⟨S_, .f32⟩
  | .hbm, ⟨66, _⟩ => ⟨S8x512, .f32⟩
  | .hbm, ⟨67, _⟩ => ⟨S8x512, .f32⟩
  | .hbm, ⟨68, _⟩ => ⟨S8x512, .f32⟩
  | .hbm, ⟨69, _⟩ => ⟨S8x512, .f32⟩
  | .hbm, ⟨70, _⟩ => ⟨S8x512, .f32⟩
  | .hbm, ⟨71, _⟩ => ⟨S8x512, .f32⟩
  | .hbm, ⟨72, _⟩ => ⟨S8x512, .f32⟩
  | .hbm, ⟨73, _⟩ => ⟨S8x512, .f32⟩
  | .hbm, ⟨74, _⟩ => ⟨S8x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8x513x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v0 : Ref sig .tc := ⟨.hbm, 7, rfl⟩
abbrev main_v1 : Ref sig .tc := ⟨.hbm, 8, rfl⟩
abbrev main_call1_cst : Ref sig .tc := ⟨.hbm, 9, rfl⟩
abbrev main_call1_v0 : Ref sig .tc := ⟨.hbm, 10, rfl⟩
abbrev main_call1_cst_0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_cst_1 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_cst_0 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v16 : Ref sig .tc := ⟨.hbm, 63, rfl⟩
abbrev main_v17 : Ref sig .tc := ⟨.hbm, 64, rfl⟩
abbrev main_cst_3 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_4 : Ref sig .tc := ⟨.hbm, 75, rfl⟩
abbrev main_v27 : Ref sig .tc := ⟨.hbm, 76, rfl⟩
abbrev main_cst_5 : Ref sig .tc := ⟨.hbm, 77, rfl⟩
abbrev main_v28 : Ref sig .tc := ⟨.hbm, 78, rfl⟩
abbrev main_v29 : Ref sig .tc := ⟨.hbm, 79, rfl⟩

abbrev nD : Nat := 1
abbrev τ : Topo := Topo.v7x

variable {F : FTy → Type} [FloatOps F]
-- ==== Proof.Ranged.lean ====
/-
  The precondition on the lengths, read: where the printed predicate is all ones, no length exceeds 510.
-/
module

public import proofs.«01_k».proof.Pre_lengths_in_range
public import Idealize.ShloMosaic.Lib.ValueIdx

@[expose] public section

namespace Cert.Proof.Ranged

open Idealize.ShloMosaic Idealize.ShloMosaic.ValueIdx

instance facts : Cert.Pre_lengths_in_range.Facts where
  bcast_S_S8 := by decide

/-- A word in the signed range 0 to 510 is at most 510 as a natural number. -/
theorem word_le (x : BitVec 32) (h : IntOp.andi (IntOp.cmpi .sge x 0#32) (IntOp.cmpi .sle x 510#32) = 1#1) : x.toNat ≤ 510 := by
  have h' : (0#32).sle x = true ∧ x.sle 510#32 = true := by
    revert h
    simp only [IntOp.andi, IntOp.cmpi]
    cases (0#32).sle x <;> cases x.sle 510#32 <;> simp
  obtain ⟨h0, h1⟩ := h'
  simp only [BitVec.sle, decide_eq_true_eq, BitVec.toInt_eq_toNat_cond] at h0 h1
  simp at h0 h1
  have := x.isLt
  split_ifs at h0 h1 <;> omega

/-- Where the predicate holds at every batch row, every length is at most 510. -/
theorem lens_le {F : FTy → Type} [FloatOps F] (T : FVec F Cert.Pre_lengths_in_range.S8x513x10000 .f32)
    (L : IVec Cert.Pre_lengths_in_range.S8 32) (X : FVec F Cert.Pre_lengths_in_range.S8x512x10000 .f32)
    (h : Cert.Pre_lengths_in_range.fn T L X = fun _ => 1#1) (b : Fin 8) : (L (ix1 b)).toNat ≤ 510 :=
  word_le _ (congrFun h (ix1 b))

end Cert.Proof.Ranged
-- ==== Proof.Tables.lean ====
/-
  The tables that the host works out from the lengths: for each stage the batch whose block of rows it takes, which
  block of that batch it is and whether the block's first target row closes the block before; how many stages there
  are; and the number of rows counted. Each is read here in natural numbers, for lengths of at most 510.
-/
module

public import Idealize.ShloMosaic.Lib.Routing.Words
public import Idealize.ShloMosaic.Lib.Routing.OpsSet

@[expose] public section

set_option maxRecDepth 16384

noncomputable section

namespace Cert.Proof.Tables

open Idealize.ShloMosaic Idealize.ShloMosaic.ValueIdx Idealize.ShloMosaic.Routing Idealize.ShloMosaic.WordCmp

/-! ## The host's functions -/

/-- A word in each of eight places, and of seventy-two. -/
def all8 (v : BitVec 32) : IVec (shape1 8) 32 := broadcastInDim (shape1 8) ![] (by decide) (constantI shape0 32 v)
def all72 (v : BitVec 32) : IVec (shape1 72) 32 := broadcastInDim (shape1 72) ![] (by decide) (constantI shape0 32 v)

section Fns
variable (d : GatherDims (shape1 8) (shape2 72 1) (shape1 72)) (L : IVec (shape1 8) 32)

/-- How many blocks each batch has. -/
def nb : IVec (shape1 8) 32 := addi (pyDiv (by decide) (addi L (all8 1#32)) (constantI shape0 32 64#32)) (all8 1#32)
/-- The block that holds each batch's last row. -/
def last : IVec (shape1 8) 32 := pyDiv (by decide) L (constantI shape0 32 64#32)
/-- The blocks up to the end of each batch. -/
def cum : IVec (shape1 8) 32 :=
  Host.reduceWindow IntOp.addi ![8] ![1] ![7] ![0] (nb L) (broadcastInDim shape0 ![] (by decide) (constantI shape0 32 0#32)) (by decide) (by decide)
/-- The blocks before each batch. -/
def start : IVec (shape1 8) 32 := subi (cum L) (nb L)
/-- Whether a batch's blocks have all come before a stage. -/
def ended : IVec (shape2 72 8) 1 :=
  cmpi .sle (broadcastInDim (shape2 72 8) ![0, 1] (by decide) (broadcastInDim (shape2 1 8) ![1] (by decide) (cum L)))
    (broadcastInDim (shape2 72 8) ![0, 1] (by decide) (broadcastInDim (shape2 72 1) ![0] (by decide) (iotaInDim (shape1 72) 32 0)))
/-- The batch of each stage. -/
def bs : IVec (shape1 72) 32 :=
  minsi (Host.reduce IntOp.addi (extui 32 (ended L) (by decide))
    (constantI shape0 32 0#32) (show (shape2 72 8).ReducesTo [1] (shape1 72) by decide) (by decide)) (all72 7#32)
/-- The word of each stage's batch, out of eight. -/
def take (x : IVec (shape1 8) 32) (i : IVec (shape1 72) 32) : IVec (shape1 72) 32 :=
  Host.gather d x (broadcastInDim (shape2 72 1) ![0] (by decide) (select (cmpi .slt i (all72 0#32)) (addi i (all72 8#32)) i))
/-- The block of each stage in its batch. -/
def js : IVec (shape1 72) 32 := subi (iotaInDim (shape1 72) 32 0) (take d (start L) (bs L))
/-- Whether each stage's block is no further than its batch's last row. -/
def tf : IVec (shape1 72) 32 := extui 32 (cmpi .sle (js d L) (take d (last L) (bs L))) (by decide)
/-- How many stages there are. -/
def tot : IVec shape0 32 := shapeCast shape0 (extractStridedSlice (shape1 1) ![7] (cum L) (by decide)) (by decide)
/-- How many rows are counted. -/
def cnt : IVec shape0 32 := Host.reduce IntOp.addi (addi L (all8 1#32)) (constantI shape0 32 0#32) (show (shape1 8).ReducesTo [0] shape0 by decide) (by decide)
end Fns

/-! ## In natural numbers -/

section Nat
variable (l : ℕ → ℕ)

/-- How many blocks batch `b` of length `l b` has, and how many all batches before `b` have. -/
def nbN (b : ℕ) : ℕ := (l b + 1) / 64 + 1
def stN (b : ℕ) : ℕ := ((List.range b).map (nbN l)).sum
/-- The batch of stage `k`. -/
def bsN (k : ℕ) : ℕ := min 7 (Nat.count (fun b => stN l (b + 1) ≤ k) 8)

theorem stN_succ (b : ℕ) : stN l (b + 1) = stN l b + nbN l b := by
  unfold stN
  rw [List.range_succ, List.map_append, List.sum_append]
  simp
theorem stN_zero : stN l 0 = 0 := rfl
theorem nbN_pos (b : ℕ) : 0 < nbN l b := Nat.succ_pos _
theorem stN_mono {a b : ℕ} (h : a ≤ b) : stN l a ≤ stN l b := by
  induction h with
  | refl => exact le_rfl
  | step _ ih => rw [stN_succ]; omega
theorem count_lt (b : ℕ) (hb : b ≤ 8) : Nat.count (fun x => x < b) 8 = b := by
  interval_cases b <;> decide
/-- Stage `stN b + j` is batch `b`'s, for each block `j` of it. -/
theorem bsN_at (b j : ℕ) (hb : b < 8) (hj : j < nbN l b) : bsN l (stN l b + j) = b := by
  unfold bsN
  have e : (fun x => stN l (x + 1) ≤ stN l b + j) = fun x => x < b := by
    funext x
    refine propext ⟨fun h => ?_, fun h => ?_⟩
    · by_contra hx
      have h1 := stN_mono l (show b + 1 ≤ x + 1 by omega)
      rw [stN_succ l b] at h1
      omega
    · have := stN_mono l (show x + 1 ≤ b by omega)
      omega
  have e2 : Nat.count (fun x => stN l (x + 1) ≤ stN l b + j) 8 = b := by
    simp only [e]
    convert count_lt b (by omega)
  rw [e2]; omega
/-- Every stage is some batch's. -/
theorem exists_stage (n k : ℕ) (hk : k < stN l n) : ∃ b j, b < n ∧ j < nbN l b ∧ k = stN l b + j := by
  induction n with
  | zero => exact absurd hk (Nat.not_lt_zero _)
  | succ n ih =>
    by_cases h : k < stN l n
    · obtain ⟨b, j, hb, hj, e⟩ := ih h
      exact ⟨b, j, by omega, hj, e⟩
    · rw [stN_succ] at hk
      exact ⟨n, k - stN l n, by omega, by omega, by omega⟩
theorem bsN_lt (k : ℕ) : bsN l k < 8 := by unfold bsN; omega
theorem stN_bsN_le (k : ℕ) (hk : k < stN l 8) : stN l (bsN l k) ≤ k := by
  obtain ⟨b, j, hb, hj, rfl⟩ := exists_stage l 8 k hk
  rw [bsN_at l b j hb hj]; omega
theorem lt_nbN (k : ℕ) (hk : k < stN l 8) : k - stN l (bsN l k) < nbN l (bsN l k) := by
  obtain ⟨b, j, hb, hj, rfl⟩ := exists_stage l 8 k hk
  rw [bsN_at l b j hb hj]; omega
/-- A sum over the stages, batch by batch. -/
theorem sum_stages {M : Type} [AddCommMonoid M] (f : ℕ → ℕ → M) (n : ℕ) (hn : n ≤ 8) :
    (∑ k ∈ Finset.range (stN l n), f (bsN l k) (k - stN l (bsN l k))) = ∑ b ∈ Finset.range n, ∑ j ∈ Finset.range (nbN l b), f b j := by
  induction n with
  | zero => rfl
  | succ n ih =>
    rw [Finset.sum_range_succ, stN_succ, Finset.sum_range_add, ih (by omega)]
    refine congrArg _ (Finset.sum_congr rfl fun j hj => ?_)
    rw [bsN_at l n j (by omega) (Finset.mem_range.1 hj), Nat.add_sub_cancel_left]
variable (hl : ∀ b, l b ≤ 510)
include hl
theorem nbN_le (b : ℕ) : nbN l b ≤ 8 := by have := hl b; unfold nbN; omega
theorem stN_le (b : ℕ) : stN l b ≤ 8 * b := by
  induction b with
  | zero => exact le_rfl
  | succ b ih => rw [stN_succ]; have := nbN_le l hl b; omega
omit hl in
theorem le_stN (b : ℕ) : b ≤ stN l b := by
  induction b with
  | zero => exact le_rfl
  | succ b ih => rw [stN_succ]; have := nbN_pos l b; omega
end Nat

/-! ## The words -/

section Words
variable (d : GatherDims (shape1 8) (shape2 72 1) (shape1 72)) (hcoll : d.collapsedSliceDims = [0]) (hob : d.operandBatchingDims = [])
  (hsim : d.startIndexMap = [0]) (hivd : d.indexVectorDim = 1)
  (L : IVec (shape1 8) 32) (hL : ∀ b : Fin 8, (L (ix1 b)).toNat ≤ 510)

/-- The lengths as natural numbers. -/
def len (b : ℕ) : ℕ := if h : b < 8 then (L (ix1 ⟨b, h⟩)).toNat else 0
theorem len_at (b : Fin 8) : L (ix1 b) = BitVec.ofNat 32 (len L b.val) := by
  unfold len; rw [dif_pos b.isLt, BitVec.ofNat_toNat, BitVec.setWidth_eq]
include hL in
theorem len_le (b : ℕ) : len L b ≤ 510 := by
  unfold len
  split
  · exact hL _
  · omega
theorem all8_at (v : BitVec 32) (i : (shape1 8).Idx) : all8 v i = v := rfl
theorem all72_at (v : BitVec 32) (i : (shape1 72).Idx) : all72 v i = v := rfl

include hL
theorem nb_at (b : Fin 8) : nb L (ix1 b) = BitVec.ofNat 32 (nbN (len L) b.val) := by
  have h := len_le L hL b.val
  unfold nb nbN
  rw [addi_ap, pyDiv_ap (a := len L b.val + 1) (b := 64) _ _ _ _ ?_ rfl (by omega) (by decide) (by decide)]
  · rw [all8_at, show (1#32 : BitVec 32) = BitVec.ofNat 32 1 from rfl, ← BitVec.ofNat_add]
  · rw [addi_ap, len_at L b, all8_at, show (1#32 : BitVec 32) = BitVec.ofNat 32 1 from rfl, ← BitVec.ofNat_add]
theorem last_at (b : Fin 8) : last L (ix1 b) = BitVec.ofNat 32 (len L b.val / 64) := by
  have h := len_le L hL b.val
  unfold last
  exact pyDiv_ap (a := len L b.val) (b := 64) _ _ _ _ (len_at L b) rfl (by omega) (by decide) (by decide)
theorem cum_at (b : Fin 8) : cum L (ix1 b) = BitVec.ofNat 32 (stN (len L) (b.val + 1)) :=
  cumsum1 (N := 8) (Nm1 := 7) rfl (nb L) (nbN (len L)) (nb_at L hL) _ rfl _ _ b
theorem start_at (b : Fin 8) : start L (ix1 b) = BitVec.ofNat 32 (stN (len L) b.val) := by
  unfold start
  rw [subi_ap, cum_at L hL, nb_at L hL, stN_succ, BitVec.ofNat_add]
  exact BitVec.add_sub_cancel _ _
theorem bs_at (k : Fin 72) : bs L (ix1 k) = BitVec.ofNat 32 (bsN (len L) k.val) := by
  have hk := k.isLt
  have hs : ∀ q : Fin 8, stN (len L) (q.val + 1) ≤ 64 := fun q => (stN_le (len L) (len_le L hL) (q.val + 1)).trans (by have := q.isLt; omega)
  have hq : ∀ q : Fin 8, ended L (ix2 k q) = 1#1 ↔ stN (len L) (q.val + 1) ≤ k.val := fun q => by
    have := hs q
    unfold ended
    rw [cmpi_at, bcCols, bcRows, cum_at L hL, iota1_ap]
    exact cmpi_sle_ofNat_eq_one_iff (w := 32) (by omega) (by omega)
  have hr := reduce_count (n := 72) (m := 8) (by decide) (ended L) (by decide) (show (shape2 72 8).ReducesTo [1] (shape1 72) by decide) (by decide) k (fun b => stN (len L) (b + 1) ≤ k.val) hq
  unfold bs
  show IntOp.minsi _ (all72 7#32 (ix1 k)) = _
  rw [hr, all72_at]
  have hc : Nat.count (fun b => stN (len L) (b + 1) ≤ k.val) 8 ≤ 8 := Nat.count_le _
  unfold bsN
  generalize Nat.count (fun b => stN (len L) (b + 1) ≤ k.val) 8 = n at hc ⊢
  interval_cases n <;> decide
include hcoll hob hsim hivd in
omit hL in
theorem take_at (x : IVec (shape1 8) 32) (i : IVec (shape1 72) 32) (k : Fin 72) (b : Fin 8) (hi : i (ix1 k) = BitVec.ofNat 32 b.val) :
    take d x i (ix1 k) = x (ix1 b) := by
  unfold take
  refine gather_take1 d hcoll hob hsim hivd _ _ k b ?_ (by decide)
  rw [bcCol, select_at, cmpi_at, hi, all72_at]
  have hb := b.isLt
  rw [show (0#32 : BitVec 32) = BitVec.ofNat 32 0 from rfl, cmpi_slt_ofNat (w := 32) (by omega) (by decide)]
  simp only [Nat.not_lt_zero, decide_false]
  rfl
include hcoll hob hsim hivd
theorem js_at (k : Fin 72) (hk : k.val < stN (len L) 8) : js d L (ix1 k) = BitVec.ofNat 32 (k.val - stN (len L) (bsN (len L) k.val)) := by
  unfold js
  have hle := stN_bsN_le (len L) k.val hk
  rw [subi_ap, iota1_ap, take_at d hcoll hob hsim hivd _ _ k ⟨bsN (len L) k.val, bsN_lt _ _⟩ (bs_at L hL k), start_at L hL]
  exact ofNat32_sub hle
theorem tf_at (k : Fin 72) (hk : k.val < stN (len L) 8) :
    tf d L (ix1 k) = if k.val - stN (len L) (bsN (len L) k.val) ≤ len L (bsN (len L) k.val) / 64 then 1#32 else 0#32 := by
  unfold tf
  have hl := len_le L hL (bsN (len L) k.val)
  have hk' := k.isLt
  have hb : len L (bsN (len L) k.val) / 64 ≤ 510 := (Nat.div_le_self _ _).trans hl
  show (cmpi .sle (js d L) (take d (last L) (bs L)) (ix1 k)).setWidth 32 = _
  rw [cmpi_at, js_at d hcoll hob hsim hivd L hL k hk, take_at d hcoll hob hsim hivd _ _ k ⟨bsN (len L) k.val, bsN_lt _ _⟩ (bs_at L hL k),
    last_at L hL, cmpi_sle_ofNat (w := 32) (by omega) (lt_of_le_of_lt hb (by decide)), setWidth_ofBool]
  split <;> rfl
omit hcoll hob hsim hivd
theorem tot_at (i : shape0.Idx) : tot L i = BitVec.ofNat 32 (stN (len L) 8) := by
  unfold tot
  refine (shapeCast_apply _ _ i (ix1 (0 : Fin 1)) ?_).trans ?_
  · rw [Shape.rowMajor_val_one]
    have h := (shape0.rowMajor i).isLt
    have e : shape0.numel = 1 := by decide
    show 0 = (shape0.rowMajor i).val
    omega
  · rw [slice1 7 (cum L) _ (0 : Fin 1) (by decide)]
    exact cum_at L hL 7
theorem cnt_at : cnt L ix0 = BitVec.ofNat 32 (∑ b ∈ Finset.range 8, (len L b + 1)) := by
  unfold cnt
  rw [reduce_sum (N := 8) (addi L (all8 1#32)) (fun b => len L b + 1) (fun b => by
    rw [addi_ap, len_at L b, all8_at, show (1#32 : BitVec 32) = BitVec.ofNat 32 1 from rfl, ← BitVec.ofNat_add])]
  rfl
end Words

end Cert.Proof.Tables

end
-- ==== Proof.Rows.lean ====
/-
  The loss of one row over the extended reals, as the kernel writes it and as the reference writes it, both equal to one
  real number; and the two ways the rows of a batch are summed.
-/
module

public import Idealize.ShloMosaic.PureOps
public import Idealize.ShloMosaic.PureOps.Ideal.Laws

@[expose] public section

noncomputable section

namespace Cert.Proof.Rows

open Idealize.ShloMosaic

/-! ## Constants -/

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_ten : Ideal.ofBits .f32 0x41200000#32 = ((10 : ℝ) : EReal) := by
  simp [Ideal.ofBits, Ideal.ieee]; rw [← EReal.coe_mul]; congr 1; norm_num
theorem ofBits_9999 : Ideal.ofBits .f32 0x461C3C00#32 = ((9999 : ℝ) : EReal) := by
  simp [Ideal.ofBits, Ideal.ieee]; rw [← EReal.coe_mul]; congr 1; norm_num

/-- Class `k` alone has the row's largest entry. -/
def Only (τ : Fin 10000 → EReal) (k : Fin 10000) : Prop := ∀ v, τ v = Finset.univ.fold max ⊥ τ ↔ v = k

/-! ## Finite sums of reals -/

variable {n : ℕ}

theorem coe_sum {ι : Type} (s : Finset ι) (x : ι → ℝ) : (∑ v ∈ s, (x v : EReal)) = ((∑ v ∈ s, x v : ℝ) : EReal) := by
  classical
  induction s using Finset.induction_on with
  | empty => simp
  | insert a s ha ih => rw [Finset.sum_insert ha, Finset.sum_insert ha, ih, EReal.coe_add]

/-- The logarithm of the sum of the exponentials of a row of reals is a real. -/
theorem log_sum_exp (x : Fin (n + 1) → ℝ) :
    Ideal.log (∑ v, Ideal.exp (x v : EReal)) = ((Real.log (∑ v, Real.exp (x v)) : ℝ) : EReal) := by
  have hpos : 0 < ∑ v, Real.exp (x v) := Finset.sum_pos (fun v _ => Real.exp_pos _) ⟨0, Finset.mem_univ _⟩
  simp only [Ideal.exp_coe]
  rw [coe_sum, Ideal.log_coe, if_neg (not_le.mpr hpos)]

/-- A row's loss at class `k`: the log of the sum of exponentials, less the smoothed mean and the rest of the confidence. -/
def loss (x : Fin (n + 1) → ℝ) (k : Fin (n + 1)) : ℝ :=
  Real.log (∑ v, Real.exp (x v)) - 1 / 99990 * (∑ v, x v) - 8999 / 9999 * x k

/-- The sum of a row over the classes at which `p` holds, where that is `k` alone, is the entry at `k`. -/
theorem sum_pick (x : Fin (n + 1) → ℝ) (p : Fin (n + 1) → Prop) [DecidablePred p] (k : Fin (n + 1)) (hp : ∀ v, p v ↔ v = k) :
    (∑ v, if p v then (x v : EReal) else 0) = (x k : EReal) := by
  simp only [hp]
  rw [Finset.sum_ite_eq' Finset.univ k, if_pos (Finset.mem_univ _)]

/-- The kernel's row. -/
theorem kernel_row (x : Fin (n + 1) → ℝ) (p : Fin (n + 1) → Prop) [DecidablePred p] (k : Fin (n + 1)) (hp : ∀ v, p v ↔ v = k) :
    Ideal.log (∑ v, Ideal.exp (x v : EReal)) - ((1 / 99990 : ℝ) : EReal) * (∑ v, (x v : EReal))
        - ((8999 / 9999 : ℝ) : EReal) * (∑ v, if p v then (x v : EReal) else 0) = (loss x k : EReal) := by
  rw [log_sum_exp, coe_sum, sum_pick x p k hp]
  unfold loss
  rw [EReal.coe_sub, EReal.coe_sub, EReal.coe_mul, EReal.coe_mul]

/-- The largest entry of a row of reals, from −∞, is a real. -/
theorem fold_max_real (x : Fin (n + 1) → ℝ) : ∃ M : ℝ, (Finset.univ.fold max ⊥ fun v => (x v : EReal)) = (M : EReal) := by
  have h : ∀ s : Finset (Fin (n + 1)), (s.fold max ⊥ fun v => (x v : EReal)) = ⊥ ∧ s = ∅ ∨ ∃ M : ℝ, (s.fold max ⊥ fun v => (x v : EReal)) = (M : EReal) := by
    classical
    intro s
    induction s using Finset.induction_on with
    | empty => exact .inl ⟨rfl, rfl⟩
    | insert a s ha ih =>
      right
      rw [Finset.fold_insert ha]
      rcases ih with ⟨e, -⟩ | ⟨M, e⟩
      · exact ⟨x a, by rw [e]; simp⟩
      · exact ⟨max (x a) M, by rw [e]; exact (EReal.coe_strictMono.monotone.map_max).symm⟩
  rcases h Finset.univ with ⟨-, e⟩ | h
  · exact absurd (Finset.mem_univ (0 : Fin (n + 1))) (by rw [e]; exact Finset.notMem_empty _)
  · exact h

/-- A row's shifted log-softmax at a class is the entry less the log of the sum of exponentials. -/
theorem log_softmax (x : Fin (n + 1) → ℝ) (M : ℝ) (v : Fin (n + 1)) :
    ((x v : EReal) - (M : EReal)) - Ideal.log (∑ u, Ideal.exp ((x u : EReal) - (M : EReal)))
      = ((x v - Real.log (∑ u, Real.exp (x u)) : ℝ) : EReal) := by
  have hpos : 0 < ∑ v, Real.exp (x v) := Finset.sum_pos (fun v _ => Real.exp_pos _) ⟨0, Finset.mem_univ _⟩
  simp only [← EReal.coe_sub]
  rw [log_sum_exp (fun u => x u - M), ← EReal.coe_sub]
  have e : (∑ u, Real.exp (x u - M)) = (∑ u, Real.exp (x u)) * Real.exp (-M) := by
    rw [Finset.sum_mul]; exact Finset.sum_congr rfl fun u _ => by rw [sub_eq_add_neg, Real.exp_add]
  rw [e, Real.log_mul hpos.ne' (Real.exp_pos _).ne', Real.log_exp]
  congr 1; ring

/-- The reference's row over ten thousand classes. -/
theorem reference_row (x : Fin 10000 → ℝ) (k : Fin 10000) (lp : Fin 10000 → EReal)
    (h : ∀ v, lp v = ((x v - Real.log (∑ u, Real.exp (x u)) : ℝ) : EReal)) :
    -(((9 / 10 : ℝ) : EReal) * lp k + ((1 / 99990 : ℝ) : EReal) * ((∑ v, lp v) - lp k)) = (loss (n := 9999) x k : EReal) := by
  simp only [h]
  rw [coe_sum, ← EReal.coe_sub, ← EReal.coe_mul, ← EReal.coe_mul, ← EReal.coe_add, ← EReal.coe_neg]
  congr 1
  rw [Finset.sum_sub_distrib, Finset.sum_const, Finset.card_univ, Fintype.card_fin]
  unfold loss
  simp only [nsmul_eq_mul]
  push_cast
  ring

/-! ## The rows of a batch, block by block -/

/-- The rows below `a` and those of the next `m` that are below `n`. -/
theorem sum_block (f : ℕ → ℝ) (n a m : ℕ) (h : a ≤ n) :
    (∑ t ∈ Finset.range a, f t) + (∑ r ∈ Finset.range m, if a + r < n then f (a + r) else 0) = ∑ t ∈ Finset.range (min n (a + m)), f t := by
  induction m with
  | zero => simp [Nat.min_eq_right h]
  | succ m ih =>
    rw [Finset.sum_range_succ, ← add_assoc, ih]
    by_cases hm : a + m < n
    · rw [if_pos hm, Nat.min_eq_right (by omega), Nat.min_eq_right (by omega), ← Finset.sum_range_succ]; rfl
    · rw [if_neg hm, Nat.min_eq_left (by omega), Nat.min_eq_left (by omega), add_zero]

/-- One block's part of a batch of `n` rows: the row before the block, and the block's first 63 rows. -/
def part (f : ℕ → ℝ) (n j : ℕ) : ℝ :=
  (if 0 < j then f (64 * j - 1) else 0) + ∑ r ∈ Finset.range 63, if 64 * j + r < n then f (64 * j + r) else 0

theorem sum_parts_to (f : ℕ → ℝ) (n J : ℕ) (h : J ≤ n / 64) :
    (∑ j ∈ Finset.range (J + 1), part f n j) = ∑ t ∈ Finset.range (min n (64 * J + 63)), f t := by
  induction J with
  | zero =>
    rw [Finset.sum_range_one]
    have e := sum_block f n 0 63 (Nat.zero_le _)
    simpa [part] using e
  | succ J ih =>
    rw [Finset.sum_range_succ, ih (by omega), Nat.min_eq_right (by omega)]
    unfold part
    rw [if_pos (Nat.succ_pos _), ← add_assoc, show 64 * (J + 1) - 1 = 64 * J + 63 by omega, ← Finset.sum_range_succ,
      show 64 * J + 63 + 1 = 64 * (J + 1) by omega, sum_block f n (64 * (J + 1)) 63 (by omega)]

/-- The blocks' parts add up to the batch's rows. -/
theorem sum_parts (f : ℕ → ℝ) (n : ℕ) : (∑ j ∈ Finset.range (n / 64 + 1), part f n j) = ∑ t ∈ Finset.range n, f t := by
  rw [sum_parts_to f n (n / 64) le_rfl, Nat.min_eq_left (by omega)]

end Cert.Proof.Rows
-- ==== Proof.Terms.lean ====
/-
  The reference's result as a chain of named functions of its arguments.
-/
module

public import proofs.«01_k».proof.Proof.Gen.ReferenceIdeal
public import proofs.«01_k».proof.Proof.Rows
public import Idealize.ShloMosaic.Lib.Claim
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.SL.Sem

variable (T : FVec Ideal S8x513x10000 .f32) (L : IVec S8 32) (X : FVec Ideal S8x512x10000 .f32)

/-- Each text row's largest entry, and the first class that has it. -/
def best : S8x513.Idx → Ideal .f32 × BitVec 32 :=
  Host.argReduce (reducer_argmax_f32_i32 (F := Ideal)) T (iotaInDim S8x513x10000 32 2) (constant S_ .f32 0xFF800000#32 : FVec Ideal S_ .f32) (constantI S_ 32 0#32)
    reducesTo_S8x513x10000_S8x513_d2 h_S_
/-- The second entries. -/
def seconds (p : S8x513.Idx → Ideal .f32 × BitVec 32) : IVec S8x513 32 := fun j => (p j).2
/-- Each text row's class. -/
def classes : IVec S8x513 32 := seconds (best T)
/-- The target of each row: the next text row's class. -/
def targets : IVec S8x512x1 32 :=
  broadcastInDim S8x512x1 ![0, 1] bcast_S8x512_S8x512x1_0_1 (extractStridedSlice S8x512 ![0, 1] (classes T) slices_S8x513_S8x512_0_1)
/-- The rows less their largest entries. -/
def shifted : FVec Ideal S8x512x10000 .f32 :=
  subf X (broadcastInDim S8x512x10000 ![0, 1, 2] bcast_S8x512x1_S8x512x10000_0_1_2 (broadcastInDim S8x512x1 ![0, 1] bcast_S8x512_S8x512x1_0_1
    (maximumf (broadcastInDim S8x512 ![] bcast_S_S8x512 (constant S_ .f32 0xFF800000#32))
      (Host.reduce FloatOps.maximumf X (constant S_ .f32 0xFF800000#32) reducesTo_S8x512x10000_S8x512_d2 h_S_))))
/-- The rows' log-softmax. -/
def logits : FVec Ideal S8x512x10000 .f32 :=
  subf (shifted X) (broadcastInDim S8x512x10000 ![0, 1, 2] bcast_S8x512x1_S8x512x10000_0_1_2 (Host.log (broadcastInDim S8x512x1 ![0, 1] bcast_S8x512_S8x512x1_0_1
    (Host.reduceAdd (Host.exp (shifted X)) (constant S_ .f32 0x00000000#32) reducesTo_S8x512x10000_S8x512_d2 h_S_))))
/-- The indices a row is read at: a negative one counts from the end. -/
def places (g : IVec S8x512x1 32) : IVec S8x512x1x1 32 :=
  shapeCast S8x512x1x1 (select (cmpi .slt g (broadcastInDim S8x512x1 ![] bcast_S_S8x512x1 (constantI S_ 32 0#32)))
    (addi g (broadcastInDim S8x512x1 ![] bcast_S_S8x512x1 (constantI S_ 32 10000#32))) g) shapeCasts_S8x512x1_S8x512x1x1
/-- Whether an index lies in the row. -/
def inside (i : IVec S8x512x1x1 32) : IVec S8x512x1 1 :=
  Host.reduce IntOp.andi (andi (cmpi .sge i (broadcastInDim S8x512x1x1 ![] bcast_S_S8x512x1x1 (constantI S_ 32 0#32)))
    (cmpi .sle i (broadcastInDim S8x512x1x1 ![0, 1, 2, 3] bcast_S1x1x1x1_S8x512x1x1_0_1_2_3 (broadcastInDim S1x1x1x1 ![3] bcast_S1_S1x1x1x1_3 (constantI S1 32 9999#32)))))
    (constantI S_ 1 1#1) reducesTo_S8x512x1x1_S8x512x1_d3 h_S_
/-- The rows' entries at the given classes. -/
def picked (l : FVec Ideal S8x512x10000 .f32) (g : IVec S8x512x1 32) : FVec Ideal S8x512x1 .f32 :=
  select (inside (places g)) (Host.gather gather_S8x512x10000_S8x512x1x1_S8x512x1_n_2_01_01_2_3_111 l (places g))
    (broadcastInDim S8x512x1 ![] bcast_S_S8x512x1 (constant S_ .f32 0x7FC00000#32))
/-- One on the rows up to each length, and zero after it. -/
def mask : FVec Ideal S8x512 .f32 :=
  uitofp .f32 (cmpi .slt (broadcastInDim S8x512 ![0, 1] bcast_S1x512_S8x512_0_1 (broadcastInDim S1x512 ![1] bcast_S512_S1x512_1 (iotaInDim S512 32 0)))
    (broadcastInDim S8x512 ![0, 1] bcast_S8x1_S8x512_0_1 (broadcastInDim S8x1 ![0] bcast_S8_S8x1_0 (addi L (broadcastInDim S8 ![] bcast_S_S8 (constantI S_ 32 1#32))))))
/-- The smoothing, a tenth, and what each other class gets of it. -/
def tenth : FVec Ideal S_ .f32 := Host.divf (constant S_ .f32 0x3F800000#32) (constant S_ .f32 0x41200000#32)
def share : FVec Ideal S_ .f32 := Host.divf tenth (constant S_ .f32 0x461C3C00#32)
/-- Each row's loss. -/
def losses : FVec Ideal S8x512 .f32 :=
  Host.negf (addf
    (mulf (broadcastInDim S8x512 ![] bcast_S_S8x512 (subf (constant S_ .f32 0x3F800000#32) tenth)) (shapeCast S8x512 (picked (logits X) (targets T)) shapeCasts_S8x512x1_S8x512))
    (mulf (broadcastInDim S8x512 ![] bcast_S_S8x512 share)
      (subf (Host.reduceAdd (logits X) (constant S_ .f32 0x00000000#32) reducesTo_S8x512x10000_S8x512_d2 h_S_) (shapeCast S8x512 (picked (logits X) (targets T)) shapeCasts_S8x512x1_S8x512))))
/-- The mean loss of the rows up to each length. -/
def result : FVec Ideal S_ .f32 :=
  Host.divf (Host.reduceAdd (mulf (losses T X) (mask L)) (constant S_ .f32 0x00000000#32) reducesTo_S8x512_S_d0_1 h_S_)
    (Host.reduceAdd (mask L) (constant S_ .f32 0x00000000#32) reducesTo_S8x512_S_d0_1 h_S_)

end Cert.Proof.Ref
-- ==== Proof.RefRun.lean ====
/-
  The reference's run.
-/
module

public import proofs.«01_k».proof.Proof.Gen.ReferenceIdeal
public import proofs.«01_k».proof.Proof.Terms
public import Idealize.ShloMosaic.Lib.Claim
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.SL.Sem

seal Host.reduce Host.reduceAdd Host.gather Host.argReduce in
/-- The reference's run leaves `result` and its arguments as they were. -/
theorem run_result (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD, r.2.mem ((c.tc : Thread nD τ).loc main_v29)
          = result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  hlo_run
  simp only [StableHlo.TRef.ofBuf_toBuf]
  simp -implicitDefEqProofs only [StableHlo.TRef.toBuf, StableHlo.TRef.ofBuf, cast_cast, cast_eq]
  unfold result losses picked inside places logits shifted targets classes seconds best mask share tenth
  rfl

end Cert.Proof.Ref
-- ==== Proof.Okay.lean ====
/-
  The precondition on the inputs, read: lengths of at most 510, and of the rows up to them training entries that are reals
  and in the text row after each one largest class.
-/
module

public import proofs.«01_k».proof.Pre_inputs_ok
public import proofs.«01_k».proof.Proof.Ranged
public import proofs.«01_k».proof.Proof.Rows
public import Idealize.ShloMosaic.Lib.Pointwise
public import Idealize.ShloMosaic.Lib.Affine
public import Idealize.ShloMosaic.Lib.StableHlo.Predicate

@[expose] public section

set_option maxRecDepth 16384

namespace Cert.Proof.Okay

open Idealize.ShloMosaic Cert.Pre_inputs_ok

instance facts : Cert.Pre_inputs_ok.Facts where
  slices_S8x513x10000_S8x512x10000_0_1_0 := by decide
  reducesTo_S8x512x10000_S8x512_d2 := by decide
  h_S_ := by decide
  bcast_S8x512_S8x512x1_0_1 := by decide
  bcast_S8x512x1_S8x512x10000_0_1_2 := by decide
  bcast_S512_S1x512_1 := by decide
  bcast_S8_S8x1_0 := by decide
  bcast_S1x512_S8x512_0_1 := by decide
  bcast_S8x1_S8x512_0_1 := by decide
  natLt_1_32 := by decide
  bcast_S_S8x512 := by decide
  bcast_S_S8x512x10000 := by decide
  bcast_S_S8 := by decide
  bcast_S8_S8x1x1_0 := by decide
  bcast_S8x1x1_S8x512x10000_0_1_2 := by decide

theorem ofBool_one (b : Bool) : BitVec.ofBool b = 1#1 ↔ b = true := by cases b <;> decide

/-- A sum of widened bits counts the bits that are one. -/
theorem fold_bits {ι : Type} (s : Finset ι) (p : ι → BitVec 1) :
    s.fold IntOp.addi 0#32 (fun v => BitVec.setWidth 32 (p v)) = BitVec.ofNat 32 (s.filter fun v => p v = 1#1).card := by
  classical
  induction s using Finset.induction_on with
  | empty => rfl
  | insert a s ha ih =>
    rw [Finset.fold_insert ha, ih, Finset.filter_insert]
    rcases BitVec.eq_zero_or_eq_one (p a) with h | h
    · rw [h, if_neg (by decide)]; exact BitVec.zero_add _
    · rw [h, if_pos rfl, Finset.card_insert_of_notMem (by simp [ha]), Nat.add_comm, BitVec.ofNat_add]; rfl

variable (T : FVec Ideal S8x513x10000 .f32) (L : IVec S8 32) (X : FVec Ideal S8x512x10000 .f32) (h : fn T L X = fun _ => 1#1)
include h

theorem parts (b : Fin 8) (t : Fin 512) (v : Fin 10000) :
    (t.val ≤ (L (ix1 b)).toNat → (⊥ < X (ix3 b t v) ∧ X (ix3 b t v) < ⊤) ∧ BitVec.ofNat 32 (Finset.univ.filter fun u : Fin 10000 =>
        T (ix3 b (⟨1 + t.val, by have := t.isLt; omega⟩ : Fin 513) u) = Finset.univ.fold max ⊥ fun w => T (ix3 b (⟨1 + t.val, by have := t.isLt; omega⟩ : Fin 513) w)).card = 1#32)
      ∧ (L (ix1 b)).toNat ≤ 510 := by
  have e := congrFun h (ix3 b t v)
  pointwise [fn, fn_part1] at e
  simp only [fold_bits, Rows.ofBits_neg_inf, Rows.ofBits_inf, IntOp.andi_eq_one] at e
  obtain ⟨e1, e3⟩ := e
  have hl := Ranged.word_le _ (IntOp.andi_eq_one.mpr e3)
  refine ⟨fun ht => ?_, hl⟩
  rcases IntOp.ori_eq_one.mp e1 with e1 | e1
  · exfalso
    rw [IntOp.cmpi_sgt, StableHlo.Predicate.toInt_ofNat_small _ (by have := t.isLt; omega), BitVec.toInt_eq_toNat_of_lt (by omega)] at e1
    omega
  · simp only [IntOp.andi_eq_one, IntOp.cmpi_eq, ofBool_one, decide_eq_true_eq] at e1
    exact e1

theorem lens_le (b : Fin 8) : (L (ix1 b)).toNat ≤ 510 := (parts T L X h b 0 0).2
/-- A training entry of a row up to the length is a real. -/
theorem real (b : Fin 8) (t : Fin 512) (ht : t.val ≤ (L (ix1 b)).toNat) (v : Fin 10000) : X (ix3 b t v) = ((X (ix3 b t v)).toReal : EReal) :=
  (EReal.coe_toReal ((parts T L X h b t v).1 ht).1.2.ne ((parts T L X h b t v).1 ht).1.1.ne').symm
/-- The text row after a row `t` up to the length has one largest class. -/
theorem only (b : Fin 8) (t : Fin 512) (ht : t.val ≤ (L (ix1 b)).toNat) :
    ∃ k, Rows.Only (fun v => T (ix3 b (⟨t.val + 1, by have := t.isLt; omega⟩ : Fin 513) v)) k := by
  have e := ((parts T L X h b t 0).1 ht).2
  simp only [Nat.add_comm 1 t.val] at e
  have hc := Finset.card_filter_le (Finset.univ : Finset (Fin 10000)) fun u =>
    T (ix3 b (⟨t.val + 1, by have := t.isLt; omega⟩ : Fin 513) u) = Finset.univ.fold max ⊥ fun w => T (ix3 b (⟨t.val + 1, by have := t.isLt; omega⟩ : Fin 513) w)
  rw [Finset.card_univ, Fintype.card_fin] at hc
  have e1 := congrArg BitVec.toNat e
  rw [BitVec.toNat_ofNat, Nat.mod_eq_of_lt (by omega)] at e1
  obtain ⟨k, hk⟩ := Finset.card_eq_one.mp (e1.trans (by decide))
  refine ⟨k, fun v => ?_⟩
  have := congrArg (v ∈ ·) hk
  simpa using this

end Cert.Proof.Okay
-- ==== Proof.Ref.lean ====
/-
  The reference's result at finite rows with one target each: what each of its named functions is at an index.
-/
module

public import proofs.«01_k».proof.Proof.Gen.ReferenceIdeal
public import proofs.«01_k».proof.Proof.Terms
public import Idealize.ShloMosaic.Lib.Claim
public import Idealize.ShloMosaic.Lib.Pointwise
public import Idealize.ShloMosaic.Lib.Affine
public import Idealize.ShloMosaic.Lib.StableHlo.Predicate

@[expose] public section

set_option maxRecDepth 16384

noncomputable section

namespace Cert.Proof.Ref

open Cert.ReferenceIdeal Cert.ReferenceIdeal.Gen
open Idealize.ShloMosaic Idealize.ShloMosaic.TcCoe Idealize.SL.Sem

variable (T : FVec Ideal S8x513x10000 .f32) (L : IVec S8 32) (X : FVec Ideal S8x512x10000 .f32)

/-! ## The targets -/

/-- A fold by the reducer over pairs of which one, `p`, is larger than the others is `p`. -/
theorem reducer_pick (p : EReal × BitVec 32) (l : List (EReal × BitVec 32)) (h : ∀ q ∈ l, q = p ∨ q.1 < p.1) (a : EReal × BitVec 32)
    (ha : a = p ∨ a.1 < p.1 ∧ p ∈ l) : l.foldl (reducer_argmax_f32_i32 (F := Ideal)) a = p := by
  have hs : ∀ a b : EReal × BitVec 32, b.1 < a.1 → reducer_argmax_f32_i32 (F := Ideal) a b = a := fun a b h => by
    have h1 : FloatOps.cmpf (F := Ideal) (φ := .f32) .ogt a.1 b.1 = 1#1 := by simp [Ideal.cmpf_def, Ideal.cmp, h]
    have h2 : FloatOps.cmpf (F := Ideal) (φ := .f32) .une a.1 a.1 = 0#1 := by simp [Ideal.cmpf_def, Ideal.cmp]
    simp [reducer_argmax_f32_i32, h1, h2, IntOp.ori, IntOp.andi, Scalar.select]
    rcases BitVec.eq_zero_or_eq_one (FloatOps.cmpf (F := Ideal) (φ := .f32) .oeq a.1 b.1 &&& IntOp.cmpi .slt a.2 b.2) with e | e <;> rw [e] <;> rfl
  have ht : ∀ a b : EReal × BitVec 32, a.1 < b.1 → reducer_argmax_f32_i32 (F := Ideal) a b = b := fun a b h => by
    have h1 : FloatOps.cmpf (F := Ideal) (φ := .f32) .ogt a.1 b.1 = 0#1 := by simp [Ideal.cmpf_def, Ideal.cmp, not_lt_of_gt h]
    have h2 : FloatOps.cmpf (F := Ideal) (φ := .f32) .oeq a.1 b.1 = 0#1 := by simp [Ideal.cmpf_def, Ideal.cmp, h.ne]
    have h3 : FloatOps.cmpf (F := Ideal) (φ := .f32) .une a.1 a.1 = 0#1 := by simp [Ideal.cmpf_def, Ideal.cmp]
    simp [reducer_argmax_f32_i32, h1, h2, h3, IntOp.ori, IntOp.andi, Scalar.select]
  have hp : reducer_argmax_f32_i32 (F := Ideal) p p = p := by
    simp [reducer_argmax_f32_i32, Scalar.select]
  have hlt : ∀ a b : EReal × BitVec 32, a.1 < p.1 → b.1 < p.1 → (reducer_argmax_f32_i32 (F := Ideal) a b).1 < p.1 := fun a b h h' => by
    simp only [reducer_argmax_f32_i32, Scalar.select]
    split <;> assumption
  induction l generalizing a with
  | nil =>
    rcases ha with rfl | ⟨-, hm⟩
    · rfl
    · exact absurd hm List.not_mem_nil
  | cons q l ih =>
    have hl : ∀ r ∈ l, r = p ∨ r.1 < p.1 := fun r hr => h r (List.mem_cons_of_mem _ hr)
    refine ih hl _ ?_
    rcases ha with rfl | ⟨hlt', hm⟩ <;> rcases h q List.mem_cons_self with rfl | hq
    · exact .inl hp
    · exact .inl (hs _ _ hq)
    · exact .inl (ht _ _ hlt')
    · refine .inr ⟨hlt _ _ hlt' hq, (List.mem_cons.mp hm).resolve_left fun e => ?_⟩
      rw [← e] at hq; exact lt_irrefl _ hq

/-- A reduction by that reducer takes the one largest of the entries it reduces. -/
theorem reduce_pick {s t u : Shape} {ax : List (Fin s.rank)} (x : s.Idx → EReal) (y : s.Idx → BitVec 32) (ix : u.Idx → EReal) (iy : u.Idx → BitVec 32)
    (h : s.ReducesTo ax t) (hu : 0 < u.numel) (j : t.Idx) (p : EReal × BitVec 32) (hx : ∀ i, h.drop i = j → (x i, y i) = p ∨ x i < p.1)
    (hm : ∃ i, h.drop i = j ∧ (x i, y i) = p) (hi : ix (Shape.Idx.first hu) < p.1) :
    Host.reduce2 (reducer_argmax_f32_i32 (F := Ideal)) x y ix iy h hu j = p := by
  rw [Host.reduce2_eq_foldl_fiber]
  refine reducer_pick p _ ?_ _ (.inr ⟨hi, ?_⟩)
  · intro q hq
    obtain ⟨n, hn, rfl⟩ := List.mem_map.mp hq
    exact hx _ (of_decide_eq_true (List.mem_filter.mp hn).2)
  · obtain ⟨i, hd, he⟩ := hm
    refine List.mem_map.mpr ⟨s.rowMajor i, List.mem_filter.mpr ⟨List.mem_finRange _, ?_⟩, ?_⟩
    · rw [Equiv.symm_apply_apply]; exact decide_eq_true hd
    · rw [Equiv.symm_apply_apply]; exact he

/-- An index of the text lies in the fiber of its row. -/
theorem drop_at (b : Fin 8) (s : Fin 513) (v : Fin 10000) : (reducesTo_S8x513x10000_S8x513_d2).drop (ix3 b s v) = ix2 b s := by
  funext a; fin_cases a <;> rfl

/-- The argmax, with any array that counts the classes and any initial pair of the least entry. -/
theorem argmax_at (y : IVec S8x513x10000 32) (hy : ∀ b s v, y (ix3 b s v) = BitVec.ofNat 32 v.val) (ix : S_.Idx → EReal) (hi : ∀ j, ix j = ⊥) (iy : IVec S_ 32)
    (b : Fin 8) (s : Fin 513) (k : Fin 10000) (hk : Rows.Only (fun v => T (ix3 b s v)) k) :
    Host.reduce2 (reducer_argmax_f32_i32 (F := Ideal)) T y ix iy reducesTo_S8x513x10000_S8x513_d2 h_S_ (ix2 b s) = (T (ix3 b s k), BitVec.ofNat 32 k.val) := by
  have hle : ∀ v, T (ix3 b s v) ≤ T (ix3 b s k) := fun v => by
    refine le_of_le_of_eq ?_ ((hk k).mpr rfl).symm
    exact (Finset.le_fold_max _).mpr (.inr ⟨v, Finset.mem_univ _, le_rfl⟩)
  have hlt : ∀ v, v ≠ k → T (ix3 b s v) < T (ix3 b s k) := fun v hv =>
    lt_of_le_of_ne (hle v) fun e => hv ((hk v).mp (e.trans ((hk k).mpr rfl)))
  refine reduce_pick T y ix iy _ _ _ _ ?_ ⟨ix3 b s k, drop_at b s k, by rw [hy]⟩ ?_
  · intro i hn
    obtain ⟨b', s', v, rfl⟩ : ∃ (b' : Fin 8) (s' : Fin 513) (v : Fin 10000), i = ix3 b' s' v := ⟨i 0, i 1, i 2, eq_ix3 i⟩
    rw [drop_at] at hn
    obtain ⟨rfl, rfl⟩ := (ix2_inj _ _ _ _).mp hn
    by_cases hv : v = k
    · subst hv; exact .inl (by rw [hy])
    · exact .inr (hlt v hv)
  · obtain ⟨v, hv⟩ : ∃ v : Fin 10000, v ≠ k := ⟨⟨if k.val = 0 then 1 else 0, by split <;> omega⟩, fun e => by
      have := congrArg Fin.val e; simp only at this; split at this <;> omega⟩
    rw [hi]
    exact bot_le.trans_lt (hlt v hv)

/-- The classes, counted. -/
theorem iota_at (b : Fin 8) (s : Fin 513) (v : Fin 10000) : iotaInDim S8x513x10000 32 2 (ix3 b s v) = BitVec.ofNat 32 v.val := by
  pointwise []

/-- The initial entry of both maxima is the least one. -/
theorem least_at (j : S_.Idx) : (constant S_ .f32 0xFF800000#32 : FVec Ideal S_ .f32) j = ⊥ := by
  pointwise []
  exact Rows.ofBits_neg_inf

/-- The argmax of a row that has one largest entry is that entry and its class. -/
theorem best_at (b : Fin 8) (s : Fin 513) (k : Fin 10000) (hk : Rows.Only (fun v => T (ix3 b s v)) k) :
    best T (ix2 b s) = (T (ix3 b s k), BitVec.ofNat 32 k.val) := by
  have e : best T = Host.reduce2 (α := EReal) (reducer_argmax_f32_i32 (F := Ideal)) T (iotaInDim S8x513x10000 32 2) (constant S_ .f32 0xFF800000#32 : FVec Ideal S_ .f32)
      (constantI S_ 32 0#32) reducesTo_S8x513x10000_S8x513_d2 h_S_ := Ideal.argReduce_eq_reduce2 (φ := .f32) _ _ _ _ _ _ _
  rw [e]
  exact argmax_at T (iotaInDim S8x513x10000 32 2) iota_at _ least_at (constantI S_ 32 0#32) b s k hk

theorem seconds_at (p : S8x513.Idx → Ideal .f32 × BitVec 32) (j : S8x513.Idx) (x : EReal) (w : BitVec 32) (e : p j = (x, w)) : seconds p j = w := by
  unfold seconds
  rw [e]

/-- The class of a row that has one largest entry. -/
theorem classes_at (b : Fin 8) (s : Fin 513) (k : Fin 10000) (hk : Rows.Only (fun v => T (ix3 b s v)) k) :
    classes T (ix2 b s) = BitVec.ofNat 32 k.val := seconds_at (best T) _ _ _ (best_at T b s k hk)

/-- The rows after the first, with a last axis of one. -/
theorem slice_at (g : IVec S8x513 32) (b : Fin 8) (t : Fin 512) :
    broadcastInDim S8x512x1 ![0, 1] bcast_S8x512_S8x512x1_0_1 (extractStridedSlice S8x512 ![0, 1] g slices_S8x513_S8x512_0_1) (ix3 b t 0)
      = g (ix2 b ⟨1 + t.val, by have := t.isLt; omega⟩) := by
  pointwise []

/-- A row's target is the next text row's class. -/
theorem targets_at (b : Fin 8) (t : Fin 512) : targets T (ix3 b t 0) = classes T (ix2 b ⟨1 + t.val, by have := t.isLt; omega⟩) :=
  slice_at (classes T) b t

/-! ## The log-softmax -/

/-- Rows less the logarithm of the sum of their exponentials. -/
theorem less_log_at (s : FVec Ideal S8x512x10000 .f32) (b : Fin 8) (t : Fin 512) (v : Fin 10000) :
    subf s (broadcastInDim S8x512x10000 ![0, 1, 2] bcast_S8x512x1_S8x512x10000_0_1_2 (Host.log (broadcastInDim S8x512x1 ![0, 1] bcast_S8x512_S8x512x1_0_1
      (Host.reduceAdd (Host.exp s) (constant S_ .f32 0x00000000#32) reducesTo_S8x512x10000_S8x512_d2 h_S_)))) (ix3 b t v)
      = s (ix3 b t v) - Ideal.log (∑ u, Ideal.exp (s (ix3 b t u))) := by
  pointwise []

/-- A row's largest entry. -/
theorem max_at (i : FVec Ideal S_ .f32) (b : Fin 8) (t : Fin 512) :
    Host.reduce FloatOps.maximumf X i reducesTo_S8x512x10000_S8x512_d2 h_S_ (ix2 b t) = Finset.univ.fold max (i (Shape.Idx.first h_S_)) fun u => X (ix3 b t u) := by
  pointwise []

/-- Rows less a bounded entry of each. -/
theorem less_at (M : FVec Ideal S8x512 .f32) (b : Fin 8) (t : Fin 512) (v : Fin 10000) :
    subf X (broadcastInDim S8x512x10000 ![0, 1, 2] bcast_S8x512x1_S8x512x10000_0_1_2 (broadcastInDim S8x512x1 ![0, 1] bcast_S8x512_S8x512x1_0_1
      (maximumf (broadcastInDim S8x512 ![] bcast_S_S8x512 (constant S_ .f32 0xFF800000#32)) M))) (ix3 b t v)
      = X (ix3 b t v) - max (Ideal.ofBits .f32 0xFF800000#32) (M (ix2 b t)) := by
  pointwise []

/-- The shifted rows are the rows less a real. -/
theorem shifted_at (b : Fin 8) (t : Fin 512) (x : Fin 10000 → ℝ) (hx : ∀ v, X (ix3 b t v) = (x v : EReal)) :
    ∃ M : ℝ, ∀ v, shifted X (ix3 b t v) = (x v : EReal) - (M : EReal) := by
  obtain ⟨M, hM⟩ := Rows.fold_max_real (n := 9999) x
  have hM' : (Finset.univ.fold max ⊥ fun v : Fin 10000 => X (ix3 b t v)) = (M : EReal) := by simp only [hx]; exact hM
  refine ⟨M, fun v => (less_at X _ b t v).trans ?_⟩
  rw [max_at, least_at, hM', Rows.ofBits_neg_inf, max_eq_right bot_le, hx]

/-- The log-softmax of a row of reals. -/
theorem logits_at (b : Fin 8) (t : Fin 512) (x : Fin 10000 → ℝ) (hx : ∀ v, X (ix3 b t v) = (x v : EReal)) (v : Fin 10000) :
    logits X (ix3 b t v) = ((x v - Real.log (∑ u, Real.exp (x u)) : ℝ) : EReal) := by
  obtain ⟨M, hM⟩ := shifted_at X b t x hx
  refine (less_log_at (shifted X) b t v).trans ?_
  simp only [hM]
  exact Rows.log_softmax (n := 9999) x M v

/-! ## The losses and their mean -/

/-- The mask is one up to the length and zero after it. -/
theorem mask_at (b : Fin 8) (t : Fin 512) (h : (L (ix1 b)).toNat ≤ 510) : mask L (ix2 b t) = ((if t.val < (L (ix1 b)).toNat + 1 then 1 else 0 : ℝ) : EReal) := by
  pointwise [mask]
  have ht := t.isLt
  have e : (L (ix1 b)) = BitVec.ofNat 32 (L (ix1 b)).toNat := (BitVec.eq_of_toNat_eq (by rw [BitVec.toNat_ofNat, Nat.mod_eq_of_lt (L (ix1 b)).isLt]))
  generalize (L (ix1 b)).toNat = n at e h ⊢
  have hc : IntOp.cmpi .slt (BitVec.ofNat 32 t.val) (IntOp.addi (L (ix1 b)) 1#32) = BitVec.ofBool (decide (t.val < n + 1)) := by
    have h2 : IntOp.addi (L (ix1 b)) 1#32 = BitVec.ofNat 32 (n + 1) := by rw [e, BitVec.ofNat_add]; rfl
    rw [h2]
    show BitVec.ofBool (BitVec.slt _ _) = _
    rw [BitVec.slt_eq_decide, StableHlo.Predicate.toInt_ofNat_small _ (by omega), StableHlo.Predicate.toInt_ofNat_small _ (by omega)]
    simp only [Nat.cast_lt]
  rw [hc]
  show (((BitVec.ofBool _).toNat : ℝ) : EReal) = _
  by_cases hl : t.val < n + 1 <;> simp [hl]

/-- A class read signed. -/
theorem toInt_class (k : Fin 10000) : (BitVec.ofNat 32 k.val).toInt = k.val :=
  StableHlo.Predicate.toInt_ofNat_small _ (by have := k.isLt; omega)

/-- A class is its own place. -/
theorem places_at (g : IVec S8x512x1 32) (b : Fin 8) (t : Fin 512) (k : Fin 10000) (hg : g (ix3 b t 0) = BitVec.ofNat 32 k.val) :
    places g (ix4 b t 0 0) = BitVec.ofNat 32 k.val := by
  pointwise [places]
  have hc : IntOp.cmpi .slt (g (ix3 b t 0)) 0#32 = 0#1 := by
    show BitVec.ofBool (BitVec.slt _ _) = BitVec.ofBool false
    rw [BitVec.slt_eq_decide, hg, toInt_class]
    exact congrArg BitVec.ofBool (decide_eq_false (by simp))
  rw [hc]
  exact hg

/-- A class lies in the row. -/
theorem inside_at (i : IVec S8x512x1x1 32) (b : Fin 8) (t : Fin 512) (k : Fin 10000) (hg : i (ix4 b t 0 0) = BitVec.ofNat 32 k.val) :
    inside i (ix3 b t 0) = 1#1 := by
  pointwise [inside]
  have h1 : IntOp.cmpi .sge (i (ix4 b t 0 0)) 0#32 = 1#1 := by
    show BitVec.ofBool (BitVec.sle _ _) = BitVec.ofBool true
    rw [BitVec.sle_eq_decide, hg, toInt_class]
    exact congrArg BitVec.ofBool (decide_eq_true (by simp))
  have h2 : IntOp.cmpi .sle (i (ix4 b t 0 0)) 9999#32 = 1#1 := by
    show BitVec.ofBool (BitVec.sle _ _) = BitVec.ofBool true
    rw [BitVec.sle_eq_decide, hg, toInt_class]
    exact congrArg BitVec.ofBool (decide_eq_true (by have := k.isLt; have h : (9999#32 : BitVec 32).toInt = 9999 := by decide
                                                     rw [h]; omega))
  rw [Finset.univ_unique, Finset.fold_singleton]
  show IntOp.andi (IntOp.andi (IntOp.cmpi .sge (i (ix4 b t 0 0)) 0#32) (IntOp.cmpi .sle (i (ix4 b t 0 0)) 9999#32)) 1#1 = 1#1
  rw [h1, h2]; rfl

/-- The gather reads each row at its class. -/
theorem gather_at (l : FVec Ideal S8x512x10000 .f32) (i : IVec S8x512x1x1 32) (b : Fin 8) (t : Fin 512) (k : Fin 10000)
    (hg : i (ix4 b t 0 0) = BitVec.ofNat 32 k.val) :
    Host.gather gather_S8x512x10000_S8x512x1x1_S8x512x1_n_2_01_01_2_3_111 l i (ix3 b t 0) = l (ix3 b t k) := by
  refine congrArg l (funext fun a => Fin.ext ?_)
  match a with
  | ⟨0, _⟩ => exact Nat.zero_add _
  | ⟨1, _⟩ => exact Nat.zero_add _
  | ⟨2, _⟩ =>
    show min (i _).toInt.toNat (10000 - 1) = k.val
    have e : ∀ j : S8x512x1x1.Idx, j = ix4 b t 0 0 → min (i j).toInt.toNat (10000 - 1) = k.val := fun j hj => by
      have := k.isLt
      rw [hj, hg, toInt_class, Int.toNat_natCast]; omega
    refine e _ (funext fun a => ?_)
    match a with
    | ⟨0, _⟩ => rfl
    | ⟨1, _⟩ => rfl
    | ⟨2, _⟩ => rfl
    | ⟨3, _⟩ => rfl

/-- A row's loss, of its log-softmax and the entry of its target. -/
theorem row_at (l : FVec Ideal S8x512x10000 .f32) (p : FVec Ideal S8x512x1 .f32) (b : Fin 8) (t : Fin 512) :
    (Host.negf (addf
      (mulf (broadcastInDim S8x512 ![] bcast_S_S8x512 (subf (constant S_ .f32 0x3F800000#32) tenth)) (shapeCast S8x512 p shapeCasts_S8x512x1_S8x512))
      (mulf (broadcastInDim S8x512 ![] bcast_S_S8x512 share)
        (subf (Host.reduceAdd l (constant S_ .f32 0x00000000#32) reducesTo_S8x512x10000_S8x512_d2 h_S_) (shapeCast S8x512 p shapeCasts_S8x512x1_S8x512)))) : FVec Ideal S8x512 .f32) (ix2 b t)
      = -(((9 / 10 : ℝ) : EReal) * p (ix3 b t 0) + ((1 / 99990 : ℝ) : EReal) * ((∑ v, l (ix3 b t v)) - p (ix3 b t 0))) := by
  pointwise [share, tenth]
  have e : Ideal.div 1 (Ideal.ofBits .f32 0x41200000#32) = ((1 / 10 : ℝ) : EReal) := by
    rw [Rows.ofBits_ten, ← EReal.coe_one, Ideal.div_coe (by norm_num), ← EReal.coe_mul, one_mul]
  have e' : Ideal.div ((1 / 10 : ℝ) : EReal) (Ideal.ofBits .f32 0x461C3C00#32) = ((1 / 99990 : ℝ) : EReal) := by
    rw [Rows.ofBits_9999, Ideal.div_coe (by norm_num), ← EReal.coe_mul]; norm_num
  have e'' : (1 : EReal) - ((1 / 10 : ℝ) : EReal) = ((9 / 10 : ℝ) : EReal) := by
    rw [← EReal.coe_one, ← EReal.coe_sub]; norm_num
  rw [e, e', e'']

/-- The mean of the losses under a mask. -/
theorem mean_at (l k : FVec Ideal S8x512 .f32) (j : S_.Idx) :
    (Host.divf (Host.reduceAdd (mulf l k) (constant S_ .f32 0x00000000#32) reducesTo_S8x512_S_d0_1 h_S_)
      (Host.reduceAdd k (constant S_ .f32 0x00000000#32) reducesTo_S8x512_S_d0_1 h_S_) : FVec Ideal S_ .f32) j
      = Ideal.div (∑ b, ∑ t, l (ix2 b t) * k (ix2 b t)) (∑ b, ∑ t, k (ix2 b t)) := by
  pointwise []

/-- The rows' entries at their targets. -/
theorem picked_at (l : FVec Ideal S8x512x10000 .f32) (g : IVec S8x512x1 32) (b : Fin 8) (t : Fin 512) (k : Fin 10000)
    (hg : g (ix3 b t 0) = BitVec.ofNat 32 k.val) : picked l g (ix3 b t 0) = l (ix3 b t k) := by
  have hp := places_at g b t k hg
  have e := gather_at l (places g) b t k hp
  have e' := inside_at (places g) b t k hp
  unfold picked
  generalize places g = i at e e' ⊢
  generalize Host.gather gather_S8x512x10000_S8x512x1x1_S8x512x1_n_2_01_01_2_3_111 l i = y at e ⊢
  generalize inside i = q at e' ⊢
  pointwise []
  rw [e', e]
  rfl

/-- The loss of a row of reals with one target. -/
theorem losses_at (b : Fin 8) (t : Fin 512) (x : Fin 10000 → ℝ) (hx : ∀ v, X (ix3 b t v) = (x v : EReal)) (k : Fin 10000)
    (hk : Rows.Only (fun v => T (ix3 b (⟨t.val + 1, by have := t.isLt; omega⟩ : Fin 513) v)) k) :
    losses T X (ix2 b t) = ((Rows.loss (n := 9999) x k : ℝ) : EReal) := by
  have ht : targets T (ix3 b t 0) = BitVec.ofNat 32 k.val := by
    refine (targets_at T b t).trans ?_
    simp only [Nat.add_comm 1 t.val]
    exact classes_at T b _ k hk
  refine (row_at (logits X) (picked (logits X) (targets T)) b t).trans ?_
  rw [picked_at (logits X) (targets T) b t k ht]
  exact Rows.reference_row x k (fun v => logits X (ix3 b t v)) (logits_at X b t x hx)

/-- A sum under a mask is the sum up to the length. -/
theorem sum_mask (f : ℕ → ℝ) (n : ℕ) (h : n ≤ 512) : (∑ t : Fin 512, f t.val * if t.val < n then 1 else 0) = ∑ t ∈ Finset.range n, f t := by
  rw [← Finset.sum_range (fun t => f t * if t < n then 1 else 0)]
  simp only [mul_ite, mul_one, mul_zero]
  rw [← Finset.sum_filter]
  congr 1
  ext t
  simp only [Finset.mem_filter, Finset.mem_range]
  omega

/-- The reference's result: the sum of the losses up to the lengths, over the number of them. -/
theorem result_val (n : ℕ → ℕ) (hn : ∀ b : Fin 8, (L (ix1 b)).toNat = n b.val) (hL : ∀ b : Fin 8, n b.val ≤ 510) (x : ℕ → ℕ → Fin 10000 → ℝ)
    (hx : ∀ (b : Fin 8) (t : Fin 512), t.val ≤ n b.val → ∀ v, X (ix3 b t v) = (x b.val t.val v : EReal)) (tg : ℕ → ℕ → Fin 10000)
    (hT : ∀ (b : Fin 8) (t : Fin 512), t.val ≤ n b.val → Rows.Only (fun v => T (ix3 b (⟨t.val + 1, by have := t.isLt; omega⟩ : Fin 513) v)) (tg b.val t.val)) (j : S_.Idx) :
    result T L X j = Ideal.div ((∑ b ∈ Finset.range 8, ∑ t ∈ Finset.range (n b + 1), Rows.loss (n := 9999) (x b t) (tg b t) : ℝ) : EReal)
      (((∑ b ∈ Finset.range 8, (n b + 1) : ℕ) : ℝ) : EReal) := by
  have hm : ∀ (b : Fin 8) (t : Fin 512), mask L (ix2 b t) = ((if t.val < n b.val + 1 then 1 else 0 : ℝ) : EReal) := fun b t => by
    rw [mask_at L b t (by rw [hn]; exact hL b), hn]
  have hl : ∀ (b : Fin 8) (t : Fin 512), losses T X (ix2 b t) * ((if t.val < n b.val + 1 then 1 else 0 : ℝ) : EReal)
      = ((Rows.loss (n := 9999) (x b.val t.val) (tg b.val t.val) * if t.val < n b.val + 1 then 1 else 0 : ℝ) : EReal) := fun b t => by
    by_cases h : t.val < n b.val + 1
    · rw [losses_at T X b t _ (hx b t (by omega)) _ (hT b t (by omega)), EReal.coe_mul]
    · rw [if_neg h, EReal.coe_zero, mul_zero, mul_zero, EReal.coe_zero]
  refine (mean_at (losses T X) (mask L) j).trans ?_
  simp only [hm, hl, Rows.coe_sum]
  refine congrArg₂ Ideal.div (congrArg _ ?_) (congrArg _ ?_)
  · rw [Finset.sum_range]
    exact Finset.sum_congr rfl fun b _ => sum_mask (fun t => Rows.loss (n := 9999) (x b.val t) (tg b.val t)) _ (by have := hL b; omega)
  · rw [Finset.sum_range, Nat.cast_sum]
    refine Finset.sum_congr rfl fun b _ => ?_
    have := sum_mask (fun _ => 1) (n b.val + 1) (by have := hL b; omega)
    simpa using this

end Cert.Proof.Ref
-- ==== Proof.KI.Stage.lean ====
/-
  One stage of the kernel's ring, written once.  A trip of the kernel's loop is four stages in a row, which
  differ only in their ring slot and in which words they look up; here the stage is a program over the slot, and
  `trip_eq` says the printed trip is the four stages.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.KI

open Cert.KernelIdeal Cert.KernelIdeal.Gen
open Idealize.ShloMosaic Idealize.SL.Sem

variable {F : FTy → Type} [FloatOps F] [Named F]

/-! ## The kernel's operands -/

/-- The tables (sequence index, block index, training flag, stage count), the lengths, the two arrays in HBM, the
    output word, the two rings, the carried row. -/
abbrev bsM : Memref sig .tc .smem S72 .i32 := Memref.whole main_v19
abbrev jsM : Memref sig .tc .smem S72 .i32 := Memref.whole main_v27
abbrev tfM : Memref sig .tc .smem S72 .i32 := Memref.whole main_v36
abbrev totM : Memref sig .tc .smem S1 .i32 := Memref.whole main_v41
abbrev lenM : Memref sig .tc .smem S8 .i32 := Memref.whole main_arg1
abbrev textM : Memref sig .tc .hbm S8x513x10000 .f32 := Memref.whole main_arg0
abbrev trainM : Memref sig .tc .hbm S8x512x10000 .f32 := Memref.whole main_arg2
abbrev outM : Memref sig .tc .smem S1x1 .f32 := Memref.whole cc0_stg0_0
abbrev tbufM : Memref sig .tc .vmem S4x64x10000 .f32 := Memref.whole cc0_scratch0
abbrev xbufM : Memref sig .tc .vmem S4x64x10000 .f32 := Memref.whole cc0_scratch1
abbrev carryM : Memref sig .tc .vmem S1x10000 .f32 := Memref.whole cc0_scratch2

/-! ## Slots and semaphores -/

/-- Where slot `s` starts in a ring. -/
def slotOff (s : Fin 4) : Fin 3 → ℕ := ![s.val, 0, 0]
theorem slotOff_inb : ∀ (s : Fin 4) (a : Fin 3), slotOff s a + S1x64x10000.size a ≤ S4x64x10000.size a := by decide
/-- Where the semaphore of row `r` (0 the texts', 1 the training rows') and slot `s` lies. -/
def semOff (r : Fin 2) (s : Fin 4) : Fin 2 → ℕ := ![r.val, s.val]
theorem semOff_inb : ∀ (r : Fin 2) (s : Fin 4) (a : Fin 2), semOff r s a + S1x1.size a ≤ S2x4.size a := by decide
/-- The box of slot `s`. -/
abbrev slotRect (s : Fin 4) : Rect S4x64x10000 := Rect.unit (s := S4x64x10000) (slotOff s) S1x64x10000.size (slotOff_inb s)
/-- Slot `s` of the texts' ring and of the training rows' ring. -/
def tslot (s : Fin 4) : Memref sig .tc .vmem S64x10000 .f32 :=
  (tbufM.slice (slotRect s) (fun _ => rfl)).squeeze S64x10000 squeezes_S1x64x10000_S64x10000
def xslot (s : Fin 4) : Memref sig .tc .vmem S64x10000 .f32 :=
  (xbufM.slice (slotRect s) (fun _ => rfl)).squeeze S64x10000 squeezes_S1x64x10000_S64x10000
/-- The semaphore of row `r` and slot `s`. -/
def ringSem (r : Fin 2) (s : Fin 4) : DmaSems sig S_ :=
  (cc0_scratch3.slice (Rect.unit (s := S2x4) (semOff r s) S1x1.size (semOff_inb r s))).squeeze S_ squeezes_S1x1_S_
/-- The 64 rows of an HBM array that start at `o`. -/
def trows (o : Fin 3 → ℕ) (h : ∀ a, o a + S1x64x10000.size a ≤ S8x513x10000.size a) : Memref sig .tc .hbm S64x10000 .f32 :=
  (textM.slice (Rect.unit (s := S8x513x10000) o S1x64x10000.size h) (fun _ => rfl)).squeeze S64x10000 squeezes_S1x64x10000_S64x10000
def xrows (o : Fin 3 → ℕ) (h : ∀ a, o a + S1x64x10000.size a ≤ S8x512x10000.size a) : Memref sig .tc .hbm S64x10000 .f32 :=
  (trainM.slice (Rect.unit (s := S8x512x10000) o S1x64x10000.size h) (fun _ => rfl)).squeeze S64x10000 squeezes_S1x64x10000_S64x10000

/-! ## The stage -/

/-- What one stage of one trip asks: whether it runs and prefetches, where its own and its prefetched words lie in
    the tables, and the side conditions the program assumes of the words it reads. -/
structure Ask where
  runs : Prop
  runsDec : Decidable runs
  pre : Prop
  preDec : Decidable pre
  oK : Fin 1 → ℕ
  hK : runs → ∀ a, oK a + S1.size a ≤ S72.size a
  oN : Fin 1 → ℕ
  hN : runs → pre → ∀ a, oN a + S1.size a ≤ S72.size a
  cLen : BitVec 32 → Prop
  cLenDec : ∀ v, Decidable (cLen v)
  hLen : ∀ v, cLen v → runs → ∀ a, k0_off8 v a + S1.size a ≤ S8.size a
  cNext : BitVec 32 → BitVec 32 → Prop
  cNextDec : ∀ v w, Decidable (cNext v w)
  hNext : ∀ v w, cNext v w → runs → pre → ∀ a, k0_off10 v w a + S1x64x10000.size a ≤ S8x513x10000.size a
  cNextX : BitVec 32 → BitVec 32 → BitVec 32 → Prop
  cNextXDec : ∀ v w u, Decidable (cNextX v w u)
  hNextX : ∀ v w u, cNextX v w u → runs → pre → k0_cond6 u = 1#1 → ∀ a, k0_off12 v w a + S1x64x10000.size a ≤ S8x512x10000.size a
  cText : BitVec 32 → BitVec 32 → Prop
  cTextDec : ∀ v w, Decidable (cText v w)
  hText : ∀ v w, cText v w → runs → ∀ a, k0_off13 v w a + S1x64x10000.size a ≤ S8x513x10000.size a
  cTrain : BitVec 32 → BitVec 32 → BitVec 32 → Prop
  cTrainDec : ∀ v w u, Decidable (cTrain v w u)
  hTrain : ∀ v w u, cTrain v w u → runs → k0_cond8 u = 1#1 → ∀ a, k0_off15 v w a + S1x64x10000.size a ≤ S8x512x10000.size a

/-- A stage's programs. -/
abbrev PR (F : FTy → Type) [FloatOps F] [Named F] (α : Type) := Prog (TpuEff nD τ sig (Elt F) Λ₀ .tc) α

/-- The word a table holds at `o`. -/
def look (m : Memref sig .tc .smem S72 .i32) (o : Fin 1 → ℕ) (h : ∀ a, o a + S1.size a ≤ S72.size a) : PR F (Elt F .i32) :=
  smemLoad m (Rect.unit (s := S72) o S1.size h) numel1_S1 rfl

/-- The issue of the transfer of the rows at `o` into slot `s`. -/
def issueText (s : Fin 4) (o : Fin 3 → ℕ) (h : ∀ a, o a + S1x64x10000.size a ≤ S8x513x10000.size a) : PR F PUnit :=
  Prog.lift (.enqueueDma (trows o h) (.here (tslot s)) (.dma (ringSem 0 s).sem) ((View.wordExact_bits rfl).reshape _ _) ((View.wordExact_bits rfl).reshape _ _) ⟨Or.inl rfl, trivial⟩)
def issueTrain (s : Fin 4) (o : Fin 3 → ℕ) (h : ∀ a, o a + S1x64x10000.size a ≤ S8x512x10000.size a) : PR F PUnit :=
  Prog.lift (.enqueueDma (xrows o h) (.here (xslot s)) (.dma (ringSem 1 s).sem) ((View.wordExact_bits rfl).reshape _ _) ((View.wordExact_bits rfl).reshape _ _) ⟨Or.inl rfl, trivial⟩)

/-- The prefetch of the stage three ahead, into slot `sn`, then `K`. -/
def prefetch (A : Ask) (sn : Fin 4) (h4 : A.runs) (h5 : A.pre) {β : Type} (K : PR F β) : PR F β := do
  let v117 : Elt F .i32 ← look bsM A.oN (A.hN h4 h5)
  let v119 : Elt F .i32 ← look jsM A.oN (A.hN h4 h5)
  have hw9 : A.cNext v117 v119 := (← Prog.lift (TpuEff.assume (A.cNext v117 v119) (A.cNextDec v117 v119))).down
  issueText sn (k0_off10 v117 v119) (A.hNext v117 v119 hw9 h4 h5)
  let v128 : Elt F .i32 ← look tfM A.oN (A.hN h4 h5)
  have hw10 : A.cNextX v117 v119 v128 := (← Prog.lift (TpuEff.assume (A.cNextX v117 v119 v128) (A.cNextXDec v117 v119 v128))).down
  if h6 : k0_cond6 v128 = 1#1 then do
    issueTrain sn (k0_off12 v117 v119) (A.hNextX v117 v119 v128 hw10 h4 h5 h6)
    K
  else K

/-- The wait for slot `s`'s text rows, and their load. -/
def waitText (s : Fin 4) (o : Fin 3 → ℕ) (h : ∀ a, o a + S1x64x10000.size a ≤ S8x513x10000.size a) : PR F PUnit :=
  Prog.lift (.waitDma2 (ringSem 0 s).sem (trows o h) (tslot s) ((View.wordExact_bits rfl).reshape _ _) ((View.wordExact_bits rfl).reshape _ _))
def waitTrain (s : Fin 4) (o : Fin 3 → ℕ) (h : ∀ a, o a + S1x64x10000.size a ≤ S8x512x10000.size a) : PR F PUnit :=
  Prog.lift (.waitDma2 (ringSem 1 s).sem (xrows o h) (xslot s) ((View.wordExact_bits rfl).reshape _ _) ((View.wordExact_bits rfl).reshape _ _))
def loadText (s : Fin 4) : PR F (Vec F S1x64x10000 .f32) :=
  Prog.lift (.load tbufM (slotRect s).toLoadRect (View.loadsAt_vmem h_S1x64x10000))
def loadTrain (s : Fin 4) : PR F (Vec F S1x64x10000 .f32) :=
  Prog.lift (.load xbufM (slotRect s).toLoadRect (View.loadsAt_vmem h_S1x64x10000))

/-- The block's first row completes the carried row's loss, if the block is not its sequence's first. -/
def consume (v88 : Elt F .i32) (v104 : Vec F S1x64x10000 .f32) {β : Type} (K : PR F β) : PR F β :=
  if Scalar.cmpi .ne (Scalar.extui (Scalar.cmpi .sgt v88 0#32)) 0#32 = 1#1 then do
    let v116 : Vec F S1x10000 .f32 ← Prog.lift (.load carryM (Rect.unit (s := S1x10000) ![0, 0] S1x10000.size inb_S1x10000_S1x10000_0_0).toLoadRect (View.loadsAt_vmem h_S1x10000))
    let v137 : Elt F .f32 ← smemLoad outM (Rect.unit (s := S1x1) ![0, 0] S1x1.size inb_S1x1_S1x1_0_0) numel1_S1x1 rfl
    let v143 : Elt F .f32 ← smemLoad outM (Rect.unit (s := S1x1) ![0, 0] S1x1.size inb_S1x1_S1x1_0_0) numel1_S1x1 rfl
    Prog.lift (.store outM (Rect.unit (s := S1x1) ![0, 0] S1x1.size inb_S1x1_S1x1_0_0) (fun _ => k0_pay3 v104 v116 v137) Finset.univ (View.stores_smem_one rfl numel1_S1x1) (.inl rfl))
    K
  else K

/-- The 63 losses whose rows lie in the block, and the carried row left for the next one. -/
def trainPart (s : Fin 4) (v88 : Elt F .i32) (v90 : Elt F .i32) (v104 : Vec F S1x64x10000 .f32) (o : Fin 3 → ℕ) (h : ∀ a, o a + S1x64x10000.size a ≤ S8x512x10000.size a) :
    PR F (Σ' (v124 : FVec F S64x10000 .f32) (v154 : FVec F S63x1 .f32) (v155 : Elt F .f32), FVec F S63x1 .f32) := do
  waitTrain s o h
  let v123 : Vec F S1x64x10000 .f32 ← loadTrain s
  let v155 : Elt F .f32 ← smemLoad outM (Rect.unit (s := S1x1) ![0, 0] S1x1.size inb_S1x1_S1x1_0_0) numel1_S1x1 rfl
  pure ⟨k0_pay41 v123, k0_pay42 (k0_pay1 v104) (k0_pay2 v104) v123, v155, k0_pay43 v90 (Scalar.muli v88 64#32)⟩

def train (A : Ask) (s : Fin 4) (h4 : A.runs) (v86 v88 v90 : Elt F .i32) (v104 : Vec F S1x64x10000 .f32) {β : Type} (K : PR F β) : PR F β := do
  let v112 : Elt F .i32 ← look tfM A.oK (A.hK h4)
  have hw12 : A.cTrain v86 v88 v112 := (← Prog.lift (TpuEff.assume (A.cTrain v86 v88 v112) (A.cTrainDec v86 v88 v112))).down
  if h8 : k0_cond8 v112 = 1#1 then do
    let ⟨v124, v154, v155, v156⟩ : Σ' (v124 : FVec F S64x10000 .f32) (v154 : FVec F S63x1 .f32) (v155 : Elt F .f32), FVec F S63x1 .f32 ← trainPart s v88 v90 v104 (k0_off15 v86 v88) (A.hTrain v86 v88 v112 hw12 h4 h8)
    let v163 : Elt F .f32 ← smemLoad outM (Rect.unit (s := S1x1) ![0, 0] S1x1.size inb_S1x1_S1x1_0_0) numel1_S1x1 rfl
    Prog.lift (.store outM (Rect.unit (s := S1x1) ![0, 0] S1x1.size inb_S1x1_S1x1_0_0) (fun _ => k0_pay4 v154 v155 v156) Finset.univ (View.stores_smem_one rfl numel1_S1x1) (.inl rfl))
    let v165 : Vec F S1x10000 .f32 ← Prog.lift (.load carryM (Rect.unit (s := S1x10000) ![0, 0] S1x10000.size inb_S1x10000_S1x10000_0_0).toLoadRect (View.loadsAt_vmem h_S1x10000))
    Prog.lift (.store carryM (Rect.unit (s := S1x10000) ![0, 0] S1x10000.size inb_S1x10000_S1x10000_0_0) (k0_pay5 v124) Finset.univ (View.stores_vmem_bits_univ h_S1x10000 rfl) (.inl rfl))
    K
  else K

/-- From its two waits' first on, a stage at slot `s`, then `K`. -/
def mid (A : Ask) (s : Fin 4) (h4 : A.runs) (v86 v88 v90 : Elt F .i32) (h : ∀ a, k0_off13 v86 v88 a + S1x64x10000.size a ≤ S8x513x10000.size a) {β : Type} (K : PR F β) : PR F β := do
  waitText s (k0_off13 v86 v88) h
  let v104 : Vec F S1x64x10000 .f32 ← loadText s
  consume v88 v104 (train A s h4 v86 v88 v90 v104 K)

/-- One stage at slot `s`, prefetching into slot `sn`, then `K`. -/
def stage (A : Ask) (s sn : Fin 4) {β : Type} (K : PR F β) : PR F β :=
  letI := A.runsDec
  letI := A.preDec
  if h4 : A.runs then do
    let v86 : Elt F .i32 ← look bsM A.oK (A.hK h4)
    have hw8 : A.cLen v86 := (← Prog.lift (TpuEff.assume (A.cLen v86) (A.cLenDec v86))).down
    let v88 : Elt F .i32 ← look jsM A.oK (A.hK h4)
    have hw11 : A.cText v86 v88 := (← Prog.lift (TpuEff.assume (A.cText v86 v88) (A.cTextDec v86 v88))).down
    let v90 : Elt F .i32 ← smemLoad lenM (Rect.unit (s := S8) (k0_off8 v86) S1.size (A.hLen v86 hw8 h4)) numel1_S1 rfl
    if h5 : A.pre then prefetch A sn h4 h5 (mid A s h4 v86 v88 v90 (A.hText v86 v88 hw11 h4) K)
    else mid A s h4 v86 v88 v90 (A.hText v86 v88 hw11 h4) K
  else K

/-! ## A trip is four stages -/

section
variable (v0 : BitVec 32) (h7 : k0_chk7 v0) (t : Fin (k0_t1_loop v0).trips)

/-- What the four stages of trip `t` ask. -/
def ask0 : Ask where
  runs := k0_cond4 v0 t = 1#1
  runsDec := inferInstance
  pre := k0_cond5 v0 t = 1#1
  preDec := inferInstance
  oK := k0_off7 v0 t
  hK h := k0_off7_inb v0 h7 t h
  oN := k0_off9 v0 t
  hN h h' := k0_off9_inb v0 h7 t h h'
  cLen := k0_chk8 v0 t
  cLenDec v := k0_chk8.dec v0 t v
  hLen v hv h := hv h
  cNext := k0_chk9 v0 t
  cNextDec v w := k0_chk9.dec v0 t v w
  hNext v w hv h h' := hv h h'
  cNextX := k0_chk10 v0 t
  cNextXDec v w u := k0_chk10.dec v0 t v w u
  hNextX v w u hv h h' h'' := hv h h' h''
  cText := k0_chk11 v0 t
  cTextDec v w := k0_chk11.dec v0 t v w
  hText v w hv h := hv h
  cTrain := k0_chk12 v0 t
  cTrainDec v w u := k0_chk12.dec v0 t v w u
  hTrain v w u hv h h' := hv h h'
def ask1 : Ask where
  runs := k0_cond9 v0 t = 1#1
  runsDec := inferInstance
  pre := k0_cond10 v0 t = 1#1
  preDec := inferInstance
  oK := k0_off16 v0 t
  hK h := k0_off16_inb v0 h7 t h
  oN := k0_off18 v0 t
  hN h h' := k0_off18_inb v0 h7 t h h'
  cLen := k0_chk13 v0 t
  cLenDec v := k0_chk13.dec v0 t v
  hLen v hv h := hv h
  cNext := k0_chk14 v0 t
  cNextDec v w := k0_chk14.dec v0 t v w
  hNext v w hv h h' := hv h h'
  cNextX := k0_chk15 v0 t
  cNextXDec v w u := k0_chk15.dec v0 t v w u
  hNextX v w u hv h h' h'' := hv h h' h''
  cText := k0_chk16 v0 t
  cTextDec v w := k0_chk16.dec v0 t v w
  hText v w hv h := hv h
  cTrain := k0_chk17 v0 t
  cTrainDec v w u := k0_chk17.dec v0 t v w u
  hTrain v w u hv h h' := hv h h'
def ask2 : Ask where
  runs := k0_cond14 v0 t = 1#1
  runsDec := inferInstance
  pre := k0_cond15 v0 t = 1#1
  preDec := inferInstance
  oK := k0_off25 v0 t
  hK h := k0_off25_inb v0 h7 t h
  oN := k0_off27 v0 t
  hN h h' := k0_off27_inb v0 h7 t h h'
  cLen := k0_chk18 v0 t
  cLenDec v := k0_chk18.dec v0 t v
  hLen v hv h := hv h
  cNext := k0_chk19 v0 t
  cNextDec v w := k0_chk19.dec v0 t v w
  hNext v w hv h h' := hv h h'
  cNextX := k0_chk20 v0 t
  cNextXDec v w u := k0_chk20.dec v0 t v w u
  hNextX v w u hv h h' h'' := hv h h' h''
  cText := k0_chk21 v0 t
  cTextDec v w := k0_chk21.dec v0 t v w
  hText v w hv h := hv h
  cTrain := k0_chk22 v0 t
  cTrainDec v w u := k0_chk22.dec v0 t v w u
  hTrain v w u hv h h' := hv h h'
def ask3 : Ask where
  runs := k0_cond19 v0 t = 1#1
  runsDec := inferInstance
  pre := k0_cond20 v0 t = 1#1
  preDec := inferInstance
  oK := k0_off34 v0 t
  hK h := k0_off34_inb v0 h7 t h
  oN := k0_off36 v0 t
  hN h h' := k0_off36_inb v0 h7 t h h'
  cLen := k0_chk23 v0 t
  cLenDec v := k0_chk23.dec v0 t v
  hLen v hv h := hv h
  cNext := k0_chk24 v0 t
  cNextDec v w := k0_chk24.dec v0 t v w
  hNext v w hv h h' := hv h h'
  cNextX := k0_chk25 v0 t
  cNextXDec v w u := k0_chk25.dec v0 t v w u
  hNextX v w u hv h h' h'' := hv h h' h''
  cText := k0_chk26 v0 t
  cTextDec v w := k0_chk26.dec v0 t v w
  hText v w hv h := hv h
  cTrain := k0_chk27 v0 t
  cTrainDec v w u := k0_chk27.dec v0 t v w u
  hTrain v w u hv h h' := hv h h'

/-- The four stages of a trip. -/
def tripStages : PR F (BitVec 32) :=
  stage (ask0 v0 h7 t) 0 3 <| stage (ask1 v0 h7 t) 1 0 <| stage (ask2 v0 h7 t) 2 1 <| stage (ask3 v0 h7 t) 3 2 (pure 0#32)
end

set_option maxRecDepth 65536 in
set_option maxHeartbeats 4000000 in
/-- The printed trip is its four stages. -/
theorem trip_eq (i : grid0.Coords) (v0 : BitVec 32) (h7 : k0_chk7 v0) (t : Fin (k0_t1_loop v0).trips) (a : BitVec 32) :
    k0_t1_body (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3 v0 h7 t a
      = tripStages v0 h7 t := rfl

end Cert.Proof.KI
-- ==== Proof.KI.Ring.lean ====
/-
  The ring's resources and the rules its transfers follow: a slot free or in flight, the issue of a transfer into a
  free slot, the wait that gives the slot back filled, and the load of what it then holds.
-/
module

public import proofs.«01_k».proof.Proof.KI.Stage

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the launch's own, and the counters the kernel's transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- What it takes to run `p` and then have `Q`. -/
abbrev WP (c : Dev nD) {α : Type} (p : PR F α) (Q : α → sProp 𝕄) : sProp 𝕄 :=
  wp frame (wpE (defs₀ (F := F)) 𝒱₀ (c : Thread nD τ) none) Set.univ p Q

/-! ## Blocks of rows -/

/-- The 64 text rows, and the 64 training rows, that start at `o`. -/
def tblk (XT : textM.view.ty.Contents (Elt F)) (o : Fin 3 → ℕ) (h : ∀ a, o a + S1x64x10000.size a ≤ S8x513x10000.size a) : Vec F S1x64x10000 .f32 :=
  (textM.access (Rect.unit (s := S8x513x10000) o S1x64x10000.size h)).read (Elt F) XT
def xblk (XX : trainM.view.ty.Contents (Elt F)) (o : Fin 3 → ℕ) (h : ∀ a, o a + S1x64x10000.size a ≤ S8x512x10000.size a) : Vec F S1x64x10000 .f32 :=
  (trainM.access (Rect.unit (s := S8x512x10000) o S1x64x10000.size h)).read (Elt F) XX

/-- A view re-read in another shape, written with another view's contents in that shape, holds that view's contents. -/
theorem read_write_reshape {κ κ' : Kind} {sp sp' : Space} {s s' : Shape} {e : EltTy} (v : View sig κ sp s e) (u : View sig κ' sp' s e)
    (h : s'.numel = s.numel) (f : v.ty.Contents (Elt F)) (g : u.ty.Contents (Elt F)) :
    v.read (Elt F) ((v.reshape s' h).write (Elt F) f ((u.reshape s' h).read (Elt F) g) Finset.univ) = u.read (Elt F) g := by
  funext x
  obtain ⟨y, rfl⟩ := (Shape.reshapeEquiv h).surjective x
  exact congrFun (View.read_write_univ (v := v.reshape s' h) (Val := Elt F) f ((u.reshape s' h).read (Elt F) g)) y

theorem tslot_read (s : Fin 4) (XT : textM.view.ty.Contents (Elt F)) (o : Fin 3 → ℕ) (h : ∀ a, o a + S1x64x10000.size a ≤ S8x513x10000.size a)
    (f : (tslot s).view.ty.Contents (Elt F)) :
    (tbufM.access (slotRect s)).read (Elt F) ((tslot s).view.write (Elt F) f ((trows o h).view.read (Elt F) XT) Finset.univ) = tblk XT o h :=
  read_write_reshape (tbufM.access (slotRect s)) (textM.access (Rect.unit (s := S8x513x10000) o S1x64x10000.size h)) squeezes_S1x64x10000_S64x10000.numel_eq f XT
theorem xslot_read (s : Fin 4) (XX : trainM.view.ty.Contents (Elt F)) (o : Fin 3 → ℕ) (h : ∀ a, o a + S1x64x10000.size a ≤ S8x512x10000.size a)
    (f : (xslot s).view.ty.Contents (Elt F)) :
    (xbufM.access (slotRect s)).read (Elt F) ((xslot s).view.write (Elt F) f ((xrows o h).view.read (Elt F) XX) Finset.univ) = xblk XX o h :=
  read_write_reshape (xbufM.access (slotRect s)) (trainM.access (Rect.unit (s := S8x512x10000) o S1x64x10000.size h)) squeezes_S1x64x10000_S64x10000.numel_eq f XX

/-! ## A slot, its transfer, and the reader's share of the array -/

variable (c : Dev nD)

/-- Slot `s` of the texts' ring filled with `b`, and of the training rows'. -/
def tfull (s : Fin 4) (b : Vec F S1x64x10000 .f32) : sProp 𝕄 :=
  iprop(∃ f : (tslot s).view.ty.Contents (Elt F), ((tslot s).view.loc (c : Thread nD τ) ↦[(tslot s).view.set]{fullShare} f)
    ∗ ⌜(tbufM.access (slotRect s)).read (Elt F) f = b⌝)
def xfull (s : Fin 4) (b : Vec F S1x64x10000 .f32) : sProp 𝕄 :=
  iprop(∃ f : (xslot s).view.ty.Contents (Elt F), ((xslot s).view.loc (c : Thread nD τ) ↦[(xslot s).view.set]{fullShare} f)
    ∗ ⌜(xbufM.access (slotRect s)).read (Elt F) f = b⌝)
/-- Slot `s`'s share of the texts, and of the training rows. -/
abbrev tok (s : Fin 4) : PosShare TreeShare := Transfers.shareTok fullShare 4 s
def tarr (s : Fin 4) (XT : textM.view.ty.Contents (Elt F)) : sProp 𝕄 := textM.view.loc (c : Thread nD τ) ↦[Finset.univ]{tok s} XT
def xarr (s : Fin 4) (XX : trainM.view.ty.Contents (Elt F)) : sProp 𝕄 := trainM.view.loc (c : Thread nD τ) ↦[Finset.univ]{tok s} XX
/-- Slot `s` free: its semaphore at zero, its words whatever they are, its share of the array whole. -/
def tfree (XT : textM.view.ty.Contents (Elt F)) (s : Fin 4) : sProp 𝕄 :=
  iprop(semVal ((c : Thread nD τ), SemLoc.dma (ringSem 0 s).sem) 0 ∗ (∃ b, tfull c s b) ∗ tarr c s XT)
def xfree (XX : trainM.view.ty.Contents (Elt F)) (s : Fin 4) : sProp 𝕄 :=
  iprop(semVal ((c : Thread nD τ), SemLoc.dma (ringSem 1 s).sem) 0 ∗ (∃ b, xfull c s b) ∗ xarr c s XX)
/-- Slot `s` being filled with the rows at `o`, from the array of text rows. -/
def tfly (XT : textM.view.ty.Contents (Elt F)) (s : Fin 4) (o : Fin 3 → ℕ) (h : ∀ a, o a + S1x64x10000.size a ≤ S8x513x10000.size a) : sProp 𝕄 :=
  iprop(Transfers.Flight countersEmb (c : Thread nD τ) (SemLoc.dma (ringSem 0 s).sem) () (tslot s).view.dmaCredit
      iprop(tfull c s (tblk XT o h) ∗ (textM.view.loc (c : Thread nD τ) ↦[(trows o h).view.set]{tok s} XT))
    ∗ (textM.view.loc (c : Thread nD τ) ↦[Finset.univ \ (trows o h).view.set]{tok s} XT))
/-- Slot `s` being filled with the rows at `o`, from the array of training rows. -/
def xfly (XX : trainM.view.ty.Contents (Elt F)) (s : Fin 4) (o : Fin 3 → ℕ) (h : ∀ a, o a + S1x64x10000.size a ≤ S8x512x10000.size a) : sProp 𝕄 :=
  iprop(Transfers.Flight countersEmb (c : Thread nD τ) (SemLoc.dma (ringSem 1 s).sem) () (xslot s).view.dmaCredit
      iprop(xfull c s (xblk XX o h) ∗ (trainM.view.loc (c : Thread nD τ) ↦[(xrows o h).view.set]{tok s} XX))
    ∗ (trainM.view.loc (c : Thread nD τ) ↦[Finset.univ \ (xrows o h).view.set]{tok s} XX))

/-- Issuing a transfer of text rows into a free slot. -/
theorem wp_issueText (XT : textM.view.ty.Contents (Elt F)) (s : Fin 4) (o : Fin 3 → ℕ) (h : ∀ a, o a + S1x64x10000.size a ≤ S8x513x10000.size a)
    {β : Type} (K : PUnit → PR F β) (Q : β → sProp 𝕄) :
    tfree c XT s ⊢ iprop((tfly c XT s o h -∗ WP c (K ⟨⟩) Q) -∗ WP c (issueText s o h >>= K) Q) := by
  unfold tfree tfull tarr tfly
  iintro ⟨Hv, ⟨%b, %f, Hd, %hf⟩, Ha⟩ Hk
  ihave Ha' := (pointsTo_split_subset (Finset.subset_univ (trows o h).view.set)).1 $$ Ha
  icases Ha' with ⟨Hs, Hr⟩
  iapply (Transfers.wp_dmaLocal countersEmb 𝒱₀ (c : Thread nD τ) none () (tslot s).view.dmaCredit rfl (View.dmaCredit_pos _ (by decide)) (Finset.Subset.refl _)) $$ [Hv Hd Hs]
  · isplitl [Hs]; · iexact Hs
    isplitl [Hd]; · iexact Hd
    iexact Hv
  iintro Hf
  iapply Hk
  isplitl [Hf]
  · iapply (Transfers.Flight_mono (D' := iprop(tfull c s (tblk XT o h) ∗ (textM.view.loc (c : Thread nD τ) ↦[(trows o h).view.set]{tok s} XT))) ?_) $$ Hf
    unfold tfull
    iintro ⟨Hd, Hs⟩
    isplitl [Hd]
    · iexists _
      isplitl [Hd]; · iexact Hd
      ipureintro
      exact tslot_read s XT o h f
    iexact Hs
  iexact Hr

/-- The wait for a slot of text rows being filled: it comes back full, its semaphore and its share of the array with it. -/
theorem wp_waitText (XT : textM.view.ty.Contents (Elt F)) (s : Fin 4) (o o' : Fin 3 → ℕ) (h : ∀ a, o a + S1x64x10000.size a ≤ S8x513x10000.size a)
    (h' : ∀ a, o' a + S1x64x10000.size a ≤ S8x513x10000.size a) {β : Type} (K : PUnit → PR F β) (Q : β → sProp 𝕄) :
    iprop(tfly c XT s o h ∗ (∃ W, owes (c : Thread nD τ) 0 W))
      ⊢ iprop(((semVal ((c : Thread nD τ), SemLoc.dma (ringSem 0 s).sem) 0 ∗ tfull c s (tblk XT o h) ∗ tarr c s XT ∗ (∃ W, owes (c : Thread nD τ) 0 W)) -∗ WP c (K ⟨⟩) Q)
        -∗ WP c (waitText s o' h' >>= K) Q) := by
  unfold tfly
  iintro ⟨⟨Hf, Hr⟩, ⟨%W, HO⟩⟩ Hk
  iapply (Transfers.wp_waitLocal countersEmb 𝒱₀ (c : Thread nD τ) none () rfl) $$ [Hf HO]
  · isplitl [Hf]; · iexact Hf
    iexact HO
  iintro ⟨⟨Hd, Hs⟩, Hv, HO⟩
  iapply Hk
  isplitl [Hv]; · iexact Hv
  isplitl [Hd]; · iexact Hd
  isplitl [Hs Hr]
  · unfold tarr
    iapply (pointsTo_split_subset (Finset.subset_univ (trows o h).view.set)).2
    isplitl [Hs]; · iexact Hs
    iexact Hr
  iexists _
  iexact HO

theorem tslot_set (s : Fin 4) : (tslot s).view.set = (tbufM.access (slotRect s)).set := View.set_reshape _ _

/-- The load of a full slot of text rows. -/
theorem wp_loadText (s : Fin 4) (b : Vec F S1x64x10000 .f32) {β : Type} (K : Vec F S1x64x10000 .f32 → PR F β) (Q : β → sProp 𝕄) :
    tfull c s b ⊢ iprop((tfull c s b -∗ WP c (K b) Q) -∗ WP c (loadText s >>= K) Q) := by
  unfold tfull
  iintro ⟨%f, Hd, %hf⟩ Hk
  subst hf
  ihave Hd' := (show ((tslot s).view.loc (c : Thread nD τ) ↦[(tslot s).view.set]{fullShare} f : sProp 𝕄)
    ⊢ ((tbufM.access (slotRect s)).loc (c : Thread nD τ) ↦[(tslot s).view.set]{fullShare} f) from .rfl) $$ Hd
  iapply (wp_load_rect 𝒱₀ (c : Thread nD τ) none Set.univ (m := tbufM) (r := slotRect s) (q := fullShare) (f := f) (S := (tslot s).view.set) (tslot_set s).ge) $$ Hd'
  iintro Hd
  iapply Hk
  iexists f
  isplitl [Hd]; · iexact Hd
  ipureintro; rfl

/-- Issuing a transfer of training rows into a free slot. -/
theorem wp_issueTrain (XX : trainM.view.ty.Contents (Elt F)) (s : Fin 4) (o : Fin 3 → ℕ) (h : ∀ a, o a + S1x64x10000.size a ≤ S8x512x10000.size a)
    {β : Type} (K : PUnit → PR F β) (Q : β → sProp 𝕄) :
    xfree c XX s ⊢ iprop((xfly c XX s o h -∗ WP c (K ⟨⟩) Q) -∗ WP c (issueTrain s o h >>= K) Q) := by
  unfold xfree xfull xarr xfly
  iintro ⟨Hv, ⟨%b, %f, Hd, %hf⟩, Ha⟩ Hk
  ihave Ha' := (pointsTo_split_subset (Finset.subset_univ (xrows o h).view.set)).1 $$ Ha
  icases Ha' with ⟨Hs, Hr⟩
  iapply (Transfers.wp_dmaLocal countersEmb 𝒱₀ (c : Thread nD τ) none () (xslot s).view.dmaCredit rfl (View.dmaCredit_pos _ (by decide)) (Finset.Subset.refl _)) $$ [Hv Hd Hs]
  · isplitl [Hs]; · iexact Hs
    isplitl [Hd]; · iexact Hd
    iexact Hv
  iintro Hf
  iapply Hk
  isplitl [Hf]
  · iapply (Transfers.Flight_mono (D' := iprop(xfull c s (xblk XX o h) ∗ (trainM.view.loc (c : Thread nD τ) ↦[(xrows o h).view.set]{tok s} XX))) ?_) $$ Hf
    unfold xfull
    iintro ⟨Hd, Hs⟩
    isplitl [Hd]
    · iexists _
      isplitl [Hd]; · iexact Hd
      ipureintro
      exact xslot_read s XX o h f
    iexact Hs
  iexact Hr

/-- The wait for a slot of training rows being filled: it comes back full, its semaphore and its share of the array with it. -/
theorem wp_waitTrain (XX : trainM.view.ty.Contents (Elt F)) (s : Fin 4) (o o' : Fin 3 → ℕ) (h : ∀ a, o a + S1x64x10000.size a ≤ S8x512x10000.size a)
    (h' : ∀ a, o' a + S1x64x10000.size a ≤ S8x512x10000.size a) {β : Type} (K : PUnit → PR F β) (Q : β → sProp 𝕄) :
    iprop(xfly c XX s o h ∗ (∃ W, owes (c : Thread nD τ) 0 W))
      ⊢ iprop(((semVal ((c : Thread nD τ), SemLoc.dma (ringSem 1 s).sem) 0 ∗ xfull c s (xblk XX o h) ∗ xarr c s XX ∗ (∃ W, owes (c : Thread nD τ) 0 W)) -∗ WP c (K ⟨⟩) Q)
        -∗ WP c (waitTrain s o' h' >>= K) Q) := by
  unfold xfly
  iintro ⟨⟨Hf, Hr⟩, ⟨%W, HO⟩⟩ Hk
  iapply (Transfers.wp_waitLocal countersEmb 𝒱₀ (c : Thread nD τ) none () rfl) $$ [Hf HO]
  · isplitl [Hf]; · iexact Hf
    iexact HO
  iintro ⟨⟨Hd, Hs⟩, Hv, HO⟩
  iapply Hk
  isplitl [Hv]; · iexact Hv
  isplitl [Hd]; · iexact Hd
  isplitl [Hs Hr]
  · unfold xarr
    iapply (pointsTo_split_subset (Finset.subset_univ (xrows o h).view.set)).2
    isplitl [Hs]; · iexact Hs
    iexact Hr
  iexists _
  iexact HO

theorem xslot_set (s : Fin 4) : (xslot s).view.set = (xbufM.access (slotRect s)).set := View.set_reshape _ _

/-- The load of a full slot of training rows. -/
theorem wp_loadTrain (s : Fin 4) (b : Vec F S1x64x10000 .f32) {β : Type} (K : Vec F S1x64x10000 .f32 → PR F β) (Q : β → sProp 𝕄) :
    xfull c s b ⊢ iprop((xfull c s b -∗ WP c (K b) Q) -∗ WP c (loadTrain s >>= K) Q) := by
  unfold xfull
  iintro ⟨%f, Hd, %hf⟩ Hk
  subst hf
  ihave Hd' := (show ((xslot s).view.loc (c : Thread nD τ) ↦[(xslot s).view.set]{fullShare} f : sProp 𝕄)
    ⊢ ((xbufM.access (slotRect s)).loc (c : Thread nD τ) ↦[(xslot s).view.set]{fullShare} f) from .rfl) $$ Hd
  iapply (wp_load_rect 𝒱₀ (c : Thread nD τ) none Set.univ (m := xbufM) (r := slotRect s) (q := fullShare) (f := f) (S := (xslot s).view.set) (xslot_set s).ge) $$ Hd'
  iintro Hd
  iapply Hk
  iexists f
  isplitl [Hd]; · iexact Hd
  ipureintro; rfl

end Cert.Proof.KI
-- ==== Proof.KI.Tab.lean ====
/-
  What the tables say of the stages, the state of the ring before a stage, and the run of one stage.
-/
module

public import proofs.«01_k».proof.Proof.KI.Ring

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## Words of the tables -/

/-- Index `k` of a table, and of the lengths. -/
def at72 (k : ℕ) : S72.Idx := fun a => ⟨k % 72, by fin_cases a; exact Nat.mod_lt _ (by decide)⟩
def at8 (k : ℕ) : S8.Idx := fun a => ⟨k % 8, by fin_cases a; exact Nat.mod_lt _ (by decide)⟩
/-- What a table's view reads at `o`. -/
def rd (m : Memref sig .tc .smem S72 .i32) (f : m.view.ty.Contents (Elt F)) (o : Fin 1 → ℕ) (h : ∀ a, o a + S1.size a ≤ S72.size a) : BitVec 32 :=
  (m.access (Rect.unit (s := S72) o S1.size h)).read (Elt F) f (Shape.Idx.first (numel1_S1.symm ▸ Nat.one_pos))

theorem emb_at72 (k : ℕ) (hk : k < 72) (h : ∀ a, (![k] : Fin 1 → ℕ) a + S1.size a ≤ S72.size a) :
    (Rect.unit (s := S72) ![k] S1.size h).emb (Shape.Idx.first (numel1_S1.symm ▸ Nat.one_pos)) = at72 k := by
  funext a
  fin_cases a
  refine Fin.ext ?_
  show k + 1 * 0 = k % 72
  rw [Nat.mod_eq_of_lt hk]; omega

theorem rd_bs (f : bsM.view.ty.Contents (Elt F)) (k : ℕ) (hk : k < 72) (h : ∀ a, (![k] : Fin 1 → ℕ) a + S1.size a ≤ S72.size a) :
    rd bsM f ![k] h = f (at72 k) := congrArg f (emb_at72 k hk h)
theorem rd_js (f : jsM.view.ty.Contents (Elt F)) (k : ℕ) (hk : k < 72) (h : ∀ a, (![k] : Fin 1 → ℕ) a + S1.size a ≤ S72.size a) :
    rd jsM f ![k] h = f (at72 k) := congrArg f (emb_at72 k hk h)
theorem rd_tf (f : tfM.view.ty.Contents (Elt F)) (k : ℕ) (hk : k < 72) (h : ∀ a, (![k] : Fin 1 → ℕ) a + S1.size a ≤ S72.size a) :
    rd tfM f ![k] h = f (at72 k) := congrArg f (emb_at72 k hk h)
/-- What the lengths' view reads at a word's place. -/
def rdLen (f : lenM.view.ty.Contents (Elt F)) (o : Fin 1 → ℕ) (h : ∀ a, o a + S1.size a ≤ S8.size a) : BitVec 32 :=
  (lenM.access (Rect.unit (s := S8) o S1.size h)).read (Elt F) f (Shape.Idx.first (numel1_S1.symm ▸ Nat.one_pos))
theorem rd_len (f : lenM.view.ty.Contents (Elt F)) (v : BitVec 32) (hv : v.toNat < 8) (h : ∀ a, k0_off8 v a + S1.size a ≤ S8.size a) :
    rdLen f (k0_off8 v) h = f (at8 v.toNat) := by
  refine congrArg f ?_
  funext a
  fin_cases a
  refine Fin.ext ?_
  show v.toNat + 1 * 0 = v.toNat % 8
  rw [Nat.mod_eq_of_lt hv]; omega

/-! ## The rules for words -/

section Rules
variable (c : Dev nD)

/-- The read of a table's word. -/
theorem wp_look (m : Memref sig .tc .smem S72 .i32) (q : PosShare TreeShare) (f : m.view.ty.Contents (Elt F)) (o : Fin 1 → ℕ) (h : ∀ a, o a + S1.size a ≤ S72.size a)
    {β : Type} (K : Elt F .i32 → PR F β) (Q : β → sProp 𝕄) :
    (m.view.loc (c : Thread nD τ) ↦[Finset.univ]{q} f : sProp 𝕄)
      ⊢ iprop(((m.view.loc (c : Thread nD τ) ↦[Finset.univ]{q} f) -∗ WP c (K (rd m f o h)) Q) -∗ WP c (look m o h >>= K) Q) := by
  iintro Hm Hk
  iapply (wp_smemLoadElt 𝒱₀ (c : Thread nD τ) none Set.univ (m := m) (r := Rect.unit (s := S72) o S1.size h) (hw := View.loads_smem_one rfl numel1_S1) (x := Shape.Idx.first (numel1_S1.symm ▸ Nat.one_pos)) (q := q) (f := f) (S := Finset.univ) (Finset.subset_univ _)) $$ Hm
  iintro Hm
  iapply Hk
  iexact Hm

theorem wp_lookLen (q : PosShare TreeShare) (f : lenM.view.ty.Contents (Elt F)) (o : Fin 1 → ℕ) (h : ∀ a, o a + S1.size a ≤ S8.size a)
    {β : Type} (K : Elt F .i32 → PR F β) (Q : β → sProp 𝕄) :
    (lenM.view.loc (c : Thread nD τ) ↦[Finset.univ]{q} f : sProp 𝕄)
      ⊢ iprop(((lenM.view.loc (c : Thread nD τ) ↦[Finset.univ]{q} f) -∗ WP c (K (rdLen f o h)) Q)
        -∗ WP c ((smemLoad lenM (Rect.unit (s := S8) o S1.size h) numel1_S1 rfl : PR F (Elt F .i32)) >>= K) Q) := by
  iintro Hm Hk
  iapply (wp_smemLoadElt 𝒱₀ (c : Thread nD τ) none Set.univ (m := lenM) (r := Rect.unit (s := S8) o S1.size h) (hw := View.loads_smem_one rfl numel1_S1) (x := Shape.Idx.first (numel1_S1.symm ▸ Nat.one_pos)) (q := q) (f := f) (S := Finset.univ) (Finset.subset_univ _)) $$ Hm
  iintro Hm
  iapply Hk
  iexact Hm

/-- An assumption that holds. -/
theorem wp_assumed {P : Prop} (d : Decidable P) (hP : P) {β : Type} (K : PLift P → PR F β) (Q : β → sProp 𝕄) :
    WP c (K ⟨hP⟩) Q ⊢ WP c ((Prog.lift (TpuEff.assume P d) : PR F (PLift P)) >>= K) Q :=
  wp_assume 𝒱₀ (c : Thread nD τ) none Set.univ (k := K) hP

/-! ### The output word and the carried row -/

/-- The output word's one element, and the carried row. -/
abbrev outR : Rect S1x1 := Rect.unit (s := S1x1) ![0, 0] S1x1.size inb_S1x1_S1x1_0_0
abbrev carryR : Rect S1x10000 := Rect.unit (s := S1x10000) ![0, 0] S1x10000.size inb_S1x10000_S1x10000_0_0
def outP (o : F .f32) : sProp 𝕄 :=
  iprop(∃ f : outM.view.ty.Contents (Elt F), (outM.view.loc (c : Thread nD τ) ↦[Finset.univ]{fullShare} f)
    ∗ ⌜(outM.access outR).read (Elt F) f = fun _ => o⌝)
def carryP (r : Vec F S1x10000 .f32) : sProp 𝕄 :=
  iprop(∃ f : carryM.view.ty.Contents (Elt F), (carryM.view.loc (c : Thread nD τ) ↦[Finset.univ]{fullShare} f)
    ∗ ⌜(carryM.access carryR).read (Elt F) f = r⌝)

def loadOut : PR F (Elt F .f32) := smemLoad outM outR numel1_S1x1 rfl
def storeOut (v : Elt F .f32) : PR F PUnit := Prog.lift (.store outM outR (fun _ => v) Finset.univ (View.stores_smem_one rfl numel1_S1x1) (.inl rfl))
def loadCarry : PR F (Vec F S1x10000 .f32) := Prog.lift (.load carryM carryR.toLoadRect (View.loadsAt_vmem h_S1x10000))
def storeCarry (v : Vec F S1x10000 .f32) : PR F PUnit := Prog.lift (.store carryM carryR v Finset.univ (View.stores_vmem_bits_univ h_S1x10000 rfl) (.inl rfl))

theorem wp_loadOut (o : F .f32) {β : Type} (K : Elt F .f32 → PR F β) (Q : β → sProp 𝕄) :
    outP c o ⊢ iprop((outP c o -∗ WP c (K o) Q) -∗ WP c (loadOut >>= K) Q) := by
  unfold outP
  iintro ⟨%f, Hm, %hf⟩ Hk
  iapply (wp_smemLoadElt 𝒱₀ (c : Thread nD τ) none Set.univ (m := outM) (r := outR) (hw := View.loads_smem_one rfl numel1_S1x1) (x := Shape.Idx.first (numel1_S1x1.symm ▸ Nat.one_pos)) (q := fullShare) (f := f) (S := Finset.univ) (Finset.subset_univ _)) $$ Hm
  iintro Hm
  rw [hf]
  iapply Hk
  iexists f
  isplitl [Hm]; · iexact Hm
  ipureintro; exact hf
theorem wp_storeOut (o v : F .f32) {β : Type} (K : PUnit → PR F β) (Q : β → sProp 𝕄) :
    outP c o ⊢ iprop((outP c v -∗ WP c (K ⟨⟩) Q) -∗ WP c (storeOut v >>= K) Q) := by
  unfold outP
  iintro ⟨%f, Hm, %hf⟩ Hk
  iapply (wp_store 𝒱₀ (c : Thread nD τ) none Set.univ (m := outM) (r := outR) (w := fun _ => v) (Mk := Finset.univ) (f := f) (S := Finset.univ) (Finset.subset_univ _)) $$ Hm
  iintro Hm
  iapply Hk
  iexists _
  isplitl [Hm]; · iexact Hm
  ipureintro
  exact View.read_write_univ _ _
theorem wp_loadCarry (r : Vec F S1x10000 .f32) {β : Type} (K : Vec F S1x10000 .f32 → PR F β) (Q : β → sProp 𝕄) :
    carryP c r ⊢ iprop((carryP c r -∗ WP c (K r) Q) -∗ WP c (loadCarry >>= K) Q) := by
  unfold carryP
  iintro ⟨%f, Hm, %hf⟩ Hk
  subst hf
  iapply (wp_load_rect 𝒱₀ (c : Thread nD τ) none Set.univ (m := carryM) (r := carryR) (q := fullShare) (f := f) (S := Finset.univ) (Finset.subset_univ _)) $$ Hm
  iintro Hm
  iapply Hk
  iexists f
  isplitl [Hm]; · iexact Hm
  ipureintro; rfl
theorem wp_storeCarry (r v : Vec F S1x10000 .f32) {β : Type} (K : PUnit → PR F β) (Q : β → sProp 𝕄) :
    carryP c r ⊢ iprop((carryP c v -∗ WP c (K ⟨⟩) Q) -∗ WP c (storeCarry v >>= K) Q) := by
  unfold carryP
  iintro ⟨%f, Hm, %hf⟩ Hk
  iapply (wp_store 𝒱₀ (c : Thread nD τ) none Set.univ (m := carryM) (r := carryR) (w := v) (Mk := Finset.univ) (f := f) (S := Finset.univ) (Finset.subset_univ _)) $$ Hm
  iintro Hm
  iapply Hk
  iexists _
  isplitl [Hm]; · iexact Hm
  ipureintro
  exact View.read_write_univ _ _
end Rules

end Cert.Proof.KI
-- ==== Proof.KI.Step.lean ====
/-
  One stage: what it takes from the state of the ring before it to the state after it.
-/
module

public import proofs.«01_k».proof.Proof.KI.Tab

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-- What a run of the kernel is given: the tables, the lengths, the two arrays, and how many stages run; with the
    stages' blocks in range. -/
structure Data (F : FTy → Type) [FloatOps F] [Named F] where
  BS : bsM.view.ty.Contents (Elt F)
  JS : jsM.view.ty.Contents (Elt F)
  TF : tfM.view.ty.Contents (Elt F)
  LEN : lenM.view.ty.Contents (Elt F)
  XT : textM.view.ty.Contents (Elt F)
  XX : trainM.view.ty.Contents (Elt F)
  tot : ℕ
  tot_ge : 8 ≤ tot
  tot_le : tot ≤ 64
  bs_lt : ∀ k, k < tot → (BS (at72 k) : BitVec 32).toNat < 8
  js_lt : ∀ k, k < tot → (JS (at72 k) : BitVec 32).toNat < 8

/-- The place of a block: batch `v`, from row `64 w` on. -/
theorem row_toNat (w : BitVec 32) (hw : w.toNat < 8) : (Scalar.muli w 64#32).toNat = w.toNat * 64 := by
  show (w * 64#32).toNat = _
  rw [BitVec.toNat_mul, show (64#32 : BitVec 32).toNat = 64 from rfl, Nat.mod_eq_of_lt (by omega)]
theorem block_inb (n : ℕ) (hn : 512 ≤ n) (v w : BitVec 32) (hv : v.toNat < 8) (hw : w.toNat < 8) (s : Fin 3 → ℕ) (hs : s = ![8, n, 10000]) :
    ∀ a, (![v.toNat, (Scalar.muli w 64#32).toNat, 0] : Fin 3 → ℕ) a + S1x64x10000.size a ≤ s a := by
  subst hs
  rw [row_toNat w hw]
  intro a
  fin_cases a
  · show v.toNat + 1 ≤ 8; omega
  · show w.toNat * 64 + 64 ≤ n; omega
  · show 0 + 10000 ≤ 10000; omega
theorem text_inb (v w : BitVec 32) (hv : v.toNat < 8) (hw : w.toNat < 8) : ∀ a, k0_off10 v w a + S1x64x10000.size a ≤ S8x513x10000.size a :=
  block_inb 513 (by omega) v w hv hw _ (by funext a; fin_cases a <;> rfl)
theorem train_inb (v w : BitVec 32) (hv : v.toNat < 8) (hw : w.toNat < 8) : ∀ a, k0_off12 v w a + S1x64x10000.size a ≤ S8x512x10000.size a :=
  block_inb 512 (by omega) v w hv hw _ (by funext a; fin_cases a <;> rfl)
theorem len_inb (v : BitVec 32) (hv : v.toNat < 8) : ∀ a, k0_off8 v a + S1.size a ≤ S8.size a := by
  intro a
  fin_cases a
  show v.toNat + 1 ≤ 8
  omega

theorem cond6_iff (u : BitVec 32) : k0_cond6 u = 1#1 ↔ u = 1#32 := by
  unfold k0_cond6
  by_cases h : u = 1#32
  · subst h; decide
  · have he : IntOp.cmpi .eq u 1#32 = 0#1 := by simp only [IntOp.cmpi]; rw [beq_eq_false_iff_ne.2 h]; rfl
    simp only [Scalar.cmpi, Scalar.extui, he]
    constructor
    · intro hc; exact absurd hc (by decide)
    · intro hu; exact absurd hu h
theorem cond8_iff (u : BitVec 32) : k0_cond8 u = 1#1 ↔ u = 1#32 := cond6_iff u

/-- Slot of stage `k`. -/
abbrev sl (k : ℕ) : Fin 4 := ⟨k % 4, Nat.mod_lt _ (by decide)⟩

namespace Data
variable (D : Data F)

abbrev bw (k : ℕ) : BitVec 32 := D.BS (at72 k)
abbrev jw (k : ℕ) : BitVec 32 := D.JS (at72 k)
abbrev tw (k : ℕ) : BitVec 32 := D.TF (at72 k)
/-- The text rows, and the training rows, of stage `k`. -/
def tb (k : ℕ) (h : k < D.tot) : Vec F S1x64x10000 .f32 := tblk D.XT (k0_off10 (D.bw k) (D.jw k)) (text_inb _ _ (D.bs_lt k h) (D.js_lt k h))
def xb (k : ℕ) (h : k < D.tot) : Vec F S1x64x10000 .f32 := xblk D.XX (k0_off12 (D.bw k) (D.jw k)) (train_inb _ _ (D.bs_lt k h) (D.js_lt k h))

/-- The output word after the carried row's loss is added. -/
def useCarry (k : ℕ) (h : k < D.tot) (p : F .f32 × Vec F S1x10000 .f32) : F .f32 :=
  if Scalar.cmpi .ne (Scalar.extui (Scalar.cmpi .sgt (D.jw k) 0#32)) 0#32 = 1#1 then k0_pay3 (D.tb k h) p.2 p.1 else p.1
/-- What stage `k` makes of the output word and the carried row. -/
def step (k : ℕ) (p : F .f32 × Vec F S1x10000 .f32) : F .f32 × Vec F S1x10000 .f32 :=
  if h : k < D.tot then
    if D.tw k = 1#32 then
      (k0_pay4 (k0_pay42 (k0_pay1 (D.tb k h)) (k0_pay2 (D.tb k h)) (D.xb k h)) (D.useCarry k h p)
          (k0_pay43 (D.LEN (at8 (D.bw k).toNat)) (Scalar.muli (D.jw k) 64#32)),
        k0_pay5 (k0_pay41 (D.xb k h)))
    else (D.useCarry k h p, p.2)
  else p

variable (c : Dev nD)

/-- Slot `sl k` as stage `k` will find it. -/
def tin (k : ℕ) : sProp 𝕄 :=
  if h : k < D.tot then tfly c D.XT (sl k) (k0_off10 (D.bw k) (D.jw k)) (text_inb _ _ (D.bs_lt k h) (D.js_lt k h)) else tfree c D.XT (sl k)
def xin (k : ℕ) : sProp 𝕄 :=
  if h : k < D.tot ∧ D.tw k = 1#32 then xfly c D.XX (sl k) (k0_off12 (D.bw k) (D.jw k)) (train_inb _ _ (D.bs_lt k h.1) (D.js_lt k h.1)) else xfree c D.XX (sl k)

/-- The tables and the lengths, at the shares they are held at. -/
def tabs (q : PosShare TreeShare) : sProp 𝕄 :=
  iprop((bsM.view.loc (c : Thread nD τ) ↦[Finset.univ]{q} D.BS) ∗ (jsM.view.loc (c : Thread nD τ) ↦[Finset.univ]{q} D.JS)
    ∗ (tfM.view.loc (c : Thread nD τ) ↦[Finset.univ]{q} D.TF) ∗ (lenM.view.loc (c : Thread nD τ) ↦[Finset.univ]{q} D.LEN))
/-- The state before stage `k`. -/
def ring (k : ℕ) (p : F .f32 × Vec F S1x10000 .f32) : sProp 𝕄 :=
  iprop((D.tin c k ∗ D.tin c (k + 1) ∗ D.tin c (k + 2) ∗ tfree c D.XT (sl (k + 3)))
    ∗ (D.xin c k ∗ D.xin c (k + 1) ∗ D.xin c (k + 2) ∗ xfree c D.XX (sl (k + 3)))
    ∗ outP c p.1 ∗ carryP c p.2 ∗ (∃ W, owes (c : Thread nD τ) 0 W))

/-- What a stage's questions amount to at stage `k`. -/
structure At (A : Ask) (k : ℕ) : Prop where
  runs : A.runs ↔ k < D.tot
  pre : A.pre ↔ k + 3 < D.tot
  oK : A.oK = ![k]
  oN : A.oN = ![k + 3]
  cLen : ∀ v, (∀ a, k0_off8 v a + S1.size a ≤ S8.size a) → A.cLen v
  cNext : ∀ v w, (∀ a, k0_off10 v w a + S1x64x10000.size a ≤ S8x513x10000.size a) → A.cNext v w
  cNextX : ∀ v w u, (∀ a, k0_off12 v w a + S1x64x10000.size a ≤ S8x512x10000.size a) → A.cNextX v w u
  cText : ∀ v w, (∀ a, k0_off13 v w a + S1x64x10000.size a ≤ S8x513x10000.size a) → A.cText v w
  cTrain : ∀ v w u, (∀ a, k0_off15 v w a + S1x64x10000.size a ≤ S8x512x10000.size a) → A.cTrain v w u

variable {D c}

theorem tot72 {k : ℕ} (h : k < D.tot) : k < 72 := by have := D.tot_le; omega

/-- The reads of stage `k`'s words, each at a place said to be `k`. -/
theorem wp_lookBs (q : PosShare TreeShare) (k : ℕ) (hk : k < 72) (o : Fin 1 → ℕ) (ho : o = ![k]) (h : ∀ a, o a + S1.size a ≤ S72.size a)
    {β : Type} (K : Elt F .i32 → PR F β) (Q : β → sProp 𝕄) :
    D.tabs c q ⊢ iprop((D.tabs c q -∗ WP c (K (D.bw k)) Q) -∗ WP c (look bsM o h >>= K) Q) := by
  subst ho
  unfold tabs
  iintro ⟨Hb, Hj, Ht, Hl⟩ Hk
  iapply (wp_look c bsM q D.BS _ h K Q) $$ Hb
  iintro Hb
  rw [rd_bs D.BS k hk h]
  iapply Hk
  isplitl [Hb]; · iexact Hb
  isplitl [Hj]; · iexact Hj
  isplitl [Ht]; · iexact Ht
  iexact Hl
theorem wp_lookJs (q : PosShare TreeShare) (k : ℕ) (hk : k < 72) (o : Fin 1 → ℕ) (ho : o = ![k]) (h : ∀ a, o a + S1.size a ≤ S72.size a)
    {β : Type} (K : Elt F .i32 → PR F β) (Q : β → sProp 𝕄) :
    D.tabs c q ⊢ iprop((D.tabs c q -∗ WP c (K (D.jw k)) Q) -∗ WP c (look jsM o h >>= K) Q) := by
  subst ho
  unfold tabs
  iintro ⟨Hb, Hj, Ht, Hl⟩ Hk
  iapply (wp_look c jsM q D.JS _ h K Q) $$ Hj
  iintro Hj
  rw [rd_js D.JS k hk h]
  iapply Hk
  isplitl [Hb]; · iexact Hb
  isplitl [Hj]; · iexact Hj
  isplitl [Ht]; · iexact Ht
  iexact Hl
theorem wp_lookTf (q : PosShare TreeShare) (k : ℕ) (hk : k < 72) (o : Fin 1 → ℕ) (ho : o = ![k]) (h : ∀ a, o a + S1.size a ≤ S72.size a)
    {β : Type} (K : Elt F .i32 → PR F β) (Q : β → sProp 𝕄) :
    D.tabs c q ⊢ iprop((D.tabs c q -∗ WP c (K (D.tw k)) Q) -∗ WP c (look tfM o h >>= K) Q) := by
  subst ho
  unfold tabs
  iintro ⟨Hb, Hj, Ht, Hl⟩ Hk
  iapply (wp_look c tfM q D.TF _ h K Q) $$ Ht
  iintro Ht
  rw [rd_tf D.TF k hk h]
  iapply Hk
  isplitl [Hb]; · iexact Hb
  isplitl [Hj]; · iexact Hj
  isplitl [Ht]; · iexact Ht
  iexact Hl
theorem wp_lookLen' (q : PosShare TreeShare) (v : BitVec 32) (hv : v.toNat < 8) (h : ∀ a, k0_off8 v a + S1.size a ≤ S8.size a)
    {β : Type} (K : Elt F .i32 → PR F β) (Q : β → sProp 𝕄) :
    D.tabs c q ⊢ iprop((D.tabs c q -∗ WP c (K (D.LEN (at8 v.toNat))) Q)
      -∗ WP c ((smemLoad lenM (Rect.unit (s := S8) (k0_off8 v) S1.size h) numel1_S1 rfl : PR F (Elt F .i32)) >>= K) Q) := by
  unfold tabs
  iintro ⟨Hb, Hj, Ht, Hl⟩ Hk
  iapply (wp_lookLen c q D.LEN _ h K Q) $$ Hl
  iintro Hl
  rw [rd_len D.LEN v hv h]
  iapply Hk
  isplitl [Hb]; · iexact Hb
  isplitl [Hj]; · iexact Hj
  isplitl [Ht]; · iexact Ht
  iexact Hl

/-- The issue of stage `n`'s transfers, if there is one, into its free slot. -/
theorem wp_issue (n : ℕ) (hn : n < D.tot) (s : Fin 4) (hs : s = sl n) (h : ∀ a, k0_off10 (D.bw n) (D.jw n) a + S1x64x10000.size a ≤ S8x513x10000.size a)
    {β : Type} (K : PUnit → PR F β) (Q : β → sProp 𝕄) :
    tfree c D.XT (sl n) ⊢ iprop((D.tin c n -∗ WP c (K ⟨⟩) Q) -∗ WP c (issueText s (k0_off10 (D.bw n) (D.jw n)) h >>= K) Q) := by
  subst hs
  unfold tin
  rw [dif_pos hn]
  exact wp_issueText c D.XT (sl n) _ h K Q
theorem wp_issueX (n : ℕ) (hn : n < D.tot) (ht : D.tw n = 1#32) (s : Fin 4) (hs : s = sl n) (h : ∀ a, k0_off12 (D.bw n) (D.jw n) a + S1x64x10000.size a ≤ S8x512x10000.size a)
    {β : Type} (K : PUnit → PR F β) (Q : β → sProp 𝕄) :
    xfree c D.XX (sl n) ⊢ iprop((D.xin c n -∗ WP c (K ⟨⟩) Q) -∗ WP c (issueTrain s (k0_off12 (D.bw n) (D.jw n)) h >>= K) Q) := by
  subst hs
  unfold xin
  rw [dif_pos ⟨hn, ht⟩]
  exact wp_issueTrain c D.XX (sl n) _ h K Q
theorem tin_none (n : ℕ) (hn : ¬ n < D.tot) : D.tin c n = tfree c D.XT (sl n) := dif_neg hn
theorem xin_none (n : ℕ) (hn : ¬ (n < D.tot ∧ D.tw n = 1#32)) : D.xin c n = xfree c D.XX (sl n) := dif_neg hn

/-- The prefetch fills the free slot for the stage three ahead. -/
theorem wp_prefetch (A : Ask) (k : ℕ) (hA : D.At A k) (sn : Fin 4) (hs : sn = sl (k + 3)) (h4 : A.runs) (h5 : A.pre) (q : PosShare TreeShare)
    {β : Type} (K : PR F β) (Q : β → sProp 𝕄) :
    iprop(D.tabs c q ∗ tfree c D.XT (sl (k + 3)) ∗ xfree c D.XX (sl (k + 3)))
      ⊢ iprop(((D.tabs c q ∗ D.tin c (k + 3) ∗ D.xin c (k + 3)) -∗ WP c K Q) -∗ WP c (prefetch A sn h4 h5 K) Q) := by
  have hn : k + 3 < D.tot := hA.pre.1 h5
  have hT := text_inb _ _ (D.bs_lt _ hn) (D.js_lt _ hn)
  have hX := train_inb _ _ (D.bs_lt _ hn) (D.js_lt _ hn)
  unfold prefetch
  iintro ⟨Htab, Ht, Hx⟩ Hk
  iapply (wp_lookBs (D := D) q (k + 3) (tot72 hn) _ hA.oN) $$ Htab
  iintro Htab
  iapply (wp_lookJs (D := D) q (k + 3) (tot72 hn) _ hA.oN) $$ Htab
  iintro Htab
  iapply (wp_assumed c _ (hA.cNext _ _ hT))
  iapply (wp_issue (D := D) (k + 3) hn sn hs) $$ Ht
  iintro Ht
  iapply (wp_lookTf (D := D) q (k + 3) (tot72 hn) _ hA.oN) $$ Htab
  iintro Htab
  iapply (wp_assumed c _ (hA.cNextX _ _ _ hX))
  by_cases h6 : D.tw (k + 3) = 1#32
  · rw [dif_pos ((cond6_iff _).2 h6)]
    iapply (wp_issueX (D := D) (k + 3) hn h6 sn hs) $$ Hx
    iintro Hx
    iapply Hk
    isplitl [Htab]; · iexact Htab
    isplitl [Ht]; · iexact Ht
    iexact Hx
  · rw [dif_neg (fun h => h6 ((cond6_iff _).1 h))]
    iapply Hk
    isplitl [Htab]; · iexact Htab
    isplitl [Ht]; · iexact Ht
    rw [xin_none _ (fun h => h6 h.2)]
    iexact Hx

/-- The carried row's loss is added. -/
theorem wp_consume (k : ℕ) (h : k < D.tot) (p : F .f32 × Vec F S1x10000 .f32) {β : Type} (K : PR F β) (Q : β → sProp 𝕄) :
    iprop(outP c p.1 ∗ carryP c p.2)
      ⊢ iprop(((outP c (D.useCarry k h p) ∗ carryP c p.2) -∗ WP c K Q) -∗ WP c (consume (D.jw k) (D.tb k h) K) Q) := by
  unfold consume useCarry
  iintro ⟨Ho, Hc⟩ Hk
  by_cases hj : Scalar.cmpi .ne (Scalar.extui (Scalar.cmpi .sgt (D.jw k) 0#32)) 0#32 = 1#1
  · rw [if_pos hj, if_pos hj]
    iapply (wp_loadCarry c p.2) $$ Hc
    iintro Hc
    iapply (wp_loadOut c p.1) $$ Ho
    iintro Ho
    iapply (wp_loadOut c p.1) $$ Ho
    iintro Ho
    iapply (wp_storeOut c p.1 (k0_pay3 (D.tb k h) p.2 p.1)) $$ Ho
    iintro Ho
    iapply Hk
    isplitl [Ho]; · iexact Ho
    iexact Hc
  · rw [if_neg hj, if_neg hj]
    iapply Hk
    isplitl [Ho]; · iexact Ho
    iexact Hc

/-- The losses of a block with training rows. -/
theorem wp_train (A : Ask) (k : ℕ) (hA : D.At A k) (s : Fin 4) (hs : s = sl k) (h4 : A.runs) (hk : k < D.tot) (q : PosShare TreeShare)
    (o : F .f32) (r : Vec F S1x10000 .f32) {β : Type} (K : PR F β) (Q : β → sProp 𝕄) :
    iprop(D.tabs c q ∗ D.xin c k ∗ outP c o ∗ carryP c r ∗ (∃ W, owes (c : Thread nD τ) 0 W))
      ⊢ iprop(((D.tabs c q ∗ xfree c D.XX (sl k)
            ∗ outP c (if D.tw k = 1#32 then k0_pay4 (k0_pay42 (k0_pay1 (D.tb k hk)) (k0_pay2 (D.tb k hk)) (D.xb k hk)) o
                (k0_pay43 (D.LEN (at8 (D.bw k).toNat)) (Scalar.muli (D.jw k) 64#32)) else o)
            ∗ carryP c (if D.tw k = 1#32 then k0_pay5 (k0_pay41 (D.xb k hk)) else r) ∗ (∃ W, owes (c : Thread nD τ) 0 W)) -∗ WP c K Q)
        -∗ WP c (train A s h4 (D.bw k) (D.jw k) (D.LEN (at8 (D.bw k).toNat)) (D.tb k hk) K) Q) := by
  subst hs
  have hX := train_inb _ _ (D.bs_lt _ hk) (D.js_lt _ hk)
  unfold train trainPart
  by_cases h8 : D.tw k = 1#32
  · unfold xin
    rw [dif_pos ⟨hk, h8⟩, if_pos h8, if_pos h8]
    iintro ⟨Htab, Hx, Ho, Hc, HW⟩ Hk
    iapply (wp_lookTf (D := D) q k (tot72 hk) _ hA.oK) $$ Htab
    iintro Htab
    iapply (wp_assumed c _ (hA.cTrain _ _ _ hX))
    rw [dif_pos ((cond8_iff _).2 h8)]
    simp only [bind_assoc]
    iapply (wp_waitTrain c D.XX (sl k) (k0_off12 (D.bw k) (D.jw k)) (k0_off15 (D.bw k) (D.jw k)) hX) $$ [Hx HW]
    · isplitl [Hx]; · iexact Hx
      iexact HW
    iintro ⟨Hv, Hd, Ha, HW⟩
    iapply (wp_loadTrain c (sl k)) $$ Hd
    iintro Hd
    iapply (wp_loadOut c o) $$ Ho
    iintro Ho
    iapply (wp_loadOut c o) $$ Ho
    iintro Ho
    iapply (wp_storeOut c o) $$ Ho
    iintro Ho
    iapply (wp_loadCarry c r) $$ Hc
    iintro Hc
    iapply (wp_storeCarry c r) $$ Hc
    iintro Hc
    iapply Hk
    isplitl [Htab]; · iexact Htab
    isplitl [Hv Hd Ha]
    · unfold xfree
      isplitl [Hv]; · iexact Hv
      isplitl [Hd]
      · iexists _; iexact Hd
      iexact Ha
    isplitl [Ho]; · iexact Ho
    isplitl [Hc]; · iexact Hc
    iexact HW
  · rw [if_neg h8, if_neg h8, xin_none _ (fun h => h8 h.2)]
    iintro ⟨Htab, Hx, Ho, Hc, HW⟩ Hk
    iapply (wp_lookTf (D := D) q k (tot72 hk) _ hA.oK) $$ Htab
    iintro Htab
    iapply (wp_assumed c _ (hA.cTrain _ _ _ hX))
    rw [dif_neg (fun h => h8 ((cond8_iff _).1 h))]
    iapply Hk
    isplitl [Htab]; · iexact Htab
    isplitl [Hx]; · iexact Hx
    isplitl [Ho]; · iexact Ho
    isplitl [Hc]; · iexact Hc
    iexact HW

theorem step_pos (k : ℕ) (h : k < D.tot) (p : F .f32 × Vec F S1x10000 .f32) : D.step k p =
    (if D.tw k = 1#32 then k0_pay4 (k0_pay42 (k0_pay1 (D.tb k h)) (k0_pay2 (D.tb k h)) (D.xb k h)) (D.useCarry k h p)
                (k0_pay43 (D.LEN (at8 (D.bw k).toNat)) (Scalar.muli (D.jw k) 64#32)) else D.useCarry k h p,
     if D.tw k = 1#32 then k0_pay5 (k0_pay41 (D.xb k h)) else p.2) := by
  unfold step
  rw [dif_pos h]
  split_ifs <;> rfl

/-- A stage from its first wait on. -/
theorem wp_mid (A : Ask) (k : ℕ) (hA : D.At A k) (s : Fin 4) (hs : s = sl k) (h4 : A.runs) (hk : k < D.tot) (q : PosShare TreeShare)
    (p : F .f32 × Vec F S1x10000 .f32) (h : ∀ a, k0_off13 (D.bw k) (D.jw k) a + S1x64x10000.size a ≤ S8x513x10000.size a) {β : Type} (K : PR F β) (Q : β → sProp 𝕄) :
    iprop(D.tabs c q ∗ D.tin c k ∗ D.xin c k ∗ outP c p.1 ∗ carryP c p.2 ∗ (∃ W, owes (c : Thread nD τ) 0 W))
      ⊢ iprop(((D.tabs c q ∗ tfree c D.XT (sl k) ∗ xfree c D.XX (sl k) ∗ outP c (D.step k p).1 ∗ carryP c (D.step k p).2 ∗ (∃ W, owes (c : Thread nD τ) 0 W)) -∗ WP c K Q)
        -∗ WP c (mid A s h4 (D.bw k) (D.jw k) (D.LEN (at8 (D.bw k).toNat)) h K) Q) := by
  subst hs
  rw [step_pos k hk]
  unfold mid tin
  rw [dif_pos hk]
  iintro ⟨Htab, Ht, Hx, Ho, Hc, HW⟩ Hk
  iapply (wp_waitText c D.XT (sl k) (k0_off10 (D.bw k) (D.jw k)) (k0_off13 (D.bw k) (D.jw k)) h) $$ [Ht HW]
  · isplitl [Ht]; · iexact Ht
    iexact HW
  iintro ⟨Hv, Hd, Ha, HW⟩
  iapply (wp_loadText c (sl k)) $$ Hd
  iintro Hd
  iapply (wp_consume (D := D) k hk p) $$ [Ho Hc]
  · isplitl [Ho]; · iexact Ho
    iexact Hc
  iintro ⟨Ho, Hc⟩
  iapply (wp_train (D := D) A k hA (sl k) rfl h4 hk q (D.useCarry k hk p) p.2) $$ [Htab Hx Ho Hc HW]
  · isplitl [Htab]; · iexact Htab
    isplitl [Hx]; · iexact Hx
    isplitl [Ho]; · iexact Ho
    isplitl [Hc]; · iexact Hc
    iexact HW
  iintro ⟨Htab, Hx, Ho, Hc, HW⟩
  iapply Hk
  isplitl [Htab]; · iexact Htab
  isplitl [Hv Hd Ha]
  · unfold tfree
    isplitl [Hv]; · iexact Hv
    isplitl [Hd]
    · iexists _; iexact Hd
    iexact Ha
  isplitl [Hx]; · iexact Hx
  isplitl [Ho]; · iexact Ho
  isplitl [Hc]; · iexact Hc
  iexact HW

theorem sl_add (k : ℕ) : sl (k + 1 + 3) = sl k := Fin.ext (by show (k + 1 + 3) % 4 = k % 4; omega)

/-- A stage takes the state before it to the state before the next one. -/
theorem wp_stage (A : Ask) (k : ℕ) (hA : D.At A k) (s sn : Fin 4) (hs : s = sl k) (hsn : sn = sl (k + 3)) (q : PosShare TreeShare)
    (p : F .f32 × Vec F S1x10000 .f32) {β : Type} (K : PR F β) (Q : β → sProp 𝕄) :
    iprop(D.tabs c q ∗ D.ring c k p)
      ⊢ iprop(((D.tabs c q ∗ D.ring c (k + 1) (D.step k p)) -∗ WP c K Q) -∗ WP c (stage A s sn K) Q) := by
  unfold stage ring
  rw [sl_add]
  by_cases hk : k < D.tot
  · iintro ⟨Htab, ⟨Ht0, Ht1, Ht2, Ht3⟩, ⟨Hx0, Hx1, Hx2, Hx3⟩, Ho, Hc, HW⟩ Hk
    have h4 : A.runs := hA.runs.2 hk
    have hT := text_inb _ _ (D.bs_lt _ hk) (D.js_lt _ hk)
    rw [dif_pos h4]
    iapply (wp_lookBs (D := D) q k (tot72 hk) _ hA.oK) $$ Htab
    iintro Htab
    iapply (wp_assumed c _ (hA.cLen _ (len_inb _ (D.bs_lt _ hk))))
    iapply (wp_lookJs (D := D) q k (tot72 hk) _ hA.oK) $$ Htab
    iintro Htab
    iapply (wp_assumed c _ (hA.cText _ _ hT))
    iapply (wp_lookLen' (D := D) q _ (D.bs_lt _ hk)) $$ Htab
    iintro Htab
    by_cases h5 : A.pre
    · rw [dif_pos h5]
      iapply (wp_prefetch (D := D) A k hA sn hsn h4 h5 q) $$ [Htab Ht3 Hx3]
      · isplitl [Htab]; · iexact Htab
        isplitl [Ht3]; · iexact Ht3
        iexact Hx3
      iintro ⟨Htab, Ht3, Hx3⟩
      iapply (wp_mid (D := D) A k hA s hs h4 hk q p hT) $$ [Htab Ht0 Hx0 Ho Hc HW]
      · isplitl [Htab]; · iexact Htab
        isplitl [Ht0]; · iexact Ht0
        isplitl [Hx0]; · iexact Hx0
        isplitl [Ho]; · iexact Ho
        isplitl [Hc]; · iexact Hc
        iexact HW
      iintro ⟨Htab, Ht0, Hx0, Ho, Hc, HW⟩
      iapply Hk
      isplitl [Htab]; · iexact Htab
      isplitl [Ht0 Ht1 Ht2 Ht3]
      · isplitl [Ht1]; · iexact Ht1
        isplitl [Ht2]; · iexact Ht2
        isplitl [Ht3]; · iexact Ht3
        iexact Ht0
      isplitl [Hx0 Hx1 Hx2 Hx3]
      · isplitl [Hx1]; · iexact Hx1
        isplitl [Hx2]; · iexact Hx2
        isplitl [Hx3]; · iexact Hx3
        iexact Hx0
      isplitl [Ho]; · iexact Ho
      isplitl [Hc]; · iexact Hc
      iexact HW
    · rw [dif_neg h5]
      have hn : ¬ k + 3 < D.tot := fun h => h5 (hA.pre.2 h)
      iapply (wp_mid (D := D) A k hA s hs h4 hk q p hT) $$ [Htab Ht0 Hx0 Ho Hc HW]
      · isplitl [Htab]; · iexact Htab
        isplitl [Ht0]; · iexact Ht0
        isplitl [Hx0]; · iexact Hx0
        isplitl [Ho]; · iexact Ho
        isplitl [Hc]; · iexact Hc
        iexact HW
      iintro ⟨Htab, Ht0, Hx0, Ho, Hc, HW⟩
      iapply Hk
      isplitl [Htab]; · iexact Htab
      isplitl [Ht0 Ht1 Ht2 Ht3]
      · isplitl [Ht1]; · iexact Ht1
        isplitl [Ht2]; · iexact Ht2
        isplitl [Ht3]
        · rw [show k + 1 + 2 = k + 3 from rfl, tin_none _ hn]; iexact Ht3
        iexact Ht0
      isplitl [Hx0 Hx1 Hx2 Hx3]
      · isplitl [Hx1]; · iexact Hx1
        isplitl [Hx2]; · iexact Hx2
        isplitl [Hx3]
        · rw [show k + 1 + 2 = k + 3 from rfl, xin_none _ (fun h => hn h.1)]; iexact Hx3
        iexact Hx0
      isplitl [Ho]; · iexact Ho
      isplitl [Hc]; · iexact Hc
      iexact HW
  · have h4 : ¬ A.runs := fun h => hk (hA.runs.1 h)
    have hn : ¬ k + 3 < D.tot := by omega
    have hst : D.step k p = p := dif_neg hk
    rw [dif_neg h4, hst, tin_none k hk, xin_none k (fun h => hk h.1)]
    iintro ⟨Htab, ⟨Ht0, Ht1, Ht2, Ht3⟩, ⟨Hx0, Hx1, Hx2, Hx3⟩, Ho, Hc, HW⟩ Hk
    iapply Hk
    isplitl [Htab]; · iexact Htab
    isplitl [Ht0 Ht1 Ht2 Ht3]
    · isplitl [Ht1]; · iexact Ht1
      isplitl [Ht2]; · iexact Ht2
      isplitl [Ht3]
      · rw [show k + 1 + 2 = k + 3 from rfl, tin_none _ hn]; iexact Ht3
      iexact Ht0
    isplitl [Hx0 Hx1 Hx2 Hx3]
    · isplitl [Hx1]; · iexact Hx1
      isplitl [Hx2]; · iexact Hx2
      isplitl [Hx3]
      · rw [show k + 1 + 2 = k + 3 from rfl, xin_none _ (fun h => hn h.1)]; iexact Hx3
      iexact Hx0
    isplitl [Ho]; · iexact Ho
    isplitl [Hc]; · iexact Hc
    iexact HW

end Data
end Cert.Proof.KI
-- ==== Proof.KI.Trip.lean ====
/-
  The words a trip computes, the side condition on the count of stages, and one trip as four stages run.
-/
module

public import proofs.«01_k».proof.Proof.KI.Step

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## Words -/

theorem slt_iff (x y : BitVec 32) (hx : x.toNat < 2 ^ 31) (hy : y.toNat < 2 ^ 31) :
    Scalar.cmpi .ne (Scalar.extui (Scalar.cmpi .slt x y)) 0#32 = 1#1 ↔ x.toNat < y.toNat := by
  have e : x.slt y = decide (x.toNat < y.toNat) := by
    rw [BitVec.slt_eq_decide, BitVec.toInt_eq_toNat_of_lt (by omega), BitVec.toInt_eq_toNat_of_lt (by omega)]
    simp
  simp only [Scalar.cmpi, Scalar.extui, IntOp.cmpi, e]
  by_cases h : x.toNat < y.toNat
  · simp only [h, decide_true, iff_true]; decide
  · simp only [h, decide_false, iff_false]; decide

/-- The word of stage `s` of trip `t`, and of the stage three ahead. -/
theorem stage_word (t : ℕ) (ht : t < 100) (s : BitVec 32) (hs : s.toNat < 4) :
    (Scalar.addi (Scalar.muli (Scf.iv 0#32 1#32 t) 4#32) s).toNat = 4 * t + s.toNat := by
  have e : (Scf.iv 0#32 1#32 t : BitVec 32).toNat = t := by
    unfold Scf.iv
    rw [BitVec.zero_add, BitVec.mul_one, BitVec.toNat_ofNat, Nat.mod_eq_of_lt (by omega)]
  show (Scf.iv 0#32 1#32 t * 4#32 + s).toNat = _
  rw [BitVec.toNat_add, BitVec.toNat_mul, e, show (4#32 : BitVec 32).toNat = 4 from rfl, Nat.mod_eq_of_lt (b := 2 ^ 32) (by omega), Nat.mod_eq_of_lt (by omega)]
  omega
theorem ahead_word (x : BitVec 32) (hx : x.toNat < 1000) : (Scalar.subi (Scalar.addi x 4#32) 1#32).toNat = x.toNat + 3 := by
  show (x + 4#32 - 1#32).toNat = _
  rw [BitVec.toNat_sub, BitVec.toNat_add, show (4#32 : BitVec 32).toNat = 4 from rfl, show (1#32 : BitVec 32).toNat = 1 from rfl]
  omega

section
variable (v0 : BitVec 32) (h8 : 8 ≤ v0.toNat) (h64 : v0.toNat ≤ 64)
include h8 h64

theorem word_cases (P : BitVec 32 → Prop) (hP : ∀ n : Fin 65, 8 ≤ n.val → P (BitVec.ofNat 32 n.val)) : P v0 := by
  have := hP ⟨v0.toNat, by omega⟩ h8
  simpa using this

/-- The main loop's trips, and the other loop's: none. -/
theorem trips1 : (k0_t1_loop v0).trips = (v0.toNat + 3) / 4 := by
  refine word_cases v0 h8 h64 (fun v => (k0_t1_loop v).trips = (v.toNat + 3) / 4) ?_
  decide
theorem trips2 : (k0_t2_loop v0).trips = 0 := by
  refine word_cases v0 h8 h64 (fun v => (k0_t2_loop v).trips = 0) ?_
  decide
theorem ok1 : (k0_t1_loop v0).OK := by
  refine word_cases v0 h8 h64 (fun v => (k0_t1_loop v).OK) ?_
  decide
theorem ok2 : (k0_t2_loop v0).OK := by
  refine word_cases v0 h8 h64 (fun v => (k0_t2_loop v).OK) ?_
  decide
theorem trip_lt (t : Fin (k0_t1_loop v0).trips) : t.val < 17 := by
  have := lt_of_lt_of_eq t.isLt (trips1 v0 h8 h64)
  omega

/-- Whether stage `s` of trip `t` runs, and whether it prefetches. -/
theorem runs_iff (t : Fin (k0_t1_loop v0).trips) (s : BitVec 32) (hs : s.toNat < 4) :
    Scalar.cmpi .ne (Scalar.extui (Scalar.cmpi .slt (Scalar.addi (Scalar.muli (Scf.iv 0#32 1#32 t.val) 4#32) s) v0)) 0#32 = 1#1 ↔ 4 * t.val + s.toNat < v0.toNat := by
  have ht := trip_lt v0 h8 h64 t
  have e := stage_word t.val (by omega) s hs
  rw [slt_iff _ _ (by rw [e]; omega) (by omega), e]
theorem pre_iff (t : Fin (k0_t1_loop v0).trips) (s : BitVec 32) (hs : s.toNat < 4) :
    Scalar.cmpi .ne (Scalar.extui (Scalar.cmpi .slt (Scalar.subi (Scalar.addi (Scalar.addi (Scalar.muli (Scf.iv 0#32 1#32 t.val) 4#32) s) 4#32) 1#32) v0)) 0#32 = 1#1
      ↔ 4 * t.val + s.toNat + 3 < v0.toNat := by
  have ht := trip_lt v0 h8 h64 t
  have e := stage_word t.val (by omega) s hs
  have e' := ahead_word _ (show (Scalar.addi (Scalar.muli (Scf.iv 0#32 1#32 t.val) 4#32) s).toNat < 1000 by rw [e]; omega)
  rw [slt_iff _ _ (by rw [e', e]; omega) (by omega), e', e]
theorem offK (t : Fin (k0_t1_loop v0).trips) (s : BitVec 32) (hs : s.toNat < 4) :
    (![(Scalar.addi (Scalar.muli (Scf.iv 0#32 1#32 t.val) 4#32) s).toNat] : Fin 1 → ℕ) = ![4 * t.val + s.toNat] := by
  rw [stage_word t.val (by have := trip_lt v0 h8 h64 t; omega) s hs]
theorem offN (t : Fin (k0_t1_loop v0).trips) (s : BitVec 32) (hs : s.toNat < 4) :
    (![(Scalar.subi (Scalar.addi (Scalar.addi (Scalar.muli (Scf.iv 0#32 1#32 t.val) 4#32) s) 4#32) 1#32).toNat] : Fin 1 → ℕ) = ![4 * t.val + s.toNat + 3] := by
  have ht := trip_lt v0 h8 h64 t
  have e := stage_word t.val (by omega) s hs
  rw [ahead_word _ (by rw [e]; omega), e]

theorem inb72 (k : ℕ) (hk : k < 72) : ∀ a, (![k] : Fin 1 → ℕ) a + S1.size a ≤ S72.size a := by
  intro a
  fin_cases a
  show k + 1 ≤ 72
  omega
theorem inbK (t : Fin (k0_t1_loop v0).trips) (s : BitVec 32) (hs : s.toNat < 4) :
    ∀ a, (![(Scalar.addi (Scalar.muli (Scf.iv 0#32 1#32 t.val) 4#32) s).toNat] : Fin 1 → ℕ) a + S1.size a ≤ S72.size a := by
  rw [offK v0 h8 h64 t s hs]
  exact inb72 v0 h8 h64 _ (by have := lt_of_lt_of_eq t.isLt (trips1 v0 h8 h64); omega)
theorem inbN (t : Fin (k0_t1_loop v0).trips) (s : BitVec 32) (hs : s.toNat < 4) :
    ∀ a, (![(Scalar.subi (Scalar.addi (Scalar.addi (Scalar.muli (Scf.iv 0#32 1#32 t.val) 4#32) s) 4#32) 1#32).toNat] : Fin 1 → ℕ) a + S1.size a ≤ S72.size a := by
  rw [offN v0 h8 h64 t s hs]
  exact inb72 v0 h8 h64 _ (by have := lt_of_lt_of_eq t.isLt (trips1 v0 h8 h64); omega)

theorem no_trip2 {P : Fin (k0_t2_loop v0).trips → Prop} (t : Fin (k0_t2_loop v0).trips) : P t :=
  absurd (lt_of_lt_of_eq t.isLt (trips2 v0 h8 h64)) (by omega)

/-- The side condition on the count of stages. -/
theorem chk7 : k0_chk7 v0 := by
  refine ⟨⟨ok1 v0 h8 h64, ?_⟩, ?_⟩
  · refine ⟨fun t _ => inbK v0 h8 h64 t 0#32 (by decide), fun t _ _ => inbN v0 h8 h64 t 0#32 (by decide), fun t _ _ => inbN v0 h8 h64 t 0#32 (by decide), fun t _ => inbK v0 h8 h64 t 0#32 (by decide),
      fun t _ => inbK v0 h8 h64 t 1#32 (by decide), fun t _ _ => inbN v0 h8 h64 t 1#32 (by decide), fun t _ _ => inbN v0 h8 h64 t 1#32 (by decide), fun t _ => inbK v0 h8 h64 t 1#32 (by decide),
      fun t _ => inbK v0 h8 h64 t 2#32 (by decide), fun t _ _ => inbN v0 h8 h64 t 2#32 (by decide), fun t _ _ => inbN v0 h8 h64 t 2#32 (by decide), fun t _ => inbK v0 h8 h64 t 2#32 (by decide),
      fun t _ => inbK v0 h8 h64 t 3#32 (by decide), fun t _ _ => inbN v0 h8 h64 t 3#32 (by decide), fun t _ _ => inbN v0 h8 h64 t 3#32 (by decide), fun t _ => inbK v0 h8 h64 t 3#32 (by decide),
      ok2 v0 h8 h64, ?_⟩
    repeat' constructor
    all_goals exact no_trip2 v0 h8 h64
  · repeat' constructor
    all_goals exact no_trip2 v0 h8 h64
end

/-! ## One trip -/

/-- A program that has ended. -/
theorem wp_done (c : Dev nD) {β : Type} (a : β) (Q : β → sProp 𝕄) : Q a ⊢ WP (F := F) c (pure a) Q := by
  show Q a ⊢ wp _ _ _ (Prog.ret a) Q
  rw [wp_ret]
  exact fupd_intro

namespace Data
variable (D : Data F) (c : Dev nD)

section
variable (v0 : BitVec 32) (h0 : v0.toNat = D.tot) (h7 : k0_chk7 v0) (t : Fin (k0_t1_loop v0).trips)
include h0

theorem ge8 : 8 ≤ v0.toNat := h0 ▸ D.tot_ge
theorem le64 : v0.toNat ≤ 64 := h0 ▸ D.tot_le

theorem at0 : D.At (ask0 v0 h7 t) (4 * t.val) where
  runs := h0 ▸ runs_iff v0 (D.ge8 v0 h0) (D.le64 v0 h0) t 0#32 (by decide)
  pre := h0 ▸ pre_iff v0 (D.ge8 v0 h0) (D.le64 v0 h0) t 0#32 (by decide)
  oK := offK v0 (D.ge8 v0 h0) (D.le64 v0 h0) t 0#32 (by decide)
  oN := offN v0 (D.ge8 v0 h0) (D.le64 v0 h0) t 0#32 (by decide)
  cLen _ h := fun _ => h
  cNext _ _ h := fun _ _ => h
  cNextX _ _ _ h := fun _ _ _ => h
  cText _ _ h := fun _ => h
  cTrain _ _ _ h := fun _ _ => h
theorem at1 : D.At (ask1 v0 h7 t) (4 * t.val + 1) where
  runs := h0 ▸ runs_iff v0 (D.ge8 v0 h0) (D.le64 v0 h0) t 1#32 (by decide)
  pre := h0 ▸ pre_iff v0 (D.ge8 v0 h0) (D.le64 v0 h0) t 1#32 (by decide)
  oK := offK v0 (D.ge8 v0 h0) (D.le64 v0 h0) t 1#32 (by decide)
  oN := offN v0 (D.ge8 v0 h0) (D.le64 v0 h0) t 1#32 (by decide)
  cLen _ h := fun _ => h
  cNext _ _ h := fun _ _ => h
  cNextX _ _ _ h := fun _ _ _ => h
  cText _ _ h := fun _ => h
  cTrain _ _ _ h := fun _ _ => h
theorem at2 : D.At (ask2 v0 h7 t) (4 * t.val + 2) where
  runs := h0 ▸ runs_iff v0 (D.ge8 v0 h0) (D.le64 v0 h0) t 2#32 (by decide)
  pre := h0 ▸ pre_iff v0 (D.ge8 v0 h0) (D.le64 v0 h0) t 2#32 (by decide)
  oK := offK v0 (D.ge8 v0 h0) (D.le64 v0 h0) t 2#32 (by decide)
  oN := offN v0 (D.ge8 v0 h0) (D.le64 v0 h0) t 2#32 (by decide)
  cLen _ h := fun _ => h
  cNext _ _ h := fun _ _ => h
  cNextX _ _ _ h := fun _ _ _ => h
  cText _ _ h := fun _ => h
  cTrain _ _ _ h := fun _ _ => h
theorem at3 : D.At (ask3 v0 h7 t) (4 * t.val + 3) where
  runs := h0 ▸ runs_iff v0 (D.ge8 v0 h0) (D.le64 v0 h0) t 3#32 (by decide)
  pre := h0 ▸ pre_iff v0 (D.ge8 v0 h0) (D.le64 v0 h0) t 3#32 (by decide)
  oK := offK v0 (D.ge8 v0 h0) (D.le64 v0 h0) t 3#32 (by decide)
  oN := offN v0 (D.ge8 v0 h0) (D.le64 v0 h0) t 3#32 (by decide)
  cLen _ h := fun _ => h
  cNext _ _ h := fun _ _ => h
  cNextX _ _ _ h := fun _ _ _ => h
  cText _ _ h := fun _ => h
  cTrain _ _ _ h := fun _ _ => h
end

/-- The output word and the carried row before stage `k`, from `p` before the first. -/
def run (p : F .f32 × Vec F S1x10000 .f32) : ℕ → F .f32 × Vec F S1x10000 .f32
  | 0 => p
  | k + 1 => D.step k (run p k)

variable {D c}

theorem sl_eq (t s n : ℕ) (h : s = n % 4) (hs : s < 4) : (⟨s, hs⟩ : Fin 4) = sl (4 * t + n) := Fin.ext (by show s = (4 * t + n) % 4; omega)

/-- A trip is four stages. -/
theorem wp_trip (v0 : BitVec 32) (h0 : v0.toNat = D.tot) (h7 : k0_chk7 v0) (t : Fin (k0_t1_loop v0).trips) (q : PosShare TreeShare)
    (p : F .f32 × Vec F S1x10000 .f32) (Q : BitVec 32 → sProp 𝕄) :
    iprop(D.tabs c q ∗ D.ring c (4 * t.val) (D.run p (4 * t.val)))
      ⊢ iprop(((D.tabs c q ∗ D.ring c (4 * (t.val + 1)) (D.run p (4 * (t.val + 1)))) -∗ Q 0#32) -∗ WP c (tripStages v0 h7 t) Q) := by
  unfold tripStages
  iintro H Hk
  iapply (wp_stage (D := D) _ (4 * t.val) (D.at0 v0 h0 h7 t) 0 3 (sl_eq t 0 0 rfl (by decide)) (sl_eq t 3 3 rfl (by decide)) q _) $$ H
  iintro H
  iapply (wp_stage (D := D) _ (4 * t.val + 1) (D.at1 v0 h0 h7 t) 1 0 (sl_eq t 1 1 rfl (by decide)) (sl_eq t 0 4 rfl (by decide)) q _) $$ H
  iintro H
  iapply (wp_stage (D := D) _ (4 * t.val + 2) (D.at2 v0 h0 h7 t) 2 1 (sl_eq t 2 2 rfl (by decide)) (sl_eq t 1 5 rfl (by decide)) q _) $$ H
  iintro H
  iapply (wp_stage (D := D) _ (4 * t.val + 3) (D.at3 v0 h0 h7 t) 3 2 (sl_eq t 3 3 rfl (by decide)) (sl_eq t 2 6 rfl (by decide)) q _) $$ H
  iintro H
  iapply (wp_done c)
  iapply Hk
  iexact H

end Data
end Cert.Proof.KI
-- ==== Proof.KI.Body.lean ====
/-
  The kernel's body: the three stages fetched ahead, and the trips.
-/
module

public import proofs.«01_k».proof.Proof.KI.Trip

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-- A program's run then another's. -/
theorem WP_bind (c : Dev nD) {α β : Type} (p : PR F α) (k : α → PR F β) (Q : β → sProp 𝕄) : WP c (p >>= k) Q = WP c p (fun v => WP c (k v) Q) :=
  wp_bind ..

/-! ## The stages fetched ahead -/

abbrev TextOK (v w : BitVec 32) : Prop := ∀ a, k0_off10 v w a + S1x64x10000.size a ≤ S8x513x10000.size a
abbrev TrainOK (v w : BitVec 32) : Prop := ∀ a, k0_off12 v w a + S1x64x10000.size a ≤ S8x512x10000.size a

/-- The fetch ahead of a stage's text rows into slot `s`, its words at `o`. -/
def fillText (s : Fin 4) (o : Fin 1 → ℕ) (h : ∀ a, o a + S1.size a ≤ S72.size a) (d : ∀ v w, Decidable (TextOK v w)) {β : Type} (K : Elt F .i32 → PR F β) : PR F β := do
  let v2 : Elt F .i32 ← look bsM o h
  let v3 : Elt F .i32 ← look jsM o h
  have hw1 : TextOK v2 v3 := (← Prog.lift (TpuEff.assume (TextOK v2 v3) (d v2 v3))).down
  issueText s (k0_off10 v2 v3) hw1
  let v11 : Elt F .i32 ← look tfM o h
  K v11
/-- The fetch ahead of its training rows, if its flag `u` says it has any. -/
def fillTrain (s : Fin 4) (o : Fin 1 → ℕ) (h : ∀ a, o a + S1.size a ≤ S72.size a) (u : Elt F .i32) (d : ∀ v w, Decidable (k0_cond6 u = 1#1 → TrainOK v w)) {β : Type} (K : PR F β) : PR F β :=
  if h1 : k0_cond6 u = 1#1 then do
    let v67 : Elt F .i32 ← look bsM o h
    let v68 : Elt F .i32 ← look jsM o h
    have hw2 : k0_cond6 u = 1#1 → TrainOK v67 v68 := (← Prog.lift (TpuEff.assume (k0_cond6 u = 1#1 → TrainOK v67 v68) (d v67 v68))).down
    issueTrain s (k0_off12 v67 v68) (hw2 h1)
    K
  else K

/-- The count of stages, the output word cleared, and the first fetches. -/
def part9 : PR F (Σ' (v0 : Elt F .i32) (k0_hw7 : k0_chk7 v0) (v24 : Elt F .i32), BitVec 32) := do
  let v0 : Elt F .i32 ← smemLoad totM (Rect.unit (s := S1) ![0] S1.size inb_S1_S1_0) numel1_S1 rfl
  have h7 : k0_chk7 v0 := (← Prog.lift (TpuEff.assume (k0_chk7 v0) (k0_chk7.dec v0))).down
  let v1 : Elt F .f32 ← loadOut
  storeOut (Scalar.ofBits .f32 0x00000000#32)
  fillText 0 ![0] inb_S72_S1_0 (fun v w => k0_chk1.dec v w) fun u =>
    fillTrain 0 ![0] inb_S72_S1_0 u (fun v w => k0_chk2.dec u v w) <|
    fillText 1 ![1] inb_S72_S1_1 (fun v w => k0_chk3.dec v w) fun u' =>
    pure ⟨v0, h7, u', 1#32⟩
/-- The other fetches. -/
def part10 (u : Elt F .i32) {β : Type} (K : PR F β) : PR F β :=
  fillTrain 1 ![1] inb_S72_S1_1 u (fun v w => k0_chk4.dec u v w) <|
    fillText 2 ![2] inb_S72_S1_2 (fun v w => k0_chk5.dec v w) fun u' =>
    fillTrain 2 ![2] inb_S72_S1_2 u' (fun v w => k0_chk6.dec u' v w) K

set_option maxRecDepth 65536 in
set_option maxHeartbeats 4000000 in
theorem part9_eq (i : grid0.Coords) :
    k0_part9 (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3
      = part9 := rfl

set_option maxRecDepth 65536 in
set_option maxHeartbeats 4000000 in
theorem part10_eq (i : grid0.Coords) (v0 u : Elt F .i32) (w : BitVec 32) :
    ∃ r, k0_part10 (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3 v0 u w
      = part10 u (pure r) := ⟨_, rfl⟩

/-- The body after the fetches: the trips, and the loop that makes none. -/
def loops (i : grid0.Coords) (v0 : Elt F .i32) (h7 : k0_chk7 v0) : PR F PUnit := do
  let v65 : BitVec 32 ← Scf.Loop.for (k0_t1_loop v0) (k0_t1_ok v0 h7) 0#32 fun t a => k0_t1_body (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3 v0 h7 t a
  let _ : BitVec 32 ← Scf.Loop.for (k0_t2_loop v0) (k0_t2_ok v0 h7) v65 fun t a => k0_t2_body (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3 v0 h7 t a
  pure ⟨⟩

/-- The kernel over its operands. -/
abbrev kernelP (i : grid0.Coords) : PR F PUnit :=
  cc0__loss_kernel i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3

set_option maxRecDepth 65536 in
set_option maxHeartbeats 4000000 in
theorem kernel_eq (i : grid0.Coords) :
    kernelP (F := F) i = k0_part9 (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3
      >>= fun x => k0_part10 (F := F) i bsM (Memref.isWhole_whole _) jsM (Memref.isWhole_whole _) tfM (Memref.isWhole_whole _) totM (Memref.isWhole_whole _) lenM (Memref.isWhole_whole _) textM (Memref.isWhole_whole _) trainM (Memref.isWhole_whole _) outM (Memref.isWhole_whole _) tbufM (Memref.isWhole_whole _) xbufM (Memref.isWhole_whole _) carryM (Memref.isWhole_whole _) cc0_scratch3 x.1 x.2.2.1 x.2.2.2
      >>= fun _ => loops i x.1 x.2.1 := rfl

namespace Data
variable {D : Data F} {c : Dev nD}

theorem wp_fillText (n : ℕ) (hn : n < D.tot) (s : Fin 4) (hs : s = sl n) (q : PosShare TreeShare) (h : ∀ a, (![n] : Fin 1 → ℕ) a + S1.size a ≤ S72.size a)
    (d : ∀ v w, Decidable (TextOK v w)) {β : Type} (K : Elt F .i32 → PR F β) (Q : β → sProp 𝕄) :
    iprop(D.tabs c q ∗ tfree c D.XT (sl n))
      ⊢ iprop(((D.tabs c q ∗ D.tin c n) -∗ WP c (K (D.tw n)) Q) -∗ WP c (fillText s ![n] h d K) Q) := by
  have hT := text_inb _ _ (D.bs_lt _ hn) (D.js_lt _ hn)
  unfold fillText
  iintro ⟨Htab, Ht⟩ Hk
  iapply (wp_lookBs (D := D) q n (tot72 hn) _ rfl) $$ Htab
  iintro Htab
  iapply (wp_lookJs (D := D) q n (tot72 hn) _ rfl) $$ Htab
  iintro Htab
  iapply (wp_assumed c _ hT)
  iapply (wp_issue (D := D) n hn s hs) $$ Ht
  iintro Ht
  iapply (wp_lookTf (D := D) q n (tot72 hn) _ rfl) $$ Htab
  iintro Htab
  iapply Hk
  isplitl [Htab]; · iexact Htab
  iexact Ht
theorem wp_fillTrain (n : ℕ) (hn : n < D.tot) (s : Fin 4) (hs : s = sl n) (q : PosShare TreeShare) (h : ∀ a, (![n] : Fin 1 → ℕ) a + S1.size a ≤ S72.size a)
    (d : ∀ v w, Decidable (k0_cond6 (D.tw n) = 1#1 → TrainOK v w)) {β : Type} (K : PR F β) (Q : β → sProp 𝕄) :
    iprop(D.tabs c q ∗ xfree c D.XX (sl n))
      ⊢ iprop(((D.tabs c q ∗ D.xin c n) -∗ WP c K Q) -∗ WP c (fillTrain s ![n] h (D.tw n) d K) Q) := by
  have hX := train_inb _ _ (D.bs_lt _ hn) (D.js_lt _ hn)
  unfold fillTrain
  by_cases h6 : D.tw n = 1#32
  · rw [dif_pos ((cond6_iff _).2 h6)]
    iintro ⟨Htab, Hx⟩ Hk
    iapply (wp_lookBs (D := D) q n (tot72 hn) _ rfl) $$ Htab
    iintro Htab
    iapply (wp_lookJs (D := D) q n (tot72 hn) _ rfl) $$ Htab
    iintro Htab
    iapply (wp_assumed c _ (fun _ => hX))
    iapply (wp_issueX (D := D) n hn h6 s hs) $$ Hx
    iintro Hx
    iapply Hk
    isplitl [Htab]; · iexact Htab
    iexact Hx
  · rw [dif_neg (fun h => h6 ((cond6_iff _).1 h)), xin_none _ (fun h => h6 h.2)]
    iintro H Hk
    iapply Hk
    iexact H

/-- The count of stages, as the kernel reads it. -/
def totP (c : Dev nD) (q : PosShare TreeShare) (TOT : totM.view.ty.Contents (Elt F)) : sProp 𝕄 := totM.view.loc (c : Thread nD τ) ↦[Finset.univ]{q} TOT
theorem wp_lookTot (q : PosShare TreeShare) (TOT : totM.view.ty.Contents (Elt F)) (v : BitVec 32) (hv : TOT = fun _ => v)
    {β : Type} (K : Elt F .i32 → PR F β) (Q : β → sProp 𝕄) :
    totP c q TOT ⊢ iprop((totP c q TOT -∗ WP c (K v) Q)
      -∗ WP c ((smemLoad totM (Rect.unit (s := S1) ![0] S1.size inb_S1_S1_0) numel1_S1 rfl : PR F (Elt F .i32)) >>= K) Q) := by
  subst hv
  unfold totP
  iintro Hm Hk
  iapply (wp_smemLoadElt 𝒱₀ (c : Thread nD τ) none Set.univ (m := totM) (r := Rect.unit (s := S1) ![0] S1.size inb_S1_S1_0) (hw := View.loads_smem_one rfl numel1_S1) (x := Shape.Idx.first (numel1_S1.symm ▸ Nat.one_pos)) (q := q) (f := fun _ => v) (S := Finset.univ) (Finset.subset_univ _)) $$ Hm
  iintro Hm
  iapply Hk
  iexact Hm

/-- All of a ring's slots, free. -/
def frees (D : Data F) (c : Dev nD) : sProp 𝕄 :=
  iprop((tfree c D.XT 0 ∗ tfree c D.XT 1 ∗ tfree c D.XT 2 ∗ tfree c D.XT 3) ∗ (xfree c D.XX 0 ∗ xfree c D.XX 1 ∗ xfree c D.XX 2 ∗ xfree c D.XX 3))

/-- The state before the first stage's loop, from the count's read to the last fetch. -/
theorem wp_ahead (i : grid0.Coords) (q : PosShare TreeShare) (TOT : totM.view.ty.Contents (Elt F)) (v0 : BitVec 32) (hv : TOT = fun _ => v0) (h0 : v0.toNat = D.tot)
    (r : Vec F S1x10000 .f32) (Q : PUnit → sProp 𝕄) :
    iprop(totP c q TOT ∗ D.tabs c q ∗ frees D c ∗ (∃ o, outP c o) ∗ carryP c r ∗ (∃ W, owes (c : Thread nD τ) 0 W))
      ⊢ iprop((∀ h7, (totP c q TOT ∗ D.tabs c q ∗ D.ring c 0 (Scalar.ofBits .f32 0x00000000#32, r)) -∗ WP c (loops i v0 h7) Q) -∗ WP c (kernelP i) Q) := by
  have hc : k0_chk7 v0 := chk7 v0 (D.ge8 v0 h0) (D.le64 v0 h0)
  have hn := D.tot_ge
  rw [kernel_eq, part9_eq, WP_bind]
  unfold part9 frees ring
  iintro ⟨Hn, Htab, ⟨⟨Ht0, Ht1, Ht2, Ht3⟩, ⟨Hx0, Hx1, Hx2, Hx3⟩⟩, ⟨%o, Ho⟩, Hc, HW⟩ Hk
  iapply (wp_lookTot q TOT v0 hv) $$ Hn
  iintro Hn
  iapply (wp_assumed c _ hc)
  iapply (wp_loadOut c o) $$ Ho
  iintro Ho
  iapply (wp_storeOut c o) $$ Ho
  iintro Ho
  iapply (wp_fillText (D := D) 0 (by omega) 0 rfl q) $$ [Htab Ht0]
  · isplitl [Htab]; · iexact Htab
    iexact Ht0
  iintro ⟨Htab, Ht0⟩
  iapply (wp_fillTrain (D := D) 0 (by omega) 0 rfl q) $$ [Htab Hx0]
  · isplitl [Htab]; · iexact Htab
    iexact Hx0
  iintro ⟨Htab, Hx0⟩
  iapply (wp_fillText (D := D) 1 (by omega) 1 rfl q) $$ [Htab Ht1]
  · isplitl [Htab]; · iexact Htab
    iexact Ht1
  iintro ⟨Htab, Ht1⟩
  iapply (wp_done c)
  obtain ⟨w, hw⟩ := part10_eq (F := F) i v0 (D.tw 1) 1#32
  rw [hw, WP_bind]
  unfold part10
  iapply (wp_fillTrain (D := D) 1 (by omega) 1 rfl q) $$ [Htab Hx1]
  · isplitl [Htab]; · iexact Htab
    iexact Hx1
  iintro ⟨Htab, Hx1⟩
  iapply (wp_fillText (D := D) 2 (by omega) 2 rfl q) $$ [Htab Ht2]
  · isplitl [Htab]; · iexact Htab
    iexact Ht2
  iintro ⟨Htab, Ht2⟩
  iapply (wp_fillTrain (D := D) 2 (by omega) 2 rfl q) $$ [Htab Hx2]
  · isplitl [Htab]; · iexact Htab
    iexact Hx2
  iintro ⟨Htab, Hx2⟩
  iapply (wp_done c)
  iapply Hk
  isplitl [Hn]; · iexact Hn
  isplitl [Htab]; · iexact Htab
  isplitl [Ht0 Ht1 Ht2 Ht3]
  · isplitl [Ht0]; · iexact Ht0
    isplitl [Ht1]; · iexact Ht1
    isplitl [Ht2]; · iexact Ht2
    iexact Ht3
  isplitl [Hx0 Hx1 Hx2 Hx3]
  · isplitl [Hx0]; · iexact Hx0
    isplitl [Hx1]; · iexact Hx1
    isplitl [Hx2]; · iexact Hx2
    iexact Hx3
  isplitl [Ho]; · iexact Ho
  isplitl [Hc]; · iexact Hc
  iexact HW

/-- The stages of all trips. -/
abbrev stages (v0 : BitVec 32) : ℕ := 4 * ((v0.toNat + 3) / 4)

/-- The ring after the last stage: every slot free. -/
theorem ring_end (v0 : BitVec 32) (h0 : v0.toNat = D.tot) (p : F .f32 × Vec F S1x10000 .f32) :
    D.ring c (stages v0) p ⊢ iprop(frees D c ∗ outP c p.1 ∗ carryP c p.2 ∗ (∃ W, owes (c : Thread nD τ) 0 W)) := by
  have hs : D.tot ≤ stages v0 := by unfold stages; omega
  have e0 : (sl (stages v0)) = 0 := Fin.ext (by show stages v0 % 4 = 0; unfold stages; omega)
  have e1 : (sl (stages v0 + 1)) = 1 := Fin.ext (by show (stages v0 + 1) % 4 = 1; unfold stages; omega)
  have e2 : (sl (stages v0 + 2)) = 2 := Fin.ext (by show (stages v0 + 2) % 4 = 2; unfold stages; omega)
  have e3 : (sl (stages v0 + 3)) = 3 := Fin.ext (by show (stages v0 + 3) % 4 = 3; unfold stages; omega)
  unfold ring frees
  rw [tin_none _ (by omega), tin_none _ (by omega), tin_none _ (by omega), xin_none _ (by omega), xin_none _ (by omega), xin_none _ (by omega), e0, e1, e2, e3]
  iintro ⟨⟨Ht0, Ht1, Ht2, Ht3⟩, ⟨Hx0, Hx1, Hx2, Hx3⟩, Ho, Hc, HW⟩
  isplitl [Ht0 Ht1 Ht2 Ht3 Hx0 Hx1 Hx2 Hx3]
  · isplitl [Ht0 Ht1 Ht2 Ht3]
    · isplitl [Ht0]; · iexact Ht0
      isplitl [Ht1]; · iexact Ht1
      isplitl [Ht2]; · iexact Ht2
      iexact Ht3
    isplitl [Hx0]; · iexact Hx0
    isplitl [Hx1]; · iexact Hx1
    isplitl [Hx2]; · iexact Hx2
    iexact Hx3
  isplitl [Ho]; · iexact Ho
  isplitl [Hc]; · iexact Hc
  iexact HW

/-- The trips run every stage. -/
theorem wp_loops (i : grid0.Coords) (q : PosShare TreeShare) (v0 : BitVec 32) (h0 : v0.toNat = D.tot) (h7 : k0_chk7 v0)
    (p : F .f32 × Vec F S1x10000 .f32) (Q : PUnit → sProp 𝕄) :
    iprop(D.tabs c q ∗ D.ring c 0 p)
      ⊢ iprop(((D.tabs c q ∗ D.ring c (stages v0) (D.run p (stages v0))) -∗ Q ⟨⟩) -∗ WP c (loops i v0 h7) Q) := by
  have e1 := trips1 v0 (D.ge8 v0 h0) (D.le64 v0 h0)
  unfold loops
  iintro H0 Hk
  ihave H := (show iprop(D.tabs c q ∗ D.ring c 0 p) ⊢ iprop(D.tabs c q ∗ D.ring c (4 * 0) (D.run p (4 * 0))) from .rfl) $$ H0
  iapply (Scf.wp_for_bind frame (wpE (defs₀ (F := F)) 𝒱₀ (c : Thread nD τ) none) Set.univ _ _ _ (k0_t1_ok v0 h7) 0#32 _
    (fun t a => iprop(D.tabs c q ∗ D.ring c (4 * t) (D.run p (4 * t)))) (fun t a => by
      rw [trip_eq]
      iintro H
      iapply (wp_trip (D := D) v0 h0 h7 t q p) $$ H
      iintro H
      iexact H)) $$ H
  iintro %a H
  iapply (Scf.wp_for_bind frame (wpE (defs₀ (F := F)) 𝒱₀ (c : Thread nD τ) none) Set.univ _ _ _ (k0_t2_ok v0 h7) a _
    (fun t a => iprop(D.tabs c q ∗ D.ring c (stages v0) (D.run p (stages v0)))) (fun t a => no_trip2 v0 (D.ge8 v0 h0) (D.le64 v0 h0) (P := fun t => _) t)) $$ [H]
  · ihave H' := (show iprop(D.tabs c q ∗ D.ring c (4 * (k0_t1_loop v0).trips) (D.run p (4 * (k0_t1_loop v0).trips)))
      ⊢ iprop(D.tabs c q ∗ D.ring c (stages v0) (D.run p (stages v0))) by rw [e1]) $$ H
    iexact H'
  iintro %b H
  iapply (wp_done c)
  iapply Hk
  iexact H

/-- The body: given its tables, its free slots and its two buffers, it comes back to the same with the output word the stages leave. -/
theorem wp_body (i : grid0.Coords) (q : PosShare TreeShare) (TOT : totM.view.ty.Contents (Elt F)) (v0 : BitVec 32) (hv : TOT = fun _ => v0) (h0 : v0.toNat = D.tot)
    (r : Vec F S1x10000 .f32) (Q : PUnit → sProp 𝕄) :
    iprop(totP c q TOT ∗ D.tabs c q ∗ frees D c ∗ (∃ o, outP c o) ∗ carryP c r ∗ (∃ W, owes (c : Thread nD τ) 0 W))
      ⊢ iprop(((totP c q TOT ∗ D.tabs c q ∗ frees D c ∗ outP c (D.run (Scalar.ofBits .f32 0x00000000#32, r) (stages v0)).1
          ∗ (∃ r', carryP c r') ∗ (∃ W, owes (c : Thread nD τ) 0 W)) -∗ Q ⟨⟩) -∗ WP c (kernelP i) Q) := by
  iintro H Hk
  iapply (wp_ahead (D := D) i q TOT v0 hv h0 r) $$ H
  iintro %h7 ⟨Hn, H⟩
  iapply (wp_loops (D := D) i q v0 h0 h7) $$ H
  iintro ⟨Htab, H⟩
  iapply Hk
  ihave H' := (ring_end (D := D) v0 h0 _) $$ H
  icases H' with ⟨Hf, Ho, Hc, HW⟩
  isplitl [Hn]; · iexact Hn
  isplitl [Htab]; · iexact Htab
  isplitl [Hf]; · iexact Hf
  isplitl [Ho]; · iexact Ho
  isplitl [Hc]
  · iexists _; iexact Hc
  iexact HW

end Data
end Cert.Proof.KI
-- ==== Proof.KI.Own.lean ====
/-
  What the kernel owns while it runs, taken out of what the launch hands it and put back: the two rings slot by
  slot, the eight semaphores, and a share of each array in HBM for every slot.
-/
module

public import proofs.«01_k».proof.Proof.KI.Body
public import Idealize.ShloMosaic.Lib.Pipeline.FrameSuffix

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The slots of a ring -/

/-- The words of slot `s` of a ring. -/
def slotSet (s : Fin 4) : Finset S4x64x10000.Idx := (slotRect s).set
theorem mem_slotSet (s : Fin 4) (y : S4x64x10000.Idx) : y ∈ slotSet s ↔ (y 0).val = s.val := by
  unfold slotSet
  rw [Rect.mem_set_unit]
  constructor
  · intro h
    have h0 := h 0
    have e : slotOff s 0 = s.val := rfl
    have e1 : S1x64x10000.size 0 = 1 := rfl
    rw [e, e1] at h0
    omega
  · intro h a
    fin_cases a
    · show s.val ≤ (y 0).val ∧ (y 0).val < s.val + 1
      omega
    · exact ⟨Nat.zero_le _, by show (y 1).val < 0 + 64; have := (y 1).isLt; have e : S4x64x10000.size 1 = 64 := rfl; omega⟩
    · exact ⟨Nat.zero_le _, by show (y 2).val < 0 + 10000; have := (y 2).isLt; have e : S4x64x10000.size 2 = 10000 := rfl; omega⟩
theorem slotSet_disjoint : ∀ s s' : Fin 4, s ≠ s' → Disjoint (slotSet s) (slotSet s') := by
  intro s s' hne
  rw [Finset.disjoint_left]
  intro y hy hy'
  rw [mem_slotSet] at hy hy'
  exact hne (Fin.ext (hy.symm.trans hy'))
theorem slotSet_cover : (Finset.univ : Finset (Fin 4)).biUnion slotSet = Finset.univ := by
  ext y
  simp only [Finset.mem_biUnion, Finset.mem_univ, true_and, iff_true]
  exact ⟨⟨(y 0).val, (y 0).isLt⟩, by rw [mem_slotSet]⟩
theorem tslot_eq (s : Fin 4) : (tslot s).view.set = slotSet s := by
  show ((tbufM.view.slice (slotRect s)).reshape _ _).set = _
  rw [View.set_reshape]; exact View.set_slice_whole cc0_scratch0 _
theorem xslot_eq (s : Fin 4) : (xslot s).view.set = slotSet s := by
  show ((xbufM.view.slice (slotRect s)).reshape _ _).set = _
  rw [View.set_reshape]; exact View.set_slice_whole cc0_scratch1 _

omit [FloatOps F] [Named F] in
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

variable (c : Dev nD)

theorem tfull_eq (s : Fin 4) : (iprop(∃ b, tfull c s b) : sProp 𝕄)
    ⊣⊢ iprop(∃ f : Buf (Elt F) ((c : Thread nD τ).loc cc0_scratch0), ((c : Thread nD τ).loc cc0_scratch0) ↦[slotSet s]{fullShare} f) := by
  have e := tslot_eq s
  unfold tfull
  constructor
  · iintro ⟨%b, %f, H, -⟩
    iexists f
    iapply (Entails.of_eq (congrArg (fun S => (((c : Thread nD τ).loc cc0_scratch0) ↦[S]{fullShare} f : sProp 𝕄)) e)); iexact H
  · iintro ⟨%f, H⟩
    iexists (tbufM.access (slotRect s)).read (Elt F) f
    iexists f
    isplitl [H]
    · iapply (Entails.of_eq (congrArg (fun S => (((c : Thread nD τ).loc cc0_scratch0) ↦[S]{fullShare} f : sProp 𝕄)) e.symm)); iexact H
    ipureintro; rfl
theorem xfull_eq (s : Fin 4) : (iprop(∃ b, xfull c s b) : sProp 𝕄)
    ⊣⊢ iprop(∃ f : Buf (Elt F) ((c : Thread nD τ).loc cc0_scratch1), ((c : Thread nD τ).loc cc0_scratch1) ↦[slotSet s]{fullShare} f) := by
  have e := xslot_eq s
  unfold xfull
  constructor
  · iintro ⟨%b, %f, H, -⟩
    iexists f
    iapply (Entails.of_eq (congrArg (fun S => (((c : Thread nD τ).loc cc0_scratch1) ↦[S]{fullShare} f : sProp 𝕄)) e)); iexact H
  · iintro ⟨%f, H⟩
    iexists (xbufM.access (slotRect s)).read (Elt F) f
    iexists f
    isplitl [H]
    · iapply (Entails.of_eq (congrArg (fun S => (((c : Thread nD τ).loc cc0_scratch1) ↦[S]{fullShare} f : sProp 𝕄)) e.symm)); iexact H
    ipureintro; rfl

/-- A ring held whole is its four slots, and back. -/
theorem tbuf_slots : (iprop(∃ f : Buf (Elt F) ((c : Thread nD τ).loc cc0_scratch0), ((c : Thread nD τ).loc cc0_scratch0) ↦{fullShare} f) : sProp 𝕄)
    ⊣⊢ bigSep Finset.univ fun s : Fin 4 => iprop(∃ b, tfull c s b) := by
  have hone : ∀ (f : Buf (Elt F) ((c : Thread nD τ).loc cc0_scratch0)) (s : Fin 4),
      (((c : Thread nD τ).loc cc0_scratch0) ↦[slotSet s]{fullShare} f : sProp 𝕄) ⊢ iprop(∃ b, tfull c s b) := fun f s => by
    refine BIBase.Entails.trans ?_ (tfull_eq c s).2
    iintro H
    iexists f; iexact H
  constructor
  · iintro ⟨%f, H⟩
    iapply (show bigSep Finset.univ (fun s : Fin 4 => (((c : Thread nD τ).loc cc0_scratch0) ↦[slotSet s]{fullShare} f : sProp 𝕄))
      ⊢ bigSep Finset.univ fun s : Fin 4 => iprop(∃ b, tfull c s b) from BI.bigSep_mono (fun s _ => hone f s))
    iapply (Entails.of_eq (Ring.pointsTo_blocks (Ix := Unit) (Name := ℕ) (U := UU nD τ) (Lvl := ℕ) (q := fullShare)
      (ℓ := (c : Thread nD τ).loc cc0_scratch0) slotSet slotSet_disjoint slotSet_cover f))
    iexact H
  · refine BI.Entails.trans (BI.bigSep_mono (fun s _ => (tfull_eq (F := F) c s).1)) ?_
    exact Ring.pointsTo_blocks_join_exists (ℓ := (c : Thread nD τ).loc cc0_scratch0) slotSet slotSet_disjoint slotSet_cover (fun _ => Classical.arbitrary _)
theorem xbuf_slots : (iprop(∃ f : Buf (Elt F) ((c : Thread nD τ).loc cc0_scratch1), ((c : Thread nD τ).loc cc0_scratch1) ↦{fullShare} f) : sProp 𝕄)
    ⊣⊢ bigSep Finset.univ fun s : Fin 4 => iprop(∃ b, xfull c s b) := by
  have hone : ∀ (f : Buf (Elt F) ((c : Thread nD τ).loc cc0_scratch1)) (s : Fin 4),
      (((c : Thread nD τ).loc cc0_scratch1) ↦[slotSet s]{fullShare} f : sProp 𝕄) ⊢ iprop(∃ b, xfull c s b) := fun f s => by
    refine BIBase.Entails.trans ?_ (xfull_eq c s).2
    iintro H
    iexists f; iexact H
  constructor
  · iintro ⟨%f, H⟩
    iapply (show bigSep Finset.univ (fun s : Fin 4 => (((c : Thread nD τ).loc cc0_scratch1) ↦[slotSet s]{fullShare} f : sProp 𝕄))
      ⊢ bigSep Finset.univ fun s : Fin 4 => iprop(∃ b, xfull c s b) from BI.bigSep_mono (fun s _ => hone f s))
    iapply (Entails.of_eq (Ring.pointsTo_blocks (Ix := Unit) (Name := ℕ) (U := UU nD τ) (Lvl := ℕ) (q := fullShare)
      (ℓ := (c : Thread nD τ).loc cc0_scratch1) slotSet slotSet_disjoint slotSet_cover f))
    iexact H
  · refine BI.Entails.trans (BI.bigSep_mono (fun s _ => (xfull_eq (F := F) c s).1)) ?_
    exact Ring.pointsTo_blocks_join_exists (ℓ := (c : Thread nD τ).loc cc0_scratch1) slotSet slotSet_disjoint slotSet_cover (fun _ => Classical.arbitrary _)

/-! ## The semaphores, and the arrays read -/

/-- The kernel's own semaphores: slot `s` of the texts' ring, then of the training rows'. -/
abbrev osem (k : Fin 2 × Fin 4) : SemLoc sig := SemLoc.dma (ringSem k.1 k.2).sem
theorem ownSemFacts : Pipeline.OwnSemFacts spec0 osem := by decide
/-- The arrays the kernel's transfers read. -/
def H0 : Finset (Ref sig .tc) := {main_arg0, main_arg2}
theorem H0_sub : H0 ⊆ Pipeline.restRefsP sig pre0 spec0 := by decide

/-- What is left of an array's share once each slot has its own. -/
abbrev keep : PosShare TreeShare := Transfers.shareDrop fullShare 4

/-- The parts the kernel works with, out of the rings, the semaphores and the arrays. -/
theorem own_frees (D : Data F) :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ Pipeline.ownSems0 (Ix := Unit) (Name := ℕ) (U := UU nD τ) (Lvl := ℕ) (Val := Elt F) (τ := τ) osem c
        ∗ ((c : Thread nD τ).loc main_arg0 ↦{fullShare} D.XT) ∗ ((c : Thread nD τ).loc main_arg2 ↦{fullShare} D.XX)) : sProp 𝕄)
      ⊣⊢ iprop(Data.frees D c ∗ ((c : Thread nD τ).loc main_arg0 ↦{keep} D.XT) ∗ ((c : Thread nD τ).loc main_arg2 ↦{keep} D.XX)) := by
  have hs : (Pipeline.ownSems0 (Ix := Unit) (Name := ℕ) (U := UU nD τ) (Lvl := ℕ) (Val := Elt F) (τ := τ) osem c : sProp 𝕄)
      = iprop(semVal ((c : Thread nD τ), SemLoc.dma (ringSem 0 0).sem) 0 ∗ semVal ((c : Thread nD τ), SemLoc.dma (ringSem 0 1).sem) 0
        ∗ semVal ((c : Thread nD τ), SemLoc.dma (ringSem 0 2).sem) 0 ∗ semVal ((c : Thread nD τ), SemLoc.dma (ringSem 0 3).sem) 0
        ∗ semVal ((c : Thread nD τ), SemLoc.dma (ringSem 1 0).sem) 0 ∗ semVal ((c : Thread nD τ), SemLoc.dma (ringSem 1 1).sem) 0
        ∗ semVal ((c : Thread nD τ), SemLoc.dma (ringSem 1 2).sem) 0 ∗ semVal ((c : Thread nD τ), SemLoc.dma (ringSem 1 3).sem) 0) := by
    unfold Pipeline.ownSems0
    rw [bigSep_univ_eq_bigSepL [(0, 0), (0, 1), (0, 2), (0, 3), (1, 0), (1, 1), (1, 2), (1, 3)] (by decide) (by decide)]
    rfl
  have hT : (((c : Thread nD τ).loc main_arg0 ↦{fullShare} D.XT) : sProp 𝕄)
      ⊣⊢ iprop(((c : Thread nD τ).loc main_arg0 ↦{keep} D.XT) ∗ tarr c 0 D.XT ∗ tarr c 1 D.XT ∗ tarr c 2 D.XT ∗ tarr c 3 D.XT) := by
    have h := Transfers.pointsTo_toks (Ix := Unit) (Name := ℕ) (U := UU nD τ) (Lvl := ℕ) (ℓ := (c : Thread nD τ).loc main_arg0) (S := Finset.univ) (f := D.XT) fullShare 4
    rw [bigSep_four] at h
    exact h
  have hX : (((c : Thread nD τ).loc main_arg2 ↦{fullShare} D.XX) : sProp 𝕄)
      ⊣⊢ iprop(((c : Thread nD τ).loc main_arg2 ↦{keep} D.XX) ∗ xarr c 0 D.XX ∗ xarr c 1 D.XX ∗ xarr c 2 D.XX ∗ xarr c 3 D.XX) := by
    have h := Transfers.pointsTo_toks (Ix := Unit) (Name := ℕ) (U := UU nD τ) (Lvl := ℕ) (ℓ := (c : Thread nD τ).loc main_arg2) (S := Finset.univ) (f := D.XX) fullShare 4
    rw [bigSep_four] at h
    exact h
  have hb0 := tbuf_slots (F := F) c
  have hb1 := xbuf_slots (F := F) c
  rw [bigSep_four] at hb0 hb1
  rw [hs]
  unfold Data.frees tfree xfree
  constructor
  · iintro ⟨HB0, HB1, ⟨S0, S1, S2, S3, S4, S5, S6, S7⟩, HT, HX⟩
    ihave HB0' := hb0.1 $$ HB0
    icases HB0' with ⟨B0, B1, B2, B3⟩
    ihave HB1' := hb1.1 $$ HB1
    icases HB1' with ⟨C0, C1, C2, C3⟩
    ihave HT' := hT.1 $$ HT
    icases HT' with ⟨HT, T0, T1, T2, T3⟩
    ihave HX' := hX.1 $$ HX
    icases HX' with ⟨HX, X0, X1, X2, X3⟩
    isplitr [HT HX]
    · isplitl [S0 S1 S2 S3 B0 B1 B2 B3 T0 T1 T2 T3]
      · isplitl [S0 B0 T0]; · isplitl [S0]; · iexact S0
                              isplitl [B0] <;> iassumption
        isplitl [S1 B1 T1]; · isplitl [S1]; · iexact S1
                              isplitl [B1] <;> iassumption
        isplitl [S2 B2 T2]; · isplitl [S2]; · iexact S2
                              isplitl [B2] <;> iassumption
        isplitl [S3]; · iexact S3
        isplitl [B3] <;> iassumption
      · isplitl [S4 C0 X0]; · isplitl [S4]; · iexact S4
                              isplitl [C0] <;> iassumption
        isplitl [S5 C1 X1]; · isplitl [S5]; · iexact S5
                              isplitl [C1] <;> iassumption
        isplitl [S6 C2 X2]; · isplitl [S6]; · iexact S6
                              isplitl [C2] <;> iassumption
        isplitl [S7]; · iexact S7
        isplitl [C3] <;> iassumption
    isplitl [HT] <;> iassumption
  · iintro ⟨⟨⟨⟨S0, B0, T0⟩, ⟨S1, B1, T1⟩, ⟨S2, B2, T2⟩, ⟨S3, B3, T3⟩⟩, ⟨⟨S4, C0, X0⟩, ⟨S5, C1, X1⟩, ⟨S6, C2, X2⟩, ⟨S7, C3, X3⟩⟩⟩, HT, HX⟩
    isplitl [B0 B1 B2 B3]
    · iapply hb0.2
      isplitl [B0]; · iexact B0
      isplitl [B1]; · iexact B1
      isplitl [B2] <;> iassumption
    isplitl [C0 C1 C2 C3]
    · iapply hb1.2
      isplitl [C0]; · iexact C0
      isplitl [C1]; · iexact C1
      isplitl [C2] <;> iassumption
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6] <;> iassumption
    isplitl [HT T0 T1 T2 T3]
    · iapply hT.2
      isplitl [HT]; · iexact HT
      isplitl [T0]; · iexact T0
      isplitl [T1]; · iexact T1
      isplitl [T2] <;> iassumption
    iapply hX.2
    isplitl [HX]; · iexact HX
    isplitl [X0]; · iexact X0
    isplitl [X1]; · iexact X1
    isplitl [X2] <;> iassumption

end Cert.Proof.KI

end
-- ==== Proof.KI.HostVals.lean ====
/-
  What the host's lines before the kernel leave in the buffers that the kernel and the lines after it read.
-/
module

public import proofs.«01_k».proof.Proof.Gen.KernelIdeal.Launch
public import proofs.«01_k».proof.Proof.Tables
public import Idealize.ShloMosaic.Lib.StableHlo

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

variable {F : FTy → Type} [FloatOps F] [Named F]

/-- The contents of one device's buffers, by reference. -/
abbrev Vals (F : FTy → Type) : Type := Valuation τ sig (Elt F)
/-- What a buffer of the TensorCore holds. -/
abbrev at' (X : Vals F) (b : Ref sig .tc) := X (Proc.devRef .tc b)

section Lines
variable (X : Vals F)
theorem ops0_v1 : StableHlo.after hostOps0 X (Proc.devRef .tc main_v1) = addi (X (Proc.devRef .tc main_arg1)) (Tables.all8 1#32) := by
  after_results_simp; rfl
theorem ops0_c0 : StableHlo.after hostOps0 X (Proc.devRef .tc main_c_0) = constantI S_ 32 64#32 := by
  after_results_simp
theorem ops1_v2 : StableHlo.after hostOps0_1 X (Proc.devRef .tc main_v2)
    = Routing.pyDiv (s := S8) bcast_S_S8 (X (Proc.devRef .tc main_v1)) (X (Proc.devRef .tc main_c_0)) := by
  after_results_simp; rfl
theorem ops2_c1 : StableHlo.after hostOps0_2 X (Proc.devRef .tc main_c_1) = constantI S_ 32 64#32 := by
  after_results_simp
theorem ops3_v3 : StableHlo.after hostOps0_3 X (Proc.devRef .tc main_v3)
    = Routing.pyDiv (s := S8) bcast_S_S8 (X (Proc.devRef .tc main_arg1)) (X (Proc.devRef .tc main_c_1)) := by
  after_results_simp; rfl
theorem ops4_v5 : StableHlo.after hostOps0_4 X (Proc.devRef .tc main_v5) = addi (X (Proc.devRef .tc main_v2)) (Tables.all8 1#32) := by
  after_results_simp; rfl
seal Host.reduceWindow in
theorem ops5_v6 : StableHlo.after hostOps0_5 X (Proc.devRef .tc main_v6)
    = Host.reduceWindow IntOp.addi ![8] ![1] ![7] ![0] (X (Proc.devRef .tc main_v5)) (broadcastInDim S_ ![] bcast_S_S_ (constantI S_ 32 0#32)) reduceWindows_S8_S8_w8s1p7_0 h_S_ := by
  after_results_simp; rfl
end Lines

section Last
variable (X : Vals F) (L : IVec S8 32) (hL : X (Proc.devRef .tc main_arg1) = L) (h6 : X (Proc.devRef .tc main_v6) = Tables.cum L)
  (h5 : X (Proc.devRef .tc main_v5) = Tables.nb L) (h3 : X (Proc.devRef .tc main_v3) = Tables.last L)
include h6
theorem ops6_v19 : StableHlo.after hostOps0_6 X (Proc.devRef .tc main_v19) = Tables.bs L := by
  after_results_simp; rw [h6]; rfl
theorem ops6_v41 : StableHlo.after hostOps0_6 X (Proc.devRef .tc main_v41) = shapeCast S1 (Tables.tot L) shapeCasts_S_S1 := by
  after_results_simp; rw [h6]; rfl
include h5
theorem ops6_v27 : StableHlo.after hostOps0_6 X (Proc.devRef .tc main_v27) = Tables.js gather_S8_S72x1_S72_n_0_n_n_0_1_1 L := by
  after_results_simp; rw [h6, h5]; rfl
include h3
theorem ops6_v36 : StableHlo.after hostOps0_6 X (Proc.devRef .tc main_v36) = Tables.tf gather_S8_S72x1_S72_n_0_n_n_0_1_1 L := by
  after_results_simp; rw [h6, h5, h3]; rfl
omit h6 h5 h3
include hL
theorem ops6_v40 : StableHlo.after hostOps0_6 X (Proc.devRef .tc main_v40) = (sitofp .f32 (Tables.cnt L) : FVec F S_ .f32) := by
  after_results_simp; rw [hL]; rfl
end Last

/-! ## All the lines -/

/-- The lines before the kernel, in order. -/
abbrev preOps : List (List (HloOp τ sig (Elt F))) := [hostOps0, hostOps0_1, hostOps0_2, hostOps0_3, hostOps0_4, hostOps0_5, hostOps0_6]

theorem after_append (l₁ l₂ : List (HloOp τ sig (Elt F))) (V : Vals F) :
    StableHlo.after (l₁ ++ l₂) V = StableHlo.after l₂ (StableHlo.after l₁ V) := by
  induction l₁ generalizing V with
  | nil => rfl
  | cons op l ih => exact ih _

/-- What they leave of a device's buffers at launch. -/
def V₀ (m : (ℓ : Loc nD τ sig) → Buf (Elt F) ℓ) (c : Dev nD) : Vals F :=
  StableHlo.after (preOps (F := F)).flatten fun b => m (c, b)

section All
variable (m : (ℓ : Loc nD τ sig) → Buf (Elt F) ℓ) (c : Dev nD)
/-! The contents after the first groups of lines. -/
def Y₁ : Vals F := StableHlo.after hostOps0 fun b => m (c, b)
def Y₂ : Vals F := StableHlo.after hostOps0_1 (Y₁ m c)
def Y₃ : Vals F := StableHlo.after hostOps0_2 (Y₂ m c)
def Y₄ : Vals F := StableHlo.after hostOps0_3 (Y₃ m c)
def Y₅ : Vals F := StableHlo.after hostOps0_4 (Y₄ m c)
def Y₆ : Vals F := StableHlo.after hostOps0_5 (Y₅ m c)
theorem V₀_eq : V₀ m c = StableHlo.after hostOps0_6 (Y₆ m c) := by
  unfold V₀ preOps
  simp only [List.flatten_cons, List.flatten_nil, List.append_nil, after_append]
  rfl
/-- The lengths at launch. -/
abbrev lens : IVec S8 32 := m (c, Proc.devRef .tc main_arg1)

theorem keep0 (X : Vals F) (b : Ref sig .tc) (h : b = main_arg0 ∨ b = main_arg1 ∨ b = main_arg2) : StableHlo.after hostOps0 X (Proc.devRef .tc b) = X (Proc.devRef .tc b) := by
  rcases h with rfl | rfl | rfl <;> after_results_simp
theorem keep1 (X : Vals F) (b : Ref sig .tc) (h : b = main_arg0 ∨ b = main_arg1 ∨ b = main_arg2) : StableHlo.after hostOps0_1 X (Proc.devRef .tc b) = X (Proc.devRef .tc b) := by
  rcases h with rfl | rfl | rfl <;> after_results_simp
theorem keep2 (X : Vals F) (b : Ref sig .tc) (h : b = main_arg0 ∨ b = main_arg1 ∨ b = main_arg2) : StableHlo.after hostOps0_2 X (Proc.devRef .tc b) = X (Proc.devRef .tc b) := by
  rcases h with rfl | rfl | rfl <;> after_results_simp
theorem keep3 (X : Vals F) (b : Ref sig .tc) (h : b = main_arg0 ∨ b = main_arg1 ∨ b = main_arg2 ∨ b = main_v2) : StableHlo.after hostOps0_3 X (Proc.devRef .tc b) = X (Proc.devRef .tc b) := by
  rcases h with rfl | rfl | rfl | rfl <;> after_results_simp
theorem keep4 (X : Vals F) (b : Ref sig .tc) (h : b = main_arg0 ∨ b = main_arg1 ∨ b = main_arg2 ∨ b = main_v3) : StableHlo.after hostOps0_4 X (Proc.devRef .tc b) = X (Proc.devRef .tc b) := by
  rcases h with rfl | rfl | rfl | rfl <;> after_results_simp
theorem keep5 (X : Vals F) (b : Ref sig .tc) (h : b = main_arg0 ∨ b = main_arg1 ∨ b = main_arg2 ∨ b = main_v3 ∨ b = main_v5) : StableHlo.after hostOps0_5 X (Proc.devRef .tc b) = X (Proc.devRef .tc b) := by
  rcases h with rfl | rfl | rfl | rfl | rfl <;> after_results_simp
theorem keep6 (X : Vals F) (b : Ref sig .tc) (h : b = main_arg0 ∨ b = main_arg1 ∨ b = main_arg2) : StableHlo.after hostOps0_6 X (Proc.devRef .tc b) = X (Proc.devRef .tc b) := by
  rcases h with rfl | rfl | rfl <;> after_results_simp

theorem keep_to6 (b : Ref sig .tc) (h : b = main_arg0 ∨ b = main_arg1 ∨ b = main_arg2) : Y₆ m c (Proc.devRef .tc b) = m (c, Proc.devRef .tc b) := by
  unfold Y₆ Y₅ Y₄ Y₃ Y₂ Y₁
  rw [keep5 _ b (by tauto), keep4 _ b (by tauto), keep3 _ b (by tauto), keep2 _ b h, keep1 _ b h, keep0 _ b h]
/-- The lines write none of the kernel's arguments. -/
theorem V₀_arg (b : Ref sig .tc) (h : b = main_arg0 ∨ b = main_arg1 ∨ b = main_arg2) : V₀ m c (Proc.devRef .tc b) = m (c, Proc.devRef .tc b) := by
  rw [V₀_eq, keep6 _ b h, keep_to6 m c b h]

theorem Y₂_v2 : Y₂ m c (Proc.devRef .tc main_v2) = Routing.pyDiv (s := S8) bcast_S_S8 (addi (lens m c) (Tables.all8 1#32)) (constantI S_ 32 64#32) := by
  unfold Y₂ Y₁; rw [ops1_v2, ops0_v1, ops0_c0]
theorem Y₄_v3 : Y₄ m c (Proc.devRef .tc main_v3) = Tables.last (lens m c) := by
  unfold Y₄ Y₃; rw [ops3_v3, ops2_c1, keep2 _ main_arg1 (by tauto)]
  unfold Y₂ Y₁; rw [keep1 _ main_arg1 (by tauto), keep0 _ main_arg1 (by tauto)]; rfl
theorem Y₅_v5 : Y₅ m c (Proc.devRef .tc main_v5) = Tables.nb (lens m c) := by
  unfold Y₅ Y₄ Y₃; rw [ops4_v5, keep3 _ main_v2 (by tauto)]
  rw [show StableHlo.after hostOps0_2 (Y₂ m c) (Proc.devRef .tc main_v2) = Y₂ m c (Proc.devRef .tc main_v2) by after_results_simp, Y₂_v2]; rfl
theorem Y₆_v5 : Y₆ m c (Proc.devRef .tc main_v5) = Tables.nb (lens m c) := by
  unfold Y₆; rw [keep5 _ main_v5 (by tauto), Y₅_v5]
theorem Y₆_v3 : Y₆ m c (Proc.devRef .tc main_v3) = Tables.last (lens m c) := by
  unfold Y₆ Y₅; rw [keep5 _ main_v3 (by tauto), keep4 _ main_v3 (by tauto), Y₄_v3]
theorem Y₆_v6 : Y₆ m c (Proc.devRef .tc main_v6) = Tables.cum (lens m c) := by
  unfold Y₆; rw [ops5_v6, Y₅_v5]; rfl

/-! The tables and the count as the kernel finds them. -/
theorem V₀_v19 : V₀ m c (Proc.devRef .tc main_v19) = Tables.bs (lens m c) := by
  rw [V₀_eq]; exact ops6_v19 _ _ (Y₆_v6 m c)
theorem V₀_v27 : V₀ m c (Proc.devRef .tc main_v27) = Tables.js gather_S8_S72x1_S72_n_0_n_n_0_1_1 (lens m c) := by
  rw [V₀_eq]; exact ops6_v27 _ _ (Y₆_v6 m c) (Y₆_v5 m c)
theorem V₀_v36 : V₀ m c (Proc.devRef .tc main_v36) = Tables.tf gather_S8_S72x1_S72_n_0_n_n_0_1_1 (lens m c) := by
  rw [V₀_eq]; exact ops6_v36 _ _ (Y₆_v6 m c) (Y₆_v5 m c) (Y₆_v3 m c)
theorem V₀_v41 : V₀ m c (Proc.devRef .tc main_v41) = shapeCast S1 (Tables.tot (lens m c)) shapeCasts_S_S1 := by
  rw [V₀_eq]; exact ops6_v41 _ _ (Y₆_v6 m c)
theorem V₀_v40 : V₀ m c (Proc.devRef .tc main_v40) = (sitofp .f32 (Tables.cnt (lens m c)) : FVec F S_ .f32) := by
  rw [V₀_eq]; exact ops6_v40 _ _ (keep_to6 m c main_arg1 (by tauto))
end All

end Cert.Proof.KI

end
-- ==== Proof.KI.Run.lean ====
/-
  The run of the whole program: the host's lines, the kernel at its one point, and the two lines after it.
-/
module

public import proofs.«01_k».proof.Proof.KI.Own
public import proofs.«01_k».proof.Proof.KI.HostVals

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2)
open Cert.Proof.Tables (len stN bsN nbN)

variable {F : FTy → Type} [FloatOps F] [Named F]
local notation "𝕄" => MT nD τ sig Unit (Elt F) ℕ (UU nD τ) ℕ

/-! ## The kernel's data at launch -/

theorem at72_eq (k : ℕ) (h : k < 72) : at72 k = (ix1 (⟨k, h⟩ : Fin 72) : S72.Idx) := by
  funext a; fin_cases a; exact Fin.ext (Nat.mod_eq_of_lt h)
theorem at8_eq (b : ℕ) (h : b < 8) : at8 b = (ix1 (⟨b, h⟩ : Fin 8) : S8.Idx) := by
  funext a; fin_cases a; exact Fin.ext (Nat.mod_eq_of_lt h)

variable (m : (ℓ : Loc nD τ sig) → Buf (Elt F) ℓ)
/-- Every length is at most 510. -/
abbrev Short (c : Dev nD) : Prop := ∀ b : Fin 8, (lens m c (ix1 b)).toNat ≤ 510

section Facts
variable (c : Dev nD) (hL : Short m c)
include hL
theorem bw_eq (k : ℕ) (hk : k < 72) : (V₀ m c (Proc.devRef .tc main_v19) : IVec S72 32) (at72 k) = BitVec.ofNat 32 (bsN (len (lens m c)) k) := by
  rw [V₀_v19, at72_eq k hk]; exact Tables.bs_at _ hL ⟨k, hk⟩
theorem jw_eq (k : ℕ) (hk : k < 72) (hs : k < stN (len (lens m c)) 8) :
    (V₀ m c (Proc.devRef .tc main_v27) : IVec S72 32) (at72 k) = BitVec.ofNat 32 (k - stN (len (lens m c)) (bsN (len (lens m c)) k)) := by
  rw [V₀_v27, at72_eq k hk]; exact Tables.js_at _ rfl rfl rfl rfl _ hL ⟨k, hk⟩ hs
theorem tw_eq (k : ℕ) (hk : k < 72) (hs : k < stN (len (lens m c)) 8) :
    (V₀ m c (Proc.devRef .tc main_v36) : IVec S72 32) (at72 k)
      = if k - stN (len (lens m c)) (bsN (len (lens m c)) k) ≤ len (lens m c) (bsN (len (lens m c)) k) / 64 then 1#32 else 0#32 := by
  rw [V₀_v36, at72_eq k hk]; exact Tables.tf_at _ rfl rfl rfl rfl _ hL ⟨k, hk⟩ hs
theorem tot_le64 : stN (len (lens m c)) 8 ≤ 64 := Tables.stN_le _ (Tables.len_le _ hL) 8
theorem v41_eq : (V₀ m c (Proc.devRef .tc main_v41) : IVec S1 32) = fun _ => BitVec.ofNat 32 (stN (len (lens m c)) 8) := by
  rw [V₀_v41]; funext i; exact Tables.tot_at _ hL _
end Facts

/-- The kernel's data. -/
def dat (c : Dev nD) (hL : Short m c) : Data F where
  BS := V₀ m c (Proc.devRef .tc main_v19)
  JS := V₀ m c (Proc.devRef .tc main_v27)
  TF := V₀ m c (Proc.devRef .tc main_v36)
  LEN := V₀ m c (Proc.devRef .tc main_arg1)
  XT := V₀ m c (Proc.devRef .tc main_arg0)
  XX := V₀ m c (Proc.devRef .tc main_arg2)
  tot := stN (len (lens m c)) 8
  tot_ge := Tables.le_stN _ 8
  tot_le := tot_le64 m c hL
  bs_lt k hk := by
    have h := tot_le64 m c hL
    rw [bw_eq m c hL k (by omega), BitVec.toNat_ofNat]
    have := Tables.bsN_lt (len (lens m c)) k; omega
  js_lt k hk := by
    have h := tot_le64 m c hL
    rw [jw_eq m c hL k (by omega) hk, BitVec.toNat_ofNat]
    have h1 := Tables.lt_nbN (len (lens m c)) k hk
    have h2 := Tables.nbN_le (len (lens m c)) (Tables.len_le _ hL) (bsN (len (lens m c)) k)
    omega

/-- The state the stages start from. -/
def start0 : F .f32 × Vec F S1x10000 .f32 := (Scalar.ofBits .f32 0x00000000#32, fun _ => Scalar.ofBits .f32 0x00000000#32)

/-- The first stage is a batch's first block, with rows of training text: it reads no carried row. -/
theorem run_start (c : Dev nD) (hL : Short m c) (o : F .f32) (r r' : Vec F S1x10000 .f32) (n : ℕ) (hn : 0 < n) :
    (dat m c hL).run (o, r) n = (dat m c hL).run (o, r') n := by
  obtain ⟨n, rfl⟩ : ∃ k, n = k + 1 := ⟨n - 1, by omega⟩
  induction n with
  | zero =>
    have h0 : 0 < (dat m c hL).tot := lt_of_lt_of_le (by decide) (dat m c hL).tot_ge
    have hj : (dat m c hL).jw 0 = 0#32 := (jw_eq m c hL 0 (by decide) h0).trans (by rw [Nat.zero_sub])
    have ht : (dat m c hL).tw 0 = 1#32 := (tw_eq m c hL 0 (by decide) h0).trans (by rw [Nat.zero_sub, if_pos (Nat.zero_le _)])
    show (dat m c hL).step 0 (o, r) = (dat m c hL).step 0 (o, r')
    unfold Data.step
    rw [dif_pos h0, dif_pos h0, if_pos ht, if_pos ht]
    have hu : ∀ p : F .f32 × Vec F S1x10000 .f32, (dat m c hL).useCarry 0 h0 p = p.1 := fun p => by
      unfold Data.useCarry
      rw [hj, if_neg (by decide)]
    rw [hu, hu]
  | succ n ih =>
    show (dat m c hL).step (n + 1) _ = (dat m c hL).step (n + 1) _
    rw [ih (Nat.succ_pos n)]

/-- Past the last stage nothing changes. -/
theorem run_past (D : Data F) (p : F .f32 × Vec F S1x10000 .f32) (n : ℕ) (hn : D.tot ≤ n) : D.run p n = D.run p D.tot := by
  induction n with
  | zero => rw [Nat.le_zero.mp hn]
  | succ n ih =>
    rcases Nat.lt_or_ge n D.tot with h | h
    · rw [show n + 1 = D.tot by omega]
    · rw [← ih h]
      show D.step n _ = _
      unfold Data.step
      rw [dif_neg (by omega)]

/-- The word the kernel leaves. -/
def outW (c : Dev nD) (hL : Short m c) : F .f32 := ((dat m c hL).run start0 (dat m c hL).tot).1

theorem out_end (c : Dev nD) (hL : Short m c) (r : Vec F S1x10000 .f32) (v : BitVec 32) (hv : v.toNat = (dat m c hL).tot) :
    ((dat m c hL).run (Scalar.ofBits .f32 0x00000000#32, r) (Data.stages v)).1 = outW m c hL := by
  have h8 := (dat m c hL).tot_ge
  have hs : (dat m c hL).tot ≤ Data.stages v := by unfold Data.stages; omega
  rw [run_past _ _ _ hs, run_start m c hL _ r start0.2 _ (by omega)]
  rfl

/-! ## The output word's buffer -/

theorem one_word (i j : S1x1.Idx) : i = j := by
  funext a
  fin_cases a
  · exact Subsingleton.elim (α := Fin 1) _ _
  · exact Subsingleton.elim (α := Fin 1) _ _
theorem outP_of (c : Dev nD) (f : outM.view.ty.Contents (Elt F)) :
    ((outM.view.loc (c : Thread nD τ) ↦[Finset.univ]{fullShare} f) : sProp 𝕄) ⊢ iprop(∃ o, outP c o) := by
  iintro H
  iexists (f (ix2 0 0))
  unfold outP
  iexists f
  isplitl [H]; · iexact H
  ipureintro
  funext i
  exact congrArg f (one_word _ _)
theorem of_outP (c : Dev nD) (o : F .f32) :
    (outP c o : sProp 𝕄) ⊢ owns (c : Thread nD τ) outM fullShare (fun _ => o) := by
  unfold outP owns
  iintro ⟨%f, H, %h⟩
  iexists f
  isplitr
  · ipureintro
    funext i
    rw [← congrFun h (ix2 0 0)]
    exact congrArg f (one_word _ _)
  rw [show outM.view.set = Finset.univ from View.set_whole _]
  iexact H
end Cert.Proof.KI
-- ==== Proof.KI.Launch.lean ====
/-
  The launch: the kernel's one point, and what a run of the program leaves.
-/
module

public import proofs.«01_k».proof.Proof.KI.Run
public import Idealize.ShloMosaic.Lib.Pipeline.FrameBody
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tables (len stN bsN nbN)

variable {F : FTy → Type} [FloatOps F] [Named F]
local notation "𝕄" => MT nD τ sig Unit (Elt F) ℕ (UU nD τ) ℕ

attribute [local irreducible] V₀

variable (m : (ℓ : Loc nD τ sig) → Buf (Elt F) ℓ) (hL : ∀ c, Short m c)

/-- What the buffers hold at launch, by the TensorCore's references. -/
abbrev V (c : Dev nD) (b : Ref sig .tc) := V₀ m c (Proc.devRef .tc b)
/-- The tables at launch. -/
def adm : (p : Fin 1) → (pcfgs (F := F) p).Adm := fun _ => ⟨fun k => V m 0 (pre0.ref k), trivial⟩

/-- The share of the tables that the kernel reads at. -/
abbrev half : PosShare TreeShare := fullShare.right

/-- What the kernel's one point takes and gives back beside the output's buffer. -/
def Around (c : Dev nD) : sProp 𝕄 :=
  iprop(Pipeline.ΦD osem spec0 H0 (V m) c ∗ Pipeline.ΦT pre0 (adm m 0).1 c)

theorem tables_eq (c : Dev nD) : (Pipeline.ΦT pre0 (adm m 0).1 c : sProp 𝕄)
    = iprop((((c : Thread nD τ).loc main_v19) ↦{half} V m 0 main_v19) ∗ (((c : Thread nD τ).loc main_v27) ↦{half} V m 0 main_v27)
      ∗ (((c : Thread nD τ).loc main_v36) ↦{half} V m 0 main_v36) ∗ (((c : Thread nD τ).loc main_v41) ↦{half} V m 0 main_v41)
      ∗ (((c : Thread nD τ).loc main_arg1) ↦{half} V m 0 main_arg1)) := by
  unfold Pipeline.ΦT Pipeline.prefHeld
  rw [bigSep_univ_eq_bigSepL [(0 : Fin 5), 1, 2, 3, 4] (by decide) (by decide)]
  rfl

theorem arrays_eq (c : Dev nD) (G : (b : Ref sig .tc) → Buf (Elt F) ((c : Thread nD τ).loc b)) :
    (bigSep H0 (fun b => (((c : Thread nD τ).loc b) ↦{fullShare} G b)) : sProp 𝕄)
      = iprop((((c : Thread nD τ).loc main_arg0) ↦{fullShare} G main_arg0) ∗ (((c : Thread nD τ).loc main_arg2) ↦{fullShare} G main_arg2)) := by
  unfold H0
  rw [BI.bigSep_insert (by decide), BI.bigSep_singleton]
  rfl

/-- The pipeline's data on device `c`: its one array as the launch finds it, its output's buffer after the body at the kernel's word. -/
def dats (_ : Fin 1) (c : Dev nD) : Pipeline.Dat τ (Elt F) Unit ℕ (Pipeline.UD sig nD τ) ℕ (cfg0 (adm m 0)) c where
  A w := V m c (Pipeline.arrRef spec0 w)
  after w t := match w with
    | ⟨0, _⟩ => fun _ => outW m c (hL c)
  Φ _ := Around m c
  q _ := fullShare
  owed _ := 0

theorem A_eq (c : Dev nD) (w : Fin (cfg0 (adm m 0)).W) : (dats m hL 0 c).A w = V m c (Pipeline.arrRef spec0 w) := by
  dsimp only [dats]
theorem after_eq (c : Dev nD) (t : Fin (cfg0 (adm m 0)).N) : (dats m hL 0 c).after 0 t = fun _ => outW m c (hL c) := rfl

/-- The kernel's point, from what the launch hands it back to the same with the output's word written. -/
theorem wp_point (c : Dev nD) (i : grid0.Coords) (d : outM.view.ty.Contents (Elt F)) (Q : PUnit → sProp 𝕄) :
    iprop(Around m c ∗ (∃ W, owes (c : Thread nD τ) 0 W) ∗ owns (c : Thread nD τ) outM fullShare d)
      ⊢ iprop(((Around m c ∗ (∃ W, owes (c : Thread nD τ) 0 W) ∗ owns (c : Thread nD τ) outM fullShare (fun _ => outW m c (hL c))) -∗ Q ⟨⟩)
          -∗ WP c (kernelP (F := F) i) Q) := by
  obtain rfl : c = 0 := Subsingleton.elim _ _
  have hsplit := own_frees (F := F) 0 (dat m 0 (hL 0))
  have hv := v41_eq m 0 (hL 0)
  have h64 := tot_le64 m 0 (hL 0)
  have hn : (BitVec.ofNat 32 (stN (len (lens m 0)) 8)).toNat = (dat m 0 (hL 0)).tot := by
    rw [BitVec.toNat_ofNat]; exact Nat.mod_eq_of_lt (by omega)
  have ho := outP_of (F := F) 0 d
  have hto := of_outP (F := F) 0 (outW m 0 (hL 0))
  have hend := fun r => out_end m 0 (hL 0) r _ hn
  unfold Around
  rw [Pipeline.ΦD_eq, scopedRest0_eq, tables_eq, arrays_eq, owns_whole]
  iintro ⟨⟨⟨⟨Hs0, Hs1, %fc, Hs2⟩, Hg, Hsem, Ha0, Ha2⟩, ⟨Hbs, Hjs, Htf, Htot, Hlen⟩⟩, HW, Hout⟩ Hk
  ihave Hfr := (show _ ⊢ _ from hsplit.1) $$ [Hs0 Hs1 Hsem Ha0 Ha2]
  · isplitl [Hs0]; · iexact Hs0
    isplitl [Hs1]; · iexact Hs1
    isplitl [Hsem]; · iexact Hsem
    isplitl [Ha0]; · iexact Ha0
    iexact Ha2
  icases Hfr with ⟨Hfr, Hk0, Hk2⟩
  iapply ((dat m 0 (hL 0)).wp_body (c := 0) i half _ _ hv hn (((carryM.access carryR).read (Elt F) fc)) _) $$ [Hbs Hjs Htf Htot Hlen Hfr Hout Hs2 HW]
  · isplitl [Htot]; · unfold Data.totP; iexact Htot
    isplitl [Hbs Hjs Htf Hlen]
    · unfold Data.tabs
      isplitl [Hbs]; · iexact Hbs
      isplitl [Hjs]; · iexact Hjs
      isplitl [Htf]; · iexact Htf
      iexact Hlen
    isplitl [Hfr]; · iexact Hfr
    isplitl [Hout]; · iapply ho; iexact Hout
    isplitl [Hs2]
    · unfold carryP
      iexists fc
      isplitl [Hs2]; · iexact Hs2
      ipureintro; rfl
    iexact HW
  rw [hend]
  iintro ⟨Htot, Htab, Hfr, Hout, ⟨%r', Hc⟩, HW⟩
  ihave Hout' := hto $$ Hout
  ihave Hfr' := (show _ ⊢ _ from hsplit.2) $$ [Hfr Hk0 Hk2]
  · isplitl [Hfr]; · iexact Hfr
    isplitl [Hk0]; · iexact Hk0
    iexact Hk2
  unfold Data.totP Data.tabs carryP
  icases Hfr' with ⟨Hs0, Hs1, Hsem, Ha0, Ha2⟩
  icases Htab with ⟨Hbs, Hjs, Htf, Hlen⟩
  icases Hc with ⟨%fc', Hs2, -⟩
  iapply Hk
  isplitr [HW Hout']
  · isplitr [Hbs Hjs Htf Htot Hlen]
    · isplitl [Hs0 Hs1 Hs2]
      · isplitl [Hs0]; · iexact Hs0
        isplitl [Hs1]; · iexact Hs1
        iexists fc'; iexact Hs2
      isplitl [Hg]; · iexact Hg
      isplitl [Hsem]; · iexact Hsem
      isplitl [Ha0]; · iexact Ha0
      iexact Ha2
    isplitl [Hbs]; · iexact Hbs
    isplitl [Hjs]; · iexact Hjs
    isplitl [Htf]; · iexact Htf
    isplitl [Htot]; · iexact Htot
    iexact Hlen
  isplitl [HW]; · iexact HW
  iexact Hout'

theorem defs₀_row (t : Fin (cfg0 (adm m 0)).N) :
    defs₀ (F := F) .tc (cfg0 (adm m 0)).body ((cfg0 (adm m 0)).bodyArgs t ((cfg0 (adm m 0)).slots t)) = kernelP (F := F) (grid0.coords t) := by
  unfold defs₀; rw [Defs.onTc_tc]
  have h : ∀ x : Fin 1, cc0__loss_kernel (grid0.coords t) (Memref.whole main_v19) (Memref.isWhole_whole _) (Memref.whole main_v27) (Memref.isWhole_whole _) (Memref.whole main_v36) (Memref.isWhole_whole _) (Memref.whole main_v41) (Memref.isWhole_whole _) (Memref.whole main_arg1) (Memref.isWhole_whole _) (Memref.whole main_arg0) (Memref.isWhole_whole _) (Memref.whole main_arg2) (Memref.isWhole_whole _) (spec0_0.stage x) (hstage0_0 x) (Memref.whole cc0_scratch0) (Memref.isWhole_whole _) (Memref.whole cc0_scratch1) (Memref.isWhole_whole _) (Memref.whole cc0_scratch2) (Memref.isWhole_whole _) cc0_scratch3 = kernelP (F := F) (grid0.coords t) := fun x => by
    obtain rfl : x = 0 := Subsingleton.elim _ _
    rfl
  exact h _

/-- The output's buffer at a point, which is the one it has. -/
abbrev ms (t : Fin (cfg0 (adm m 0)).N) : Memref sig .tc .smem S1x1 .f32 := spec0_0.stage ((cfg0 (adm m 0)).slots t 0)
theorem ms_eq (t : Fin (cfg0 (adm m 0)).N) : ms m t = outM := by
  have h : ∀ x : Fin 1, spec0_0.stage x = outM := fun x => by
    obtain rfl : x = 0 := Subsingleton.elim _ _
    rfl
  exact h _

theorem sound_body (c : Dev nD) (t : Fin (cfg0 (adm m 0)).N) :
    iprop((dats m hL 0 c).Φ t.castSucc ∗ (dats m hL 0 c).owesAt () t.castSucc ∗ (∃ d, owns (c : Thread nD τ) (ms m t) fullShare ((dats m hL 0 c).before 0 t d)))
      ⊢ WP c (kernelP (F := F) (grid0.coords t)) (fun _ => iprop((dats m hL 0 c).Φ t.succ ∗ (dats m hL 0 c).owesAt () t.succ
          ∗ owns (c : Thread nD τ) (ms m t) fullShare ((dats m hL 0 c).after 0 t))) := by
  rw [show (dats m hL 0 c).Φ t.succ = Around m c from rfl, show (dats m hL 0 c).Φ t.castSucc = Around m c from rfl, after_eq, ms_eq]
  unfold Pipeline.Dat.owesAt Pipeline.owesWithin
  rw [show (dats m hL 0 c).owed t.castSucc = 0 from rfl, show (dats m hL 0 c).owed t.succ = 0 from rfl]
  iintro ⟨HA, ⟨%W, -, HW⟩, ⟨%d, Ho⟩⟩
  iapply (wp_point m hL c (grid0.coords t) _ _) $$ [HA HW Ho]
  · isplitl [HA]; · iexact HA
    isplitl [HW]; · iexists W; iexact HW
    iexact Ho
  iintro ⟨HA, ⟨%W', HW⟩, Ho⟩
  isplitl [HA]; · iexact HA
  isplitl [HW]
  · iexists W'; isplitr; · ipureintro; exact fun _ _ => Or.inl trivial
    iexact HW
  iexact Ho

theorem body_obligation (c : Dev nD) : Pipeline.BodyObligation (dats (F := F) m hL 0 c) (defs₀ (F := F)) Variants.none () Set.univ := fun t => by
  rw [bigSep_W0, bigSep_W0, defs₀_row]
  exact triple_restated (sound_body m hL c t) rfl .rfl fun _ => .rfl

/-! ## The run -/

/-- What the host's two last lines make of the kernel's word. -/
theorem tail_v44 (X : Vals F) : StableHlo.after hostOps1 X (Proc.devRef .tc main_v44)
    = Host.divf (shapeCast S_ (X (Proc.devRef .tc main_v42)) shapeCasts_S1x1_S_ : FVec F S_ .f32) (X (Proc.devRef .tc main_v40)) := by
  after_results_simp; rfl
theorem tail_keep (X : Vals F) (b : Ref sig .tc) (h : b = main_arg0 ∨ b = main_arg1 ∨ b = main_arg2) :
    StableHlo.after hostOps1 X (Proc.devRef .tc b) = X (Proc.devRef .tc b) := by
  rcases h with rfl | rfl | rfl <;> after_results_simp

/-- The result of the program: the kernel's word over the count of rows. -/
def result (c : Dev nD) : FVec F S_ .f32 := Host.divf (fun _ => outW m c (hL c)) (sitofp .f32 (Tables.cnt (lens m c)))

theorem arr_end (c : Dev nD) : (dats m hL 0 c).arrAt 0 (cfg0 (adm m 0)).N = fun _ => outW m c (hL c) := by
  refine (dats m hL 0 c).arrAt_eq_of_after_last 0 t0_0 ⟨rfl, fun t _ => Subsingleton.elim (α := Fin 1) t t0_0, fun a => ⟨by fin_cases a <;> rfl, by fin_cases a <;> rfl⟩⟩ _ fun j => ?_
  rfl

theorem hmain : Pipeline.HMainPK (Ix := Unit) (Name := ℕ) (U := Pipeline.UD sig nD τ) (Lvl := ℕ) (pcfgs (F := F)) 0 defs₀ Variants.none m main
    (fun c b => V m c b) (fun _ => Pipeline.chain ([hostOps1 (F := F)].map StableHlo.seq)) := by
  have h := Pipeline.hmainP_around (Ix := Unit) (Name := ℕ) (U := Pipeline.UD sig nD τ) (Lvl := ℕ) (pcfgs (F := F)) 0 defs₀ Variants.none m (main (F := F))
    (preOps (F := F)) [hostOps1 (F := F)]
    ⟨hostOps0_sub, hostOps0_1_sub, hostOps0_2_sub, hostOps0_3_sub, hostOps0_4_sub, hostOps0_5_sub, hostOps0_6_sub⟩
    ⟨StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl⟩
    (fun c => main_chain c)
  unfold V V₀
  exact h

theorem tail_sub : ∀ ops ∈ [hostOps1 (F := F)], ∀ op ∈ ops, op.bufs ⊆ Pipeline.tailRefsBut (τ := τ) sig pre0 spec0 H0 := by
  intro ops ho op hop
  obtain rfl := List.mem_singleton.mp ho
  refine Pipeline.sub_tailRefsBut pre0 spec0 H0 op (List.forall_iff_forall_mem.mp hostOps1_sub op hop) ?_ ?_
  · rcases List.mem_pair.mp hop with rfl | rfl
    · show ∀ k, Proc.devRef .tc (pre0.ref k) ∉ ({Proc.devRef .tc main_v42, Proc.devRef .tc main_v43} : Finset (DevRef τ sig)); decide
    · show ∀ k, Proc.devRef .tc (pre0.ref k) ∉ ({Proc.devRef .tc main_v43, Proc.devRef .tc main_v40, Proc.devRef .tc main_v44} : Finset (DevRef τ sig)); decide
  · rcases List.mem_pair.mp hop with rfl | rfl
    · show ∀ b ∈ H0, Proc.devRef .tc b ∉ ({Proc.devRef .tc main_v42, Proc.devRef .tc main_v43} : Finset (DevRef τ sig)); decide
    · show ∀ b ∈ H0, Proc.devRef .tc b ∉ ({Proc.devRef .tc main_v43, Proc.devRef .tc main_v40, Proc.devRef .tc main_v44} : Finset (DevRef τ sig)); decide

theorem tail_fresh : ∀ ops ∈ [hostOps1 (F := F)], ∀ op ∈ ops, op.fresh = ∅ := by
  intro ops ho op hop
  obtain rfl := List.mem_singleton.mp ho
  rcases List.mem_pair.mp hop with rfl | rfl <;> rfl

theorem tail_writes : ∀ ops ∈ [hostOps1 (F := F)], ∀ op ∈ ops, ∀ w, Proc.devRef .tc (Pipeline.arrRef spec0 w) ∉ op.writes := by
  intro ops ho op hop
  obtain rfl := List.mem_singleton.mp ho
  rcases List.mem_pair.mp hop with rfl | rfl
  · show ∀ w, Proc.devRef .tc (Pipeline.arrRef spec0 w) ∉ ({Proc.devRef .tc main_v43} : Finset (DevRef τ sig)); decide
  · show ∀ w, Proc.devRef .tc (Pipeline.arrRef spec0 w) ∉ ({Proc.devRef .tc main_v44} : Finset (DevRef τ sig)); decide

/-- The buffers of device `c` as the kernel leaves them. -/
def exitV (c : Dev nD) : Vals F := Pipeline.withArrays spec0 c (V₀ m c) (fun w => (dats m hL 0 c).arrAt w (cfg0 (adm m 0)).N)

theorem exitV_of_ne (c : Dev nD) (b : Ref sig .tc) (hb : ∀ w, Pipeline.arrRef spec0 w ≠ b) :
    exitV m hL c (Proc.devRef .tc b) = V₀ m c (Proc.devRef .tc b) := Pipeline.withArrays_of_ne spec0 c _ _ b hb

theorem exitV_v42 (c : Dev nD) : exitV m hL c (Proc.devRef .tc main_v42) = fun _ => outW m c (hL c) :=
  (Pipeline.withArrays_arr spec0 (launch0 (F := F)).win.arr_inj c (V₀ m c) (fun w => (dats m hL 0 c).arrAt w (cfg0 (adm m 0)).N) 0).trans (arr_end m hL c)

/-- What the host's last lines leave in a buffer. -/
def endVal (c : Dev nD) (b : Ref sig .tc) : Buf (Elt F) ((c : Thread nD τ).loc b) :=
  StableHlo.after hostOps1 (exitV m hL c) (Proc.devRef .tc b)

theorem endVal_arg (c : Dev nD) (b : Ref sig .tc) (h : b = main_arg0 ∨ b = main_arg1 ∨ b = main_arg2) :
    endVal m hL c b = m ((c : Thread nD τ).loc b) := by
  unfold endVal
  rw [tail_keep _ b h, exitV_of_ne m hL c b (by rcases h with rfl | rfl | rfl <;> decide)]
  exact V₀_arg m c b h

theorem endVal_v44 (c : Dev nD) : endVal m hL c main_v44 = result m hL c := by
  unfold endVal
  rw [tail_v44, exitV_v42, exitV_of_ne m hL c main_v40 (by decide), V₀_v40]
  rfl

set_option backward.isDefEq.respectTransparency.types false in
/-- The run of the whole program: every buffer at its last value, no semaphore left raised. -/
theorem run_main (g : Dev nD → PrngReg) : θ_run defs (onTc (τ := τ) (main (F := F))) ⟨m, fun _ => 0, g⟩
    (fun r => Pipeline.FramePost (Pipeline.pin (pcfgs (F := F)) (adm m)) (dats m hL) 0 (endVal m hL) r ∧ r.2.sem = fun _ => 0) :=
  Pipeline.θ_run_frameP_dma_around (Q' := _) pcfgs (adm m) (dats m hL) (0 : Fin 1) launch0 osem defs₀ Variants.none ownSemFacts H0 H0_sub m g main
    (hbody := fun c => (body_obligation m hL c).loose) (hshare := fun c => (dats m hL 0 c).share_full fun _ => rfl)
    (howed := fun _ _ => rfl) (V₀ := V₀ m) (opss := [hostOps1]) (hsub := tail_sub) (hfresh := tail_fresh) (hkeep := tail_writes)
    (hmain := hmain m) (hA := A_eq m hL) (hpf := fun c _ => by obtain rfl : c = 0 := Subsingleton.elim _ _; rfl)
    (hin := fun _ => .rfl) (hout := fun c => by
      show Around m c ⊢ _
      unfold Around; iintro ⟨H, -⟩; iexact H)
    (hQ' := fun _ h => h)

/-- The program's run: the arguments kept, the result `result`, no semaphore left raised. -/
theorem run_result (g : Dev nD → PrngReg) : θ_run defs (onTc (τ := τ) (main (F := F))) ⟨m, fun _ => 0, g⟩
    (fun r => (∀ c : Dev nD, r.2.mem ((c.tc : Thread nD τ).loc main_v44) = result m hL c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  θ_run_mono (h := run_main m hL g) fun r h => ⟨fun c =>
    ⟨((h.1 c).2 main_v44 (show _ ∈ Pipeline.restRefs sig spec0 from by decide)).trans (endVal_v44 m hL c),
      ((h.1 c).2 main_arg0 (show _ ∈ Pipeline.restRefs sig spec0 from by decide)).trans (endVal_arg m hL c _ (.inl rfl)),
      ((h.1 c).2 main_arg1 (show _ ∈ Pipeline.restRefs sig spec0 from by decide)).trans (endVal_arg m hL c _ (.inr (.inl rfl))),
      ((h.1 c).2 main_arg2 (show _ ∈ Pipeline.restRefs sig spec0 from by decide)).trans (endVal_arg m hL c _ (.inr (.inr rfl)))⟩, h.2⟩

end Cert.Proof.KI
-- ==== Proof.KI.Pay.lean ====
/-
  The kernel's payloads over the extended reals, read at an index.
-/
module

public import proofs.«01_k».proof.Proof.Rows
public import proofs.«01_k».proof.Proof.Gen.KernelIdeal.Skeleton
public import Idealize.ShloMosaic.Lib.Pointwise
public import Idealize.ShloMosaic.Lib.Affine
public import Idealize.ShloMosaic.PureOps.IdealRules

@[expose] public section

set_option maxRecDepth 16384

noncomputable section

namespace Cert.Proof.KI

open Cert.KernelIdeal Cert.KernelIdeal.Gen
open Idealize.ShloMosaic

theorem smooth_eq : Named.named (F := Ideal) (φ := .f32) κ "smooth" (0x3727C9F8#32 : BitVec FTy.f32.bits) = ((1 / 99990 : ℝ) : EReal) :=
  IdealRules.named_const.ideal_named_scalar κ "smooth" _ _ rfl
theorem rest_eq : Named.named (F := Ideal) (φ := .f32) κ "confidence_minus_smooth" (0x3F6665BF#32 : BitVec FTy.f32.bits) = ((8999 / 9999 : ℝ) : EReal) :=
  IdealRules.named_const.ideal_named_scalar κ "confidence_minus_smooth" _ _ rfl

/-- Row `r` of a block of text, one number a class. -/
abbrev row (T : Vec Ideal S1x64x10000 .f32) (r : Fin 64) : Fin 10000 → EReal := fun v => T (ix3 0 r v)

theorem pay1_at (T : Vec Ideal S1x64x10000 .f32) (r : Fin 64) (v : Fin 10000) : k0_pay1 (F := Ideal) T (ix2 r v) = T (ix3 0 r v) := by
  pointwise [k0_pay1]
theorem pay2_at (T : Vec Ideal S1x64x10000 .f32) (r : Fin 64) (z : Fin 1) :
    k0_pay2 (F := Ideal) T (ix2 r z) = Finset.univ.fold max ⊥ (row T r) := by
  pointwise [k0_pay2, k0_pay1]
  rw [Rows.ofBits_neg_inf]
/-- The carried row is the block's last. -/
theorem pay5_at (X : Vec Ideal S1x64x10000 .f32) (z : Fin 1) (v : Fin 10000) : k0_pay5 (F := Ideal) (k0_pay41 X) (ix2 z v) = X (ix3 0 63 v) := by
  pointwise [k0_pay5, k0_pay41]
/-- The carried row's loss is added to the output. -/
theorem pay3_at (T : Vec Ideal S1x64x10000 .f32) (C : Vec Ideal S1x10000 .f32) (o : EReal) (x : Fin 10000 → ℝ) (k : Fin 10000)
    (hT : Rows.Only (row T 0) k) (hC : ∀ v, C (ix2 0 v) = (x v : EReal)) :
    k0_pay3 (F := Ideal) T C o = o + (Rows.loss (n := 9999) x k : EReal) := by
  pointwise [k0_pay3, smooth_eq, rest_eq, pay1_at, pay2_at]
  simp only [hC, Finset.univ_unique, Finset.sum_singleton]
  have e : ∀ y : EReal, Scalar.log (F := Ideal) (φ := .f32) y = Ideal.log y := fun _ => rfl
  rw [e, ← Rows.kernel_row (n := 9999) x _ k hT]
/-- Row `r` of a block's first 63: its loss, against the next text row. -/
theorem pay42_at (T : Vec Ideal S1x64x10000 .f32) (X : Vec Ideal S1x64x10000 .f32) (r : Fin 63) (z : Fin 1) (x : Fin 10000 → ℝ) (k : Fin 10000)
    (hT : Rows.Only (row T ⟨1 + r.val, by have := r.isLt; omega⟩) k) (hX : ∀ v, X (ix3 0 ⟨r.val, by have := r.isLt; omega⟩ v) = (x v : EReal)) :
    k0_pay42 (F := Ideal) (k0_pay1 T) (k0_pay2 T) X (ix2 r z) = (Rows.loss (n := 9999) x k : EReal) := by
  pointwise [k0_pay42, k0_pay41, smooth_eq, rest_eq, pay1_at, pay2_at]
  simp only [hX]
  exact Rows.kernel_row (n := 9999) x _ k hT
/-- The mask of a block's row: whether it is no further than the batch's last. -/
theorem pay43_at (l a : ℕ) (hl : l < 1000) (ha : a < 1000) (r : Fin 63) (z : Fin 1) :
    k0_pay43 (F := Ideal) (BitVec.ofNat 32 l) (BitVec.ofNat 32 a) (ix2 r z) = if a + r.val ≤ l then 1 else 0 := by
  pointwise [k0_pay43]
  have hr := r.isLt
  have e : IntOp.cmpi .sle (IntOp.addi (BitVec.ofNat 32 a) (BitVec.ofNat 32 r.val)) (BitVec.ofNat 32 l) = 1#1 ↔ a + r.val ≤ l := by
    rw [IntOp.cmpi_sle, show IntOp.addi (BitVec.ofNat 32 a) (BitVec.ofNat 32 r.val) = BitVec.ofNat 32 (a + r.val) from (BitVec.ofNat_add _ _).symm,
      BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact Int.ofNat_le
  generalize IntOp.cmpi .sle (IntOp.addi (BitVec.ofNat 32 a) (BitVec.ofNat 32 r.val)) (BitVec.ofNat 32 l) = w at e
  show (((BitVec.setWidth 32 w).toInt : ℝ) : EReal) = _
  rcases BitVec.eq_zero_or_eq_one w with rfl | rfl
  · rw [if_neg (fun h => absurd (e.mpr h) (by decide))]; simp
  · rw [if_pos (e.mp rfl)]; simp
/-- The masked losses of a block are added to the output. -/
theorem pay4_at (a b : FVec Ideal S63x1 .f32) (o : EReal) : k0_pay4 (F := Ideal) a o b = o + ∑ r : Fin 63, a (ix2 r 0) * b (ix2 r 0) := by
  pointwise [k0_pay4]
  simp only [Finset.univ_unique, Finset.sum_singleton]

end Cert.Proof.KI
-- ==== Proof.KI.Value.lean ====
/-
  What the kernel leaves: over the extended reals, where every training entry is a real and each text row that is used has
  one largest class, the output word is the sum over the batches of the losses of their rows up to the length.
-/
module

public import proofs.«01_k».proof.Proof.KI.Run
public import proofs.«01_k».proof.Proof.KI.Pay

@[expose] public section

set_option maxRecDepth 16384

noncomputable section

namespace Cert.Proof.KI

open Cert.KernelIdeal Cert.KernelIdeal.Gen
open Idealize.ShloMosaic Idealize.ShloMosaic.TcCoe
open Cert.Proof.Tables

/-- A block of text read at a row and a class. -/
theorem tblk_at {F : FTy → Type} [FloatOps F] [Named F] (XT : textM.view.ty.Contents (Elt F)) (o : Fin 3 → ℕ) (h) (b a : ℕ) (ho : o = ![b, a, 0]) (r : Fin 64) (v : Fin 10000) (hb : b < 8) (ha : a + r.val < 513) :
    tblk XT o h (ix3 0 r v) = XT (ix3 (⟨b, hb⟩ : Fin 8) (⟨a + r.val, ha⟩ : Fin 513) v) := by
  subst ho
  refine congrArg XT ?_
  funext x
  fin_cases x <;> refine Fin.ext ?_
  · show b + 1 * (0 : Fin 1).val = b; simp
  · show a + 1 * r.val = a + r.val; omega
  · show 0 + 1 * v.val = v.val; omega
/-- A block of training rows read at a row and a class. -/
theorem xblk_at {F : FTy → Type} [FloatOps F] [Named F] (XX : trainM.view.ty.Contents (Elt F)) (o : Fin 3 → ℕ) (h) (b a : ℕ) (ho : o = ![b, a, 0]) (r : Fin 64) (v : Fin 10000) (hb : b < 8) (ha : a + r.val < 512) :
    xblk XX o h (ix3 0 r v) = XX (ix3 (⟨b, hb⟩ : Fin 8) (⟨a + r.val, ha⟩ : Fin 512) v) := by
  subst ho
  refine congrArg XX ?_
  funext x
  fin_cases x <;> refine Fin.ext ?_
  · show b + 1 * (0 : Fin 1).val = b; simp
  · show a + 1 * r.val = a + r.val; omega
  · show 0 + 1 * v.val = v.val; omega

theorem blk_off (b j : ℕ) (hb : b < 8) (hj : j < 8) :
    k0_off10 (BitVec.ofNat 32 b) (BitVec.ofNat 32 j) = ![b, 64 * j, 0] ∧ k0_off12 (BitVec.ofNat 32 b) (BitVec.ofNat 32 j) = ![b, 64 * j, 0] := by
  interval_cases b <;> interval_cases j <;> exact ⟨rfl, rfl⟩
theorem carried (j : ℕ) (hj : j < 8) :
    Scalar.cmpi .ne (Scalar.extui (Scalar.cmpi .sgt (BitVec.ofNat 32 j) 0#32)) (0#32 : BitVec 32) = 1#1 ↔ 0 < j := by
  interval_cases j <;> decide

attribute [local irreducible] V₀

section
variable (m : (ℓ : Loc nD τ sig) → Buf (Elt Ideal) ℓ) (c : Dev nD) (hL : Short m c)
abbrev textA : S8x513x10000.Idx → EReal := m (c, Proc.devRef .tc main_arg0)
abbrev trainA : S8x512x10000.Idx → EReal := m (c, Proc.devRef .tc main_arg2)
/-- The lengths as numbers; a stage's batch, and its block in it. -/
abbrev ln : ℕ → ℕ := len (lens m c)
abbrev bt (k : ℕ) : ℕ := bsN (ln m c) k
abbrev bk (k : ℕ) : ℕ := k - stN (ln m c) (bt m c k)

variable (x : ℕ → ℕ → Fin 10000 → ℝ) (tg : ℕ → ℕ → Fin 10000)
/-- The training entries of the rows up to the lengths are the reals `x`. -/
abbrev Reals : Prop := ∀ (b : Fin 8) (t : Fin 512), t.val ≤ ln m c b.val → ∀ v : Fin 10000, trainA m c (ix3 b t v) = (x b.val t.val v : EReal)
/-- The text row after a row `t` up to the length has its largest entry at class `tg b t` alone. -/
abbrev Targets : Prop := ∀ (b : Fin 8) (t : Fin 512), t.val ≤ ln m c b.val → Rows.Only (fun v => textA m c (ix3 b (⟨t.val + 1, by have := t.isLt; omega⟩ : Fin 513) v)) (tg b.val t.val)
/-- The loss of row `t` of batch `b`. -/
def lossAt (b t : ℕ) : ℝ := Rows.loss (n := 9999) (x b t) (tg b t)

include hL in
theorem bk_lt (k : ℕ) (hk : k < stN (ln m c) 8) : bk m c k < 8 :=
  lt_of_lt_of_le (Tables.lt_nbN _ k hk) (Tables.nbN_le _ (Tables.len_le _ hL) _)

theorem tb_at (k : ℕ) (hk : k < (dat m c hL).tot) (r : Fin 64) (v : Fin 10000) :
    (dat m c hL).tb k hk (ix3 0 r v) = textA m c (ix3 (⟨bt m c k, Tables.bsN_lt _ _⟩ : Fin 8)
      (⟨64 * bk m c k + r.val, by have := bk_lt m c hL k hk; have := r.isLt; omega⟩ : Fin 513) v) := by
  have h64 : stN (ln m c) 8 ≤ 64 := tot_le64 m c hL
  have hk' : k < stN (ln m c) 8 := hk
  have hb : (dat m c hL).bw k = BitVec.ofNat 32 (bt m c k) := bw_eq m c hL k (by omega)
  have hj : (dat m c hL).jw k = BitVec.ofNat 32 (bk m c k) := jw_eq m c hL k (by omega) hk
  unfold Data.tb
  rw [tblk_at _ _ _ (bt m c k) (64 * bk m c k) (by rw [hb, hj]; exact (blk_off _ _ (Tables.bsN_lt _ _) (bk_lt m c hL k hk)).1) r v
    (Tables.bsN_lt _ _) (by have := bk_lt m c hL k hk; have := r.isLt; omega)]
  exact congrFun (V₀_arg m c main_arg0 (by tauto)) _
theorem xb_at (k : ℕ) (hk : k < (dat m c hL).tot) (r : Fin 64) (v : Fin 10000) :
    (dat m c hL).xb k hk (ix3 0 r v) = trainA m c (ix3 (⟨bt m c k, Tables.bsN_lt _ _⟩ : Fin 8)
      (⟨64 * bk m c k + r.val, by have := bk_lt m c hL k hk; have := r.isLt; omega⟩ : Fin 512) v) := by
  have h64 : stN (ln m c) 8 ≤ 64 := tot_le64 m c hL
  have hk' : k < stN (ln m c) 8 := hk
  have hb : (dat m c hL).bw k = BitVec.ofNat 32 (bt m c k) := bw_eq m c hL k (by omega)
  have hj : (dat m c hL).jw k = BitVec.ofNat 32 (bk m c k) := jw_eq m c hL k (by omega) hk
  unfold Data.xb
  rw [xblk_at _ _ _ (bt m c k) (64 * bk m c k) (by rw [hb, hj]; exact (blk_off _ _ (Tables.bsN_lt _ _) (bk_lt m c hL k hk)).2) r v
    (Tables.bsN_lt _ _) (by have := bk_lt m c hL k hk; have := r.isLt; omega)]
  exact congrFun (V₀_arg m c main_arg2 (by tauto)) _

variable (hx : Reals m c x) (hT : Targets m c tg)
include hx hT

/-- The output word after the carried row. -/
theorem useCarry_val (k : ℕ) (hk : k < (dat m c hL).tot) (p : EReal × Vec Ideal S1x10000 .f32) (o : ℝ) (hp : p.1 = (o : EReal))
    (hc : 0 < bk m c k → ∀ v, p.2 (ix2 0 v) = (x (bt m c k) (64 * bk m c k - 1) v : EReal)) :
    (dat m c hL).useCarry k hk p = ((o + (if 0 < bk m c k then lossAt x tg (bt m c k) (64 * bk m c k - 1) else 0) : ℝ) : EReal) := by
  have h64 : stN (ln m c) 8 ≤ 64 := tot_le64 m c hL
  have hk' : k < stN (ln m c) 8 := hk
  have h8 := bk_lt m c hL k hk
  have hj : (dat m c hL).jw k = BitVec.ofNat 32 (bk m c k) := jw_eq m c hL k (by omega) hk
  unfold Data.useCarry
  rw [hj]
  by_cases h0 : 0 < bk m c k
  · rw [if_pos ((carried _ h8).mpr h0), if_pos h0, EReal.coe_add,
      pay3_at _ _ _ (x (bt m c k) (64 * bk m c k - 1)) (tg (bt m c k) (64 * bk m c k - 1)) ?_ (hc h0), hp]
    · rfl
    · have e : row ((dat m c hL).tb k hk) 0 = fun v => textA m c (ix3 (⟨bt m c k, Tables.bsN_lt _ _⟩ : Fin 8)
          (⟨(64 * bk m c k - 1) + 1, by omega⟩ : Fin 513) v) := by
        funext v
        rw [row, tb_at m c hL k hk 0 v]
        congr 2
        exact Fin.ext (show 64 * bk m c k + 0 = (64 * bk m c k - 1) + 1 by omega)
      rw [e]
      exact hT ⟨bt m c k, Tables.bsN_lt _ _⟩ ⟨64 * bk m c k - 1, by omega⟩ (show 64 * bk m c k - 1 ≤ ln m c (bt m c k) by
        have : bk m c k < (ln m c (bt m c k) + 1) / 64 + 1 := Tables.lt_nbN _ k hk
        omega)
  · rw [if_neg (fun h => h0 ((carried _ h8).mp h)), if_neg h0, add_zero, hp]

/-- What one stage adds to the output word, and the row it carries on. -/
theorem step_val (k : ℕ) (hk : k < (dat m c hL).tot) (p : EReal × Vec Ideal S1x10000 .f32) (o : ℝ) (hp : p.1 = (o : EReal))
    (hc : 0 < bk m c k → ∀ v, p.2 (ix2 0 v) = (x (bt m c k) (64 * bk m c k - 1) v : EReal)) :
    ((dat m c hL).step k p).1 = ((o + Rows.part (lossAt x tg (bt m c k)) (ln m c (bt m c k) + 1) (bk m c k) : ℝ) : EReal)
      ∧ (64 * bk m c k + 63 ≤ ln m c (bt m c k) → ∀ v, ((dat m c hL).step k p).2 (ix2 0 v) = (x (bt m c k) (64 * bk m c k + 63) v : EReal)) := by
  have h64 : stN (ln m c) 8 ≤ 64 := tot_le64 m c hL
  have hk' : k < stN (ln m c) 8 := hk
  have h8 := bk_lt m c hL k hk
  have hb8 : bt m c k < 8 := Tables.bsN_lt _ _
  have hb : (dat m c hL).bw k = BitVec.ofNat 32 (bt m c k) := bw_eq m c hL k (by omega)
  have hj : (dat m c hL).jw k = BitVec.ofNat 32 (bk m c k) := jw_eq m c hL k (by omega) hk
  have ht : (dat m c hL).tw k = if bk m c k ≤ ln m c (bt m c k) / 64 then 1#32 else 0#32 := tw_eq m c hL k (by omega) hk
  have hl : ln m c (bt m c k) ≤ 510 := Tables.len_le _ hL _
  have hu := useCarry_val m c hL x tg hx hT k hk p o hp hc
  unfold Data.step
  rw [dif_pos hk, ht]
  by_cases h : bk m c k ≤ ln m c (bt m c k) / 64
  · rw [if_pos h, if_pos rfl]
    refine ⟨?_, fun hf v => ?_⟩
    · dsimp only
      rw [pay4_at, hu, Rows.part, ← add_assoc]
      refine Eq.trans ?_ (EReal.coe_add _ _).symm
      refine congrArg₂ (· + ·) rfl ?_
      rw [← Rows.coe_sum, Finset.sum_range]
      refine Finset.sum_congr rfl fun r _ => ?_
      have hr := r.isLt
      have e : row ((dat m c hL).tb k hk) ⟨1 + r.val, by omega⟩ = fun v => textA m c (ix3 (⟨bt m c k, Tables.bsN_lt _ _⟩ : Fin 8)
          (⟨(64 * bk m c k + r.val) + 1, by omega⟩ : Fin 513) v) := by
        funext v
        rw [row, tb_at m c hL k hk _ v]
        congr 2
        exact Fin.ext (show 64 * bk m c k + (1 + r.val) = (64 * bk m c k + r.val) + 1 by omega)
      have eL : (dat m c hL).LEN (at8 ((dat m c hL).bw k).toNat) = BitVec.ofNat 32 (ln m c (bt m c k)) := by
        rw [hb, BitVec.toNat_ofNat, Nat.mod_eq_of_lt (by omega), at8_eq _ hb8]
        exact (congrFun (V₀_arg m c main_arg1 (by tauto)) _).trans (Tables.len_at (lens m c) ⟨bt m c k, hb8⟩)
      have eB : Scalar.muli ((dat m c hL).jw k) 64#32 = BitVec.ofNat 32 (64 * bk m c k) := by
        rw [hj, Nat.mul_comm]; exact (BitVec.ofNat_mul _ _).symm
      rw [eL, eB, pay43_at _ _ (by omega) (by omega)]
      by_cases hle : 64 * bk m c k + r.val ≤ ln m c (bt m c k)
      · rw [pay42_at _ _ r 0 (x (bt m c k) (64 * bk m c k + r.val)) (tg (bt m c k) (64 * bk m c k + r.val))
          (by rw [e]; exact hT ⟨bt m c k, Tables.bsN_lt _ _⟩ ⟨64 * bk m c k + r.val, by omega⟩ hle)
          (fun v => (xb_at m c hL k hk _ v).trans (hx ⟨bt m c k, Tables.bsN_lt _ _⟩ ⟨64 * bk m c k + r.val, by omega⟩ hle v))]
        rw [if_pos hle, if_pos (by omega), mul_one]; rfl
      · rw [if_neg hle, if_neg (by omega), mul_zero]; rfl
    · dsimp only
      rw [pay5_at, xb_at m c hL k hk 63 v]
      exact hx ⟨bt m c k, Tables.bsN_lt _ _⟩ ⟨64 * bk m c k + 63, by omega⟩ hf v
  · rw [if_neg h, if_neg (by decide)]
    refine ⟨?_, fun h' => absurd (by omega) h⟩
    show (dat m c hL).useCarry k hk p = _
    rw [hu, Rows.part, Finset.sum_eq_zero (fun r _ => if_neg (by omega)), add_zero]

/-- The state before stage `k`. -/
theorem run_val (k : ℕ) (hk : k ≤ (dat m c hL).tot) :
    ((dat m c hL).run start0 k).1 = ((∑ i ∈ Finset.range k, Rows.part (lossAt x tg (bt m c i)) (ln m c (bt m c i) + 1) (bk m c i) : ℝ) : EReal)
      ∧ (k < (dat m c hL).tot → 0 < bk m c k → ∀ v, ((dat m c hL).run start0 k).2 (ix2 0 v) = (x (bt m c k) (64 * bk m c k - 1) v : EReal)) := by
  induction k with
  | zero =>
    refine ⟨?_, fun _ h => absurd h (by simp)⟩
    show Ideal.ofBits .f32 0x00000000#32 = _
    simp
  | succ k ih =>
    obtain ⟨h1, h2⟩ := ih (by omega)
    obtain ⟨s1, s2⟩ := step_val m c hL x tg hx hT k (by omega) _ _ h1 (h2 (by omega))
    refine ⟨?_, fun hk1 h0 v => ?_⟩
    · rw [Finset.sum_range_succ]; exact s1
    · obtain ⟨b, j, hb, hj, e⟩ := Tables.exists_stage (ln m c) 8 (k + 1) hk1
      have eb : bt m c (k + 1) = b := by unfold bt; rw [e, Tables.bsN_at _ _ _ hb hj]
      have ej : bk m c (k + 1) = j := by unfold bk; rw [eb]; omega
      rw [ej] at h0
      have ek : k = stN (ln m c) b + (j - 1) := by omega
      have eb' : bt m c k = b := by unfold bt; rw [ek, Tables.bsN_at _ _ _ hb (by omega)]
      have ej' : bk m c k = j - 1 := by unfold bk; rw [eb']; omega
      have hn : j < (ln m c b + 1) / 64 + 1 := hj
      have := s2 (by rw [eb', ej']; omega) v
      rw [eb', ej', show 64 * (j - 1) + 63 = 64 * j - 1 by omega] at this
      rw [eb, ej]
      exact this

/-- The output word is the sum of the losses of the batches' rows up to their lengths. -/
theorem outW_val : outW m c hL = ((∑ b ∈ Finset.range 8, ∑ t ∈ Finset.range (ln m c b + 1), lossAt x tg b t : ℝ) : EReal) := by
  unfold outW
  rw [(run_val m c hL x tg hx hT _ le_rfl).1]
  refine congrArg _ ?_
  refine (Tables.sum_stages (ln m c) (fun b j => Rows.part (lossAt x tg b) (ln m c b + 1) j) 8 le_rfl).trans ?_
  exact Finset.sum_congr rfl fun b _ => Rows.sum_parts _ _

end

end Cert.Proof.KI
-- ==== Proof.Equal.lean ====
/-
  Where the precondition holds, the idealized kernel's result is the reference's.
-/
module

public import proofs.«01_k».proof.Proof.Okay
public import proofs.«01_k».proof.Proof.Ref
public import proofs.«01_k».proof.Proof.KI.Launch
public import proofs.«01_k».proof.Proof.KI.Value

@[expose] public section

set_option maxRecDepth 16384

noncomputable section

namespace Cert.Proof

open Idealize.ShloMosaic Idealize.ShloMosaic.TcCoe Cert.KernelIdeal

/-- The mean the kernel takes: its output word over the number of rows up to the lengths. -/
theorem kernel_mean (w : EReal) (k : IVec S_ 32) (N : ℕ) (hN : N < 2 ^ 31) (hk : ∀ j, k j = BitVec.ofNat 32 N) (j : S_.Idx) :
    (Host.divf (fun _ => w) (sitofp .f32 k) : FVec Ideal S_ .f32) j = Ideal.div w ((N : ℝ) : EReal) := by
  have e : (k j).toInt = N := by rw [hk, StableHlo.Predicate.toInt_ofNat_small _ hN]
  show Ideal.div w (((k j).toInt : ℝ) : EReal) = _
  rw [e, Int.cast_natCast]

variable (m : (ℓ : Loc nD τ sig) → Buf (Elt Ideal) ℓ) (hL : ∀ c, KI.Short m c) (c : Dev nD)

/-- The two results are equal. -/
theorem results_equal (h : Cert.Pre_inputs_ok.fn (F := Ideal) (KI.textA m c) (KI.lens m c) (KI.trainA m c) = fun _ => 1#1) :
    KI.result m hL c = Ref.result (KI.textA m c) (KI.lens m c) (KI.trainA m c) := by
  have hle : ∀ b, KI.ln m c b ≤ 510 := Tables.len_le _ (hL c)
  have hn : ∀ b : Fin 8, (KI.lens m c (ix1 b)).toNat = KI.ln m c b.val := fun b => by
    show _ = Tables.len _ _
    unfold Tables.len
    rw [dif_pos b.isLt, ix1_eq_valueIdx]
  choose k hk using Okay.only (KI.textA m c) (KI.lens m c) (KI.trainA m c) h
  let x : ℕ → ℕ → Fin 10000 → ℝ := fun b t v => if hb : b < 8 ∧ t < 512 then (KI.trainA m c (ix3 (⟨b, hb.1⟩ : Fin 8) (⟨t, hb.2⟩ : Fin 512) v)).toReal else 0
  let tg : ℕ → ℕ → Fin 10000 := fun b t =>
    if hb : b < 8 ∧ t < 512 then (if ht : t ≤ (KI.lens m c (ix1 (⟨b, hb.1⟩ : Fin 8))).toNat then k ⟨b, hb.1⟩ ⟨t, hb.2⟩ ht else 0) else 0
  have hx : ∀ (b : Fin 8) (t : Fin 512), t.val ≤ KI.ln m c b.val → ∀ v, KI.trainA m c (ix3 b t v) = (x b.val t.val v : EReal) := fun b t ht v => by
    simp only [x]
    rw [dif_pos ⟨b.isLt, t.isLt⟩]
    exact Okay.real (KI.textA m c) (KI.lens m c) (KI.trainA m c) h b t (by rw [hn]; exact ht) v
  have hT : ∀ (b : Fin 8) (t : Fin 512), t.val ≤ KI.ln m c b.val → Rows.Only (fun v => KI.textA m c (ix3 b (⟨t.val + 1, by have := t.isLt; omega⟩ : Fin 513) v)) (tg b.val t.val) := fun b t ht => by
    have ht' : t.val ≤ (KI.lens m c (ix1 b)).toNat := by rw [hn]; exact ht
    simp only [tg]
    rw [dif_pos ⟨b.isLt, t.isLt⟩, dif_pos ht']
    exact hk b t ht'
  have hN : (∑ b ∈ Finset.range 8, (KI.ln m c b + 1)) < 2 ^ 31 :=
    lt_of_le_of_lt (Finset.sum_le_card_nsmul _ _ 511 fun b _ => by have := hle b; omega) (by rw [Finset.card_range]; decide)
  funext j
  refine (kernel_mean _ _ _ hN (fun j => ?_) j).trans ?_
  · rw [show j = ValueIdx.ix0 from funext fun a => a.elim0]
    exact Tables.cnt_at (KI.lens m c) (hL c)
  · rw [KI.outW_val m c (hL c) x tg hx hT]
    exact (Ref.result_val (KI.textA m c) (KI.lens m c) (KI.trainA m c) (KI.ln m c) hn (fun b => hle _) x hx tg hT j).symm

end Cert.Proof
-- ==== Proof.lean ====
/-
  The proof of the certificate's claim: the frames of the kernel, of its idealization and of the reference, the named
  constants of the idealization, and the equality of the idealized kernel's result with the reference's. The runs are
  `Cert.Proof.K.run_result`, `Cert.Proof.KI.run_result` and `Cert.Proof.Ref.run_result`.
-/
module

public import proofs.«01_k».proof.Defs
public import Idealize.ShloMosaic.Lib.Claim
public import proofs.«01_k».proof.Proof.Ranged
public import proofs.«01_k».proof.Proof.K.Launch
public import proofs.«01_k».proof.Proof.RefRun
public import proofs.«01_k».proof.Proof.Equal
public import Idealize.ShloMosaic.PureOps.IdealRules

@[expose] public section

noncomputable section

namespace Cert.Proof

open Idealize.ShloMosaic Idealize.ShloMosaic.TcCoe Idealize.SL.Sem

/-- The kernel's frame on the bits. -/
theorem frame_K : Cert.quiescent_Kernel (hKernel := Cert.Kernel.Gen.facts) (hPre_lengths_in_range := Ranged.facts) :=
  fun m g hp => θ_run_mono (K.run_result m (fun c => Ranged.lens_le _ _ _ (hp c)) g) fun _ h => ⟨fun c => (h.1 c).2, h.2⟩

/-- The idealized kernel's frame. -/
theorem frame_KI : Cert.quiescent_KernelIdeal (hKernelIdeal := Cert.KernelIdeal.Gen.facts) (hPre_lengths_in_range := Ranged.facts) :=
  fun m g hp => θ_run_mono (KI.run_result m (fun c => Ranged.lens_le _ _ _ (hp c)) g) fun _ h => ⟨fun c => (h.1 c).2, h.2⟩

/-- The precondition keeps every length to at most 510. -/
theorem short (m : (ℓ : Loc Cert.KernelIdeal.nD Cert.KernelIdeal.τ Cert.KernelIdeal.sig) → Buf (Elt Ideal) ℓ)
    (hp : Cert.Pre_KernelIdeal_inputs_ok (hPre_inputs_ok := Okay.facts) m) (c : Dev Cert.KernelIdeal.nD) : KI.Short m c := fun b => by
  have h := Okay.lens_le _ _ _ (hp c) b
  rw [ix1_eq_valueIdx] at h
  exact h

/-- The idealized kernel's frame where the inputs are as the value claim has them. -/
theorem frame_KI_ok : Cert.quiescent_KernelIdeal_pre_inputs_ok (hKernelIdeal := Cert.KernelIdeal.Gen.facts) (hPre_inputs_ok := Okay.facts) :=
  fun m g hp => θ_run_mono (KI.run_result m (short m hp) g) fun _ h => ⟨fun c => (h.1 c).2, h.2⟩

/-- The reference's frame. -/
theorem frame_RI : Cert.quiescent_ReferenceIdeal (hReferenceIdeal := Cert.ReferenceIdeal.Gen.facts) :=
  fun m g _ => θ_run_mono (Ref.run_result m g) fun r h => ⟨fun c => (h c).2, sem_eq_zero_of_no_sems (by decide) r.2⟩

/-- The reference's frame where the inputs are as the value claim has them. -/
theorem frame_RI_ok : Cert.quiescent_ReferenceIdeal_pre_inputs_ok (hReferenceIdeal := Cert.ReferenceIdeal.Gen.facts) (hPre_inputs_ok := Okay.facts) :=
  fun m g _ => frame_RI m g trivial

/-- The named constants stand for the reals the table gives. -/
theorem consts : Cert.preserves_Kernel_KernelIdeal :=
  ⟨IdealRules.named_const.statement Cert.KernelIdeal.κ "smooth" .f32 0x3727C9F8#32 ((1 / 99990 : ℝ) : EReal) rfl,
    IdealRules.named_const.statement Cert.KernelIdeal.κ "confidence_minus_smooth" .f32 0x3F6665BF#32 ((8999 / 9999 : ℝ) : EReal) rfl⟩

/-- From equal arguments as the precondition has them, the idealized kernel and the reference end with equal results. -/
theorem algebraic : Cert.algebraic_KernelIdeal_ReferenceIdeal_pre_inputs_ok (hKernelIdeal := Cert.KernelIdeal.Gen.facts)
    (hReferenceIdeal := Cert.ReferenceIdeal.Gen.facts) (hPre_inputs_ok := Okay.facts) := by
  intro m g m' g' hp ha
  refine ⟨fun c => KI.result m (short m hp) c, θ_run_mono (KI.run_result m (short m hp) g) fun _ h => h.1, θ_run_mono (Ref.run_result m' g') fun _ h c => ⟨?_, (h c).2⟩⟩
  obtain ⟨h0, h1, h2⟩ := ha c
  rw [(h c).1, h0, h1, h2]
  exact (results_equal m (short m hp) c (hp c)).symm

theorem claim : Cert.Claim :=
  ⟨Cert.Kernel.Gen.facts, Cert.KernelIdeal.Gen.facts, Cert.ReferenceIdeal.Gen.facts, Ranged.facts, Okay.facts, frame_K, frame_KI, frame_KI_ok, frame_RI, frame_RI_ok, consts, algebraic⟩

end Cert.Proof
